-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Reference (m : (ℓ : Loc Cert.Reference.nD Cert.Reference.τ Cert.Reference.sig) → Buf (Elt Bits) ℓ) : Prop :=
  True

def Pre_Sink (m : (ℓ : Loc Cert.Sink.nD Cert.Sink.τ Cert.Sink.sig) → Buf (Elt Bits) ℓ) : Prop :=
  True

def Pre_SinkIdeal (m : (ℓ : Loc Cert.SinkIdeal.nD Cert.SinkIdeal.τ Cert.SinkIdeal.sig) → Buf (Elt Ideal) ℓ) : Prop :=
  True

def Pre_SinkIdeal_finite_logits [hPre_finite_logits : Cert.Pre_finite_logits.Facts] (m : (ℓ : Loc Cert.SinkIdeal.nD Cert.SinkIdeal.τ Cert.SinkIdeal.sig) → Buf (Elt Ideal) ℓ) : Prop :=
  ∀ c : Dev Cert.SinkIdeal.nD,
    (Cert.Pre_finite_logits.fn (F := Ideal) (m ((c.tc : Thread Cert.SinkIdeal.nD Cert.SinkIdeal.τ).loc Cert.SinkIdeal.main_arg0)) (m ((c.tc : Thread Cert.SinkIdeal.nD Cert.SinkIdeal.τ).loc Cert.SinkIdeal.main_arg1)) (m ((c.tc : Thread Cert.SinkIdeal.nD Cert.SinkIdeal.τ).loc Cert.SinkIdeal.main_arg2)) (m ((c.tc : Thread Cert.SinkIdeal.nD Cert.SinkIdeal.τ).loc Cert.SinkIdeal.main_arg3)) (m ((c.tc : Thread Cert.SinkIdeal.nD Cert.SinkIdeal.τ).loc Cert.SinkIdeal.main_arg4))) = (fun _ => 1#1)

def Pre_SinkReferenceIdeal (m : (ℓ : Loc Cert.SinkReferenceIdeal.nD Cert.SinkReferenceIdeal.τ Cert.SinkReferenceIdeal.sig) → Buf (Elt Ideal) ℓ) : Prop :=
  True

def Pre_SinkReferenceIdeal_finite_logits [hPre_finite_logits : Cert.Pre_finite_logits.Facts] (m : (ℓ : Loc Cert.SinkReferenceIdeal.nD Cert.SinkReferenceIdeal.τ Cert.SinkReferenceIdeal.sig) → Buf (Elt Ideal) ℓ) : Prop :=
  ∀ c : Dev Cert.SinkReferenceIdeal.nD,
    (Cert.Pre_finite_logits.fn (F := Ideal) (m ((c.tc : Thread Cert.SinkReferenceIdeal.nD Cert.SinkReferenceIdeal.τ).loc Cert.SinkReferenceIdeal.main_arg0)) (m ((c.tc : Thread Cert.SinkReferenceIdeal.nD Cert.SinkReferenceIdeal.τ).loc Cert.SinkReferenceIdeal.main_arg1)) (m ((c.tc : Thread Cert.SinkReferenceIdeal.nD Cert.SinkReferenceIdeal.τ).loc Cert.SinkReferenceIdeal.main_arg2)) (m ((c.tc : Thread Cert.SinkReferenceIdeal.nD Cert.SinkReferenceIdeal.τ).loc Cert.SinkReferenceIdeal.main_arg3)) (m ((c.tc : Thread Cert.SinkReferenceIdeal.nD Cert.SinkReferenceIdeal.τ).loc Cert.SinkReferenceIdeal.main_arg4))) = (fun _ => 1#1)

def Pre_SinkReference (m : (ℓ : Loc Cert.SinkReference.nD Cert.SinkReference.τ Cert.SinkReference.sig) → Buf (Elt Bits) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBReferenceIdeal (m : (ℓ : Loc Cert.InBReferenceIdeal.nD Cert.InBReferenceIdeal.τ Cert.InBReferenceIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCReferenceIdeal (m : (ℓ : Loc Cert.InCReferenceIdeal.nD Cert.InCReferenceIdeal.τ Cert.InCReferenceIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InAReferenceIdeal (m : (ℓ : Loc Cert.InAReferenceIdeal.nD Cert.InAReferenceIdeal.τ Cert.InAReferenceIdeal.sig) → Buf (Elt Ideal) ℓ) : Prop :=
  True

def Pre_FirstA (m : (ℓ : Loc Cert.FirstA.nD Cert.FirstA.τ Cert.FirstA.sig) → Buf (Elt Bits) ℓ) : Prop :=
  True

def Pre_FirstAIdeal (m : (ℓ : Loc Cert.FirstAIdeal.nD Cert.FirstAIdeal.τ Cert.FirstAIdeal.sig) → Buf (Elt Ideal) ℓ) : Prop :=
  True

def Pre_FirstAReferenceIdeal (m : (ℓ : Loc Cert.FirstAReferenceIdeal.nD Cert.FirstAReferenceIdeal.τ Cert.FirstAReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_InBLat (m : (ℓ : Loc Cert.InBLat.nD Cert.InBLat.τ Cert.InBLat.sig) → Buf (Elt Bits) ℓ) : Prop :=
  True

def Pre_InBLatIdeal (m : (ℓ : Loc Cert.InBLatIdeal.nD Cert.InBLatIdeal.τ Cert.InBLatIdeal.sig) → Buf (Elt Ideal) ℓ) : Prop :=
  True

def Pre_InBLatReferenceIdeal (m : (ℓ : Loc Cert.InBLatReferenceIdeal.nD Cert.InBLatReferenceIdeal.τ Cert.InBLatReferenceIdeal.sig) → Buf (Elt Ideal) ℓ) : Prop :=
  True

def Pre_InCLat (m : (ℓ : Loc Cert.InCLat.nD Cert.InCLat.τ Cert.InCLat.sig) → Buf (Elt Bits) ℓ) : Prop :=
  True

def Pre_InCLatIdeal (m : (ℓ : Loc Cert.InCLatIdeal.nD Cert.InCLatIdeal.τ Cert.InCLatIdeal.sig) → Buf (Elt Ideal) ℓ) : Prop :=
  True

def Pre_InCLatReferenceIdeal (m : (ℓ : Loc Cert.InCLatReferenceIdeal.nD Cert.InCLatReferenceIdeal.τ Cert.InCLatReferenceIdeal.sig) → Buf (Elt Ideal) ℓ) : Prop :=
  True

def Pre_FirstALat (m : (ℓ : Loc Cert.FirstALat.nD Cert.FirstALat.τ Cert.FirstALat.sig) → Buf (Elt Bits) ℓ) : Prop :=
  True

def Pre_FirstALatIdeal (m : (ℓ : Loc Cert.FirstALatIdeal.nD Cert.FirstALatIdeal.τ Cert.FirstALatIdeal.sig) → Buf (Elt Ideal) ℓ) : Prop :=
  True

def Pre_FirstALatReferenceIdeal (m : (ℓ : Loc Cert.FirstALatReferenceIdeal.nD Cert.FirstALatReferenceIdeal.τ Cert.FirstALatReferenceIdeal.sig) → Buf (Elt Ideal) ℓ) : Prop :=
  True

def Pre_InALat (m : (ℓ : Loc Cert.InALat.nD Cert.InALat.τ Cert.InALat.sig) → Buf (Elt Bits) ℓ) : Prop :=
  True

def Pre_InALatIdeal (m : (ℓ : Loc Cert.InALatIdeal.nD Cert.InALatIdeal.τ Cert.InALatIdeal.sig) → Buf (Elt Ideal) ℓ) : Prop :=
  True

def Pre_InALatReferenceIdeal (m : (ℓ : Loc Cert.InALatReferenceIdeal.nD Cert.InALatReferenceIdeal.τ Cert.InALatReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_Sink [hSink : Cert.Sink.Facts] : Prop :=
  ∀ (m : (ℓ : Loc Cert.Sink.nD Cert.Sink.τ Cert.Sink.sig) → Buf (Elt Bits) ℓ) (g : Dev Cert.Sink.nD → PrngReg), Pre_Sink m →
    θ_run (Cert.Sink.defs (F := Bits)) (onTc (τ := Cert.Sink.τ) (Cert.Sink.main (F := Bits))) ⟨m, fun _ => 0, g⟩ (fun r => (∀ c : Dev Cert.Sink.nD,
      r.2.mem ((c.tc : Thread Cert.Sink.nD Cert.Sink.τ).loc Cert.Sink.main_arg0) = m ((c.tc : Thread Cert.Sink.nD Cert.Sink.τ).loc Cert.Sink.main_arg0)
      ∧ r.2.mem ((c.tc : Thread Cert.Sink.nD Cert.Sink.τ).loc Cert.Sink.main_arg1) = m ((c.tc : Thread Cert.Sink.nD Cert.Sink.τ).loc Cert.Sink.main_arg1)
      ∧ r.2.mem ((c.tc : Thread Cert.Sink.nD Cert.Sink.τ).loc Cert.Sink.main_arg2) = m ((c.tc : Thread Cert.Sink.nD Cert.Sink.τ).loc Cert.Sink.main_arg2)
      ∧ r.2.mem ((c.tc : Thread Cert.Sink.nD Cert.Sink.τ).loc Cert.Sink.main_arg3) = m ((c.tc : Thread Cert.Sink.nD Cert.Sink.τ).loc Cert.Sink.main_arg3)
      ∧ r.2.mem ((c.tc : Thread Cert.Sink.nD Cert.Sink.τ).loc Cert.Sink.main_arg4) = m ((c.tc : Thread Cert.Sink.nD Cert.Sink.τ).loc Cert.Sink.main_arg4))
      ∧ r.2.sem = fun _ => 0)

def quiescent_SinkIdeal [hSinkIdeal : Cert.SinkIdeal.Facts] : Prop :=
  ∀ (m : (ℓ : Loc Cert.SinkIdeal.nD Cert.SinkIdeal.τ Cert.SinkIdeal.sig) → Buf (Elt Ideal) ℓ) (g : Dev Cert.SinkIdeal.nD → PrngReg), Pre_SinkIdeal m →
    θ_run (Cert.SinkIdeal.defs (F := Ideal)) (onTc (τ := Cert.SinkIdeal.τ) (Cert.SinkIdeal.main (F := Ideal))) ⟨m, fun _ => 0, g⟩ (fun r => (∀ c : Dev Cert.SinkIdeal.nD,
      r.2.mem ((c.tc : Thread Cert.SinkIdeal.nD Cert.SinkIdeal.τ).loc Cert.SinkIdeal.main_arg0) = m ((c.tc : Thread Cert.SinkIdeal.nD Cert.SinkIdeal.τ).loc Cert.SinkIdeal.main_arg0)
      ∧ r.2.mem ((c.tc : Thread Cert.SinkIdeal.nD Cert.SinkIdeal.τ).loc Cert.SinkIdeal.main_arg1) = m ((c.tc : Thread Cert.SinkIdeal.nD Cert.SinkIdeal.τ).loc Cert.SinkIdeal.main_arg1)
      ∧ r.2.mem ((c.tc : Thread Cert.SinkIdeal.nD Cert.SinkIdeal.τ).loc Cert.SinkIdeal.main_arg2) = m ((c.tc : Thread Cert.SinkIdeal.nD Cert.SinkIdeal.τ).loc Cert.SinkIdeal.main_arg2)
      ∧ r.2.mem ((c.tc : Thread Cert.SinkIdeal.nD Cert.SinkIdeal.τ).loc Cert.SinkIdeal.main_arg3) = m ((c.tc : Thread Cert.SinkIdeal.nD Cert.SinkIdeal.τ).loc Cert.SinkIdeal.main_arg3)
      ∧ r.2.mem ((c.tc : Thread Cert.SinkIdeal.nD Cert.SinkIdeal.τ).loc Cert.SinkIdeal.main_arg4) = m ((c.tc : Thread Cert.SinkIdeal.nD Cert.SinkIdeal.τ).loc Cert.SinkIdeal.main_arg4))
      ∧ r.2.sem = fun _ => 0)

def quiescent_SinkIdeal_pre_finite_logits [hSinkIdeal : Cert.SinkIdeal.Facts] [hPre_finite_logits : Cert.Pre_finite_logits.Facts] : Prop :=
  ∀ (m : (ℓ : Loc Cert.SinkIdeal.nD Cert.SinkIdeal.τ Cert.SinkIdeal.sig) → Buf (Elt Ideal) ℓ) (g : Dev Cert.SinkIdeal.nD → PrngReg), Pre_SinkIdeal_finite_logits m →
    θ_run (Cert.SinkIdeal.defs (F := Ideal)) (onTc (τ := Cert.SinkIdeal.τ) (Cert.SinkIdeal.main (F := Ideal))) ⟨m, fun _ => 0, g⟩ (fun r => (∀ c : Dev Cert.SinkIdeal.nD,
      r.2.mem ((c.tc : Thread Cert.SinkIdeal.nD Cert.SinkIdeal.τ).loc Cert.SinkIdeal.main_arg0) = m ((c.tc : Thread Cert.SinkIdeal.nD Cert.SinkIdeal.τ).loc Cert.SinkIdeal.main_arg0)
      ∧ r.2.mem ((c.tc : Thread Cert.SinkIdeal.nD Cert.SinkIdeal.τ).loc Cert.SinkIdeal.main_arg1) = m ((c.tc : Thread Cert.SinkIdeal.nD Cert.SinkIdeal.τ).loc Cert.SinkIdeal.main_arg1)
      ∧ r.2.mem ((c.tc : Thread Cert.SinkIdeal.nD Cert.SinkIdeal.τ).loc Cert.SinkIdeal.main_arg2) = m ((c.tc : Thread Cert.SinkIdeal.nD Cert.SinkIdeal.τ).loc Cert.SinkIdeal.main_arg2)
      ∧ r.2.mem ((c.tc : Thread Cert.SinkIdeal.nD Cert.SinkIdeal.τ).loc Cert.SinkIdeal.main_arg3) = m ((c.tc : Thread Cert.SinkIdeal.nD Cert.SinkIdeal.τ).loc Cert.SinkIdeal.main_arg3)
      ∧ r.2.mem ((c.tc : Thread Cert.SinkIdeal.nD Cert.SinkIdeal.τ).loc Cert.SinkIdeal.main_arg4) = m ((c.tc : Thread Cert.SinkIdeal.nD Cert.SinkIdeal.τ).loc Cert.SinkIdeal.main_arg4))
      ∧ r.2.sem = fun _ => 0)

def quiescent_SinkReferenceIdeal [hSinkReferenceIdeal : Cert.SinkReferenceIdeal.Facts] : Prop :=
  ∀ (m : (ℓ : Loc Cert.SinkReferenceIdeal.nD Cert.SinkReferenceIdeal.τ Cert.SinkReferenceIdeal.sig) → Buf (Elt Ideal) ℓ) (g : Dev Cert.SinkReferenceIdeal.nD → PrngReg), Pre_SinkReferenceIdeal m →
    θ_run (Cert.SinkReferenceIdeal.defs (F := Ideal)) (onTc (τ := Cert.SinkReferenceIdeal.τ) (Cert.SinkReferenceIdeal.main (F := Ideal))) ⟨m, fun _ => 0, g⟩ (fun r => (∀ c : Dev Cert.SinkReferenceIdeal.nD,
      r.2.mem ((c.tc : Thread Cert.SinkReferenceIdeal.nD Cert.SinkReferenceIdeal.τ).loc Cert.SinkReferenceIdeal.main_arg0) = m ((c.tc : Thread Cert.SinkReferenceIdeal.nD Cert.SinkReferenceIdeal.τ).loc Cert.SinkReferenceIdeal.main_arg0)
      ∧ r.2.mem ((c.tc : Thread Cert.SinkReferenceIdeal.nD Cert.SinkReferenceIdeal.τ).loc Cert.SinkReferenceIdeal.main_arg1) = m ((c.tc : Thread Cert.SinkReferenceIdeal.nD Cert.SinkReferenceIdeal.τ).loc Cert.SinkReferenceIdeal.main_arg1)
      ∧ r.2.mem ((c.tc : Thread Cert.SinkReferenceIdeal.nD Cert.SinkReferenceIdeal.τ).loc Cert.SinkReferenceIdeal.main_arg2) = m ((c.tc : Thread Cert.SinkReferenceIdeal.nD Cert.SinkReferenceIdeal.τ).loc Cert.SinkReferenceIdeal.main_arg2)
      ∧ r.2.mem ((c.tc : Thread Cert.SinkReferenceIdeal.nD Cert.SinkReferenceIdeal.τ).loc Cert.SinkReferenceIdeal.main_arg3) = m ((c.tc : Thread Cert.SinkReferenceIdeal.nD Cert.SinkReferenceIdeal.τ).loc Cert.SinkReferenceIdeal.main_arg3)
      ∧ r.2.mem ((c.tc : Thread Cert.SinkReferenceIdeal.nD Cert.SinkReferenceIdeal.τ).loc Cert.SinkReferenceIdeal.main_arg4) = m ((c.tc : Thread Cert.SinkReferenceIdeal.nD Cert.SinkReferenceIdeal.τ).loc Cert.SinkReferenceIdeal.main_arg4))
      ∧ r.2.sem = fun _ => 0)

def quiescent_SinkReferenceIdeal_pre_finite_logits [hSinkReferenceIdeal : Cert.SinkReferenceIdeal.Facts] [hPre_finite_logits : Cert.Pre_finite_logits.Facts] : Prop :=
  ∀ (m : (ℓ : Loc Cert.SinkReferenceIdeal.nD Cert.SinkReferenceIdeal.τ Cert.SinkReferenceIdeal.sig) → Buf (Elt Ideal) ℓ) (g : Dev Cert.SinkReferenceIdeal.nD → PrngReg), Pre_SinkReferenceIdeal_finite_logits m →
    θ_run (Cert.SinkReferenceIdeal.defs (F := Ideal)) (onTc (τ := Cert.SinkReferenceIdeal.τ) (Cert.SinkReferenceIdeal.main (F := Ideal))) ⟨m, fun _ => 0, g⟩ (fun r => (∀ c : Dev Cert.SinkReferenceIdeal.nD,
      r.2.mem ((c.tc : Thread Cert.SinkReferenceIdeal.nD Cert.SinkReferenceIdeal.τ).loc Cert.SinkReferenceIdeal.main_arg0) = m ((c.tc : Thread Cert.SinkReferenceIdeal.nD Cert.SinkReferenceIdeal.τ).loc Cert.SinkReferenceIdeal.main_arg0)
      ∧ r.2.mem ((c.tc : Thread Cert.SinkReferenceIdeal.nD Cert.SinkReferenceIdeal.τ).loc Cert.SinkReferenceIdeal.main_arg1) = m ((c.tc : Thread Cert.SinkReferenceIdeal.nD Cert.SinkReferenceIdeal.τ).loc Cert.SinkReferenceIdeal.main_arg1)
      ∧ r.2.mem ((c.tc : Thread Cert.SinkReferenceIdeal.nD Cert.SinkReferenceIdeal.τ).loc Cert.SinkReferenceIdeal.main_arg2) = m ((c.tc : Thread Cert.SinkReferenceIdeal.nD Cert.SinkReferenceIdeal.τ).loc Cert.SinkReferenceIdeal.main_arg2)
      ∧ r.2.mem ((c.tc : Thread Cert.SinkReferenceIdeal.nD Cert.SinkReferenceIdeal.τ).loc Cert.SinkReferenceIdeal.main_arg3) = m ((c.tc : Thread Cert.SinkReferenceIdeal.nD Cert.SinkReferenceIdeal.τ).loc Cert.SinkReferenceIdeal.main_arg3)
      ∧ r.2.mem ((c.tc : Thread Cert.SinkReferenceIdeal.nD Cert.SinkReferenceIdeal.τ).loc Cert.SinkReferenceIdeal.main_arg4) = m ((c.tc : Thread Cert.SinkReferenceIdeal.nD Cert.SinkReferenceIdeal.τ).loc Cert.SinkReferenceIdeal.main_arg4))
      ∧ r.2.sem = fun _ => 0)

def quiescent_SinkReference [hSinkReference : Cert.SinkReference.Facts] : Prop :=
  ∀ (m : (ℓ : Loc Cert.SinkReference.nD Cert.SinkReference.τ Cert.SinkReference.sig) → Buf (Elt Bits) ℓ) (g : Dev Cert.SinkReference.nD → PrngReg), Pre_SinkReference m →
    θ_run (Cert.SinkReference.defs (F := Bits)) (onTc (τ := Cert.SinkReference.τ) (Cert.SinkReference.main (F := Bits))) ⟨m, fun _ => 0, g⟩ (fun r => (∀ c : Dev Cert.SinkReference.nD,
      r.2.mem ((c.tc : Thread Cert.SinkReference.nD Cert.SinkReference.τ).loc Cert.SinkReference.main_arg0) = m ((c.tc : Thread Cert.SinkReference.nD Cert.SinkReference.τ).loc Cert.SinkReference.main_arg0)
      ∧ r.2.mem ((c.tc : Thread Cert.SinkReference.nD Cert.SinkReference.τ).loc Cert.SinkReference.main_arg1) = m ((c.tc : Thread Cert.SinkReference.nD Cert.SinkReference.τ).loc Cert.SinkReference.main_arg1)
      ∧ r.2.mem ((c.tc : Thread Cert.SinkReference.nD Cert.SinkReference.τ).loc Cert.SinkReference.main_arg2) = m ((c.tc : Thread Cert.SinkReference.nD Cert.SinkReference.τ).loc Cert.SinkReference.main_arg2)
      ∧ r.2.mem ((c.tc : Thread Cert.SinkReference.nD Cert.SinkReference.τ).loc Cert.SinkReference.main_arg3) = m ((c.tc : Thread Cert.SinkReference.nD Cert.SinkReference.τ).loc Cert.SinkReference.main_arg3)
      ∧ r.2.mem ((c.tc : Thread Cert.SinkReference.nD Cert.SinkReference.τ).loc Cert.SinkReference.main_arg4) = m ((c.tc : Thread Cert.SinkReference.nD Cert.SinkReference.τ).loc Cert.SinkReference.main_arg4))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4)
      ∧ r.2.mem ((c.tc : Thread Cert.InB.nD Cert.InB.τ).loc Cert.InB.main_arg5) = m ((c.tc : Thread Cert.InB.nD Cert.InB.τ).loc Cert.InB.main_arg5)
      ∧ r.2.mem ((c.tc : Thread Cert.InB.nD Cert.InB.τ).loc Cert.InB.main_arg6) = m ((c.tc : Thread Cert.InB.nD Cert.InB.τ).loc Cert.InB.main_arg6))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
      ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
      ∧ r.2.mem ((c.tc : Thread Cert.InBIdeal.nD Cert.InBIdeal.τ).loc Cert.InBIdeal.main_arg6) = m ((c.tc : Thread Cert.InBIdeal.nD Cert.InBIdeal.τ).loc Cert.InBIdeal.main_arg6))
      ∧ r.2.sem = fun _ => 0)

def quiescent_InBReferenceIdeal [hInBReferenceIdeal : Cert.InBReferenceIdeal.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1)
      ∧ r.2.mem ((c.tc : Thread Cert.InBReferenceIdeal.nD Cert.InBReferenceIdeal.τ).loc Cert.InBReferenceIdeal.main_arg2) = m ((c.tc : Thread Cert.InBReferenceIdeal.nD Cert.InBReferenceIdeal.τ).loc Cert.InBReferenceIdeal.main_arg2)
      ∧ r.2.mem ((c.tc : Thread Cert.InBReferenceIdeal.nD Cert.InBReferenceIdeal.τ).loc Cert.InBReferenceIdeal.main_arg3) = m ((c.tc : Thread Cert.InBReferenceIdeal.nD Cert.InBReferenceIdeal.τ).loc Cert.InBReferenceIdeal.main_arg3)
      ∧ r.2.mem ((c.tc : Thread Cert.InBReferenceIdeal.nD Cert.InBReferenceIdeal.τ).loc Cert.InBReferenceIdeal.main_arg4) = m ((c.tc : Thread Cert.InBReferenceIdeal.nD Cert.InBReferenceIdeal.τ).loc Cert.InBReferenceIdeal.main_arg4)
      ∧ r.2.mem ((c.tc : Thread Cert.InBReferenceIdeal.nD Cert.InBReferenceIdeal.τ).loc Cert.InBReferenceIdeal.main_arg5) = m ((c.tc : Thread Cert.InBReferenceIdeal.nD Cert.InBReferenceIdeal.τ).loc Cert.InBReferenceIdeal.main_arg5)
      ∧ r.2.mem ((c.tc : Thread Cert.InBReferenceIdeal.nD Cert.InBReferenceIdeal.τ).loc Cert.InBReferenceIdeal.main_arg6) = m ((c.tc : Thread Cert.InBReferenceIdeal.nD Cert.InBReferenceIdeal.τ).loc Cert.InBReferenceIdeal.main_arg6))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2)
      ∧ r.2.mem ((c.tc : Thread Cert.InC.nD Cert.InC.τ).loc Cert.InC.main_arg3) = m ((c.tc : Thread Cert.InC.nD Cert.InC.τ).loc Cert.InC.main_arg3)
      ∧ r.2.mem ((c.tc : Thread Cert.InC.nD Cert.InC.τ).loc Cert.InC.main_arg4) = m ((c.tc : Thread Cert.InC.nD Cert.InC.τ).loc Cert.InC.main_arg4)
      ∧ r.2.mem ((c.tc : Thread Cert.InC.nD Cert.InC.τ).loc Cert.InC.main_arg5) = m ((c.tc : Thread Cert.InC.nD Cert.InC.τ).loc Cert.InC.main_arg5)
      ∧ r.2.mem ((c.tc : Thread Cert.InC.nD Cert.InC.τ).loc Cert.InC.main_arg6) = m ((c.tc : Thread Cert.InC.nD Cert.InC.τ).loc Cert.InC.main_arg6)
      ∧ r.2.mem ((c.tc : Thread Cert.InC.nD Cert.InC.τ).loc Cert.InC.main_arg7) = m ((c.tc : Thread Cert.InC.nD Cert.InC.τ).loc Cert.InC.main_arg7)
      ∧ r.2.mem ((c.tc : Thread Cert.InC.nD Cert.InC.τ).loc Cert.InC.main_arg8) = m ((c.tc : Thread Cert.InC.nD Cert.InC.τ).loc Cert.InC.main_arg8)
      ∧ r.2.mem ((c.tc : Thread Cert.InC.nD Cert.InC.τ).loc Cert.InC.main_arg9) = m ((c.tc : Thread Cert.InC.nD Cert.InC.τ).loc Cert.InC.main_arg9))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
      ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
      ∧ r.2.mem ((c.tc : Thread Cert.InCIdeal.nD Cert.InCIdeal.τ).loc Cert.InCIdeal.main_arg4) = m ((c.tc : Thread Cert.InCIdeal.nD Cert.InCIdeal.τ).loc Cert.InCIdeal.main_arg4)
      ∧ r.2.mem ((c.tc : Thread Cert.InCIdeal.nD Cert.InCIdeal.τ).loc Cert.InCIdeal.main_arg5) = m ((c.tc : Thread Cert.InCIdeal.nD Cert.InCIdeal.τ).loc Cert.InCIdeal.main_arg5)
      ∧ r.2.mem ((c.tc : Thread Cert.InCIdeal.nD Cert.InCIdeal.τ).loc Cert.InCIdeal.main_arg6) = m ((c.tc : Thread Cert.InCIdeal.nD Cert.InCIdeal.τ).loc Cert.InCIdeal.main_arg6)
      ∧ r.2.mem ((c.tc : Thread Cert.InCIdeal.nD Cert.InCIdeal.τ).loc Cert.InCIdeal.main_arg7) = m ((c.tc : Thread Cert.InCIdeal.nD Cert.InCIdeal.τ).loc Cert.InCIdeal.main_arg7)
      ∧ r.2.mem ((c.tc : Thread Cert.InCIdeal.nD Cert.InCIdeal.τ).loc Cert.InCIdeal.main_arg8) = m ((c.tc : Thread Cert.InCIdeal.nD Cert.InCIdeal.τ).loc Cert.InCIdeal.main_arg8)
      ∧ r.2.mem ((c.tc : Thread Cert.InCIdeal.nD Cert.InCIdeal.τ).loc Cert.InCIdeal.main_arg9) = m ((c.tc : Thread Cert.InCIdeal.nD Cert.InCIdeal.τ).loc Cert.InCIdeal.main_arg9))
      ∧ r.2.sem = fun _ => 0)

def quiescent_InCReferenceIdeal [hInCReferenceIdeal : Cert.InCReferenceIdeal.Facts] : Prop :=
  ∀ (m : (ℓ : Loc Cert.InCReferenceIdeal.nD Cert.InCReferenceIdeal.τ Cert.InCReferenceIdeal.sig) → Buf (Elt Ideal) ℓ) (g : Dev Cert.InCReferenceIdeal.nD → PrngReg), Pre_InCReferenceIdeal m →
    θ_run (Cert.InCReferenceIdeal.defs (F := Ideal)) (onTc (τ := Cert.InCReferenceIdeal.τ) (Cert.InCReferenceIdeal.main (F := Ideal))) ⟨m, fun _ => 0, g⟩ (fun r => (∀ c : Dev Cert.InCReferenceIdeal.nD,
      r.2.mem ((c.tc : Thread Cert.InCReferenceIdeal.nD Cert.InCReferenceIdeal.τ).loc Cert.InCReferenceIdeal.main_arg0) = m ((c.tc : Thread Cert.InCReferenceIdeal.nD Cert.InCReferenceIdeal.τ).loc Cert.InCReferenceIdeal.main_arg0)
      ∧ r.2.mem ((c.tc : Thread Cert.InCReferenceIdeal.nD Cert.InCReferenceIdeal.τ).loc Cert.InCReferenceIdeal.main_arg1) = m ((c.tc : Thread Cert.InCReferenceIdeal.nD Cert.InCReferenceIdeal.τ).loc Cert.InCReferenceIdeal.main_arg1)
      ∧ r.2.mem ((c.tc : Thread Cert.InCReferenceIdeal.nD Cert.InCReferenceIdeal.τ).loc Cert.InCReferenceIdeal.main_arg2) = m ((c.tc : Thread Cert.InCReferenceIdeal.nD Cert.InCReferenceIdeal.τ).loc Cert.InCReferenceIdeal.main_arg2)
      ∧ r.2.mem ((c.tc : Thread Cert.InCReferenceIdeal.nD Cert.InCReferenceIdeal.τ).loc Cert.InCReferenceIdeal.main_arg3) = m ((c.tc : Thread Cert.InCReferenceIdeal.nD Cert.InCReferenceIdeal.τ).loc Cert.InCReferenceIdeal.main_arg3)
      ∧ r.2.mem ((c.tc : Thread Cert.InCReferenceIdeal.nD Cert.InCReferenceIdeal.τ).loc Cert.InCReferenceIdeal.main_arg4) = m ((c.tc : Thread Cert.InCReferenceIdeal.nD Cert.InCReferenceIdeal.τ).loc Cert.InCReferenceIdeal.main_arg4)
      ∧ r.2.mem ((c.tc : Thread Cert.InCReferenceIdeal.nD Cert.InCReferenceIdeal.τ).loc Cert.InCReferenceIdeal.main_arg5) = m ((c.tc : Thread Cert.InCReferenceIdeal.nD Cert.InCReferenceIdeal.τ).loc Cert.InCReferenceIdeal.main_arg5)
      ∧ r.2.mem ((c.tc : Thread Cert.InCReferenceIdeal.nD Cert.InCReferenceIdeal.τ).loc Cert.InCReferenceIdeal.main_arg6) = m ((c.tc : Thread Cert.InCReferenceIdeal.nD Cert.InCReferenceIdeal.τ).loc Cert.InCReferenceIdeal.main_arg6)
      ∧ r.2.mem ((c.tc : Thread Cert.InCReferenceIdeal.nD Cert.InCReferenceIdeal.τ).loc Cert.InCReferenceIdeal.main_arg7) = m ((c.tc : Thread Cert.InCReferenceIdeal.nD Cert.InCReferenceIdeal.τ).loc Cert.InCReferenceIdeal.main_arg7)
      ∧ r.2.mem ((c.tc : Thread Cert.InCReferenceIdeal.nD Cert.InCReferenceIdeal.τ).loc Cert.InCReferenceIdeal.main_arg8) = m ((c.tc : Thread Cert.InCReferenceIdeal.nD Cert.InCReferenceIdeal.τ).loc Cert.InCReferenceIdeal.main_arg8)
      ∧ r.2.mem ((c.tc : Thread Cert.InCReferenceIdeal.nD Cert.InCReferenceIdeal.τ).loc Cert.InCReferenceIdeal.main_arg9) = m ((c.tc : Thread Cert.InCReferenceIdeal.nD Cert.InCReferenceIdeal.τ).loc Cert.InCReferenceIdeal.main_arg9))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4)
      ∧ r.2.mem ((c.tc : Thread Cert.InA.nD Cert.InA.τ).loc Cert.InA.main_arg5) = m ((c.tc : Thread Cert.InA.nD Cert.InA.τ).loc Cert.InA.main_arg5)
      ∧ r.2.mem ((c.tc : Thread Cert.InA.nD Cert.InA.τ).loc Cert.InA.main_arg6) = m ((c.tc : Thread Cert.InA.nD Cert.InA.τ).loc Cert.InA.main_arg6))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
      ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
      ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ r.2.sem = fun _ => 0)

def quiescent_InAReferenceIdeal [hInAReferenceIdeal : Cert.InAReferenceIdeal.Facts] : Prop :=
  ∀ (m : (ℓ : Loc Cert.InAReferenceIdeal.nD Cert.InAReferenceIdeal.τ Cert.InAReferenceIdeal.sig) → Buf (Elt Ideal) ℓ) (g : Dev Cert.InAReferenceIdeal.nD → PrngReg), Pre_InAReferenceIdeal m →
    θ_run (Cert.InAReferenceIdeal.defs (F := Ideal)) (onTc (τ := Cert.InAReferenceIdeal.τ) (Cert.InAReferenceIdeal.main (F := Ideal))) ⟨m, fun _ => 0, g⟩ (fun r => (∀ c : Dev Cert.InAReferenceIdeal.nD,
      r.2.mem ((c.tc : Thread Cert.InAReferenceIdeal.nD Cert.InAReferenceIdeal.τ).loc Cert.InAReferenceIdeal.main_arg0) = m ((c.tc : Thread Cert.InAReferenceIdeal.nD Cert.InAReferenceIdeal.τ).loc Cert.InAReferenceIdeal.main_arg0)
      ∧ r.2.mem ((c.tc : Thread Cert.InAReferenceIdeal.nD Cert.InAReferenceIdeal.τ).loc Cert.InAReferenceIdeal.main_arg1) = m ((c.tc : Thread Cert.InAReferenceIdeal.nD Cert.InAReferenceIdeal.τ).loc Cert.InAReferenceIdeal.main_arg1)
      ∧ r.2.mem ((c.tc : Thread Cert.InAReferenceIdeal.nD Cert.InAReferenceIdeal.τ).loc Cert.InAReferenceIdeal.main_arg2) = m ((c.tc : Thread Cert.InAReferenceIdeal.nD Cert.InAReferenceIdeal.τ).loc Cert.InAReferenceIdeal.main_arg2)
      ∧ r.2.mem ((c.tc : Thread Cert.InAReferenceIdeal.nD Cert.InAReferenceIdeal.τ).loc Cert.InAReferenceIdeal.main_arg3) = m ((c.tc : Thread Cert.InAReferenceIdeal.nD Cert.InAReferenceIdeal.τ).loc Cert.InAReferenceIdeal.main_arg3)
      ∧ r.2.mem ((c.tc : Thread Cert.InAReferenceIdeal.nD Cert.InAReferenceIdeal.τ).loc Cert.InAReferenceIdeal.main_arg4) = m ((c.tc : Thread Cert.InAReferenceIdeal.nD Cert.InAReferenceIdeal.τ).loc Cert.InAReferenceIdeal.main_arg4)
      ∧ r.2.mem ((c.tc : Thread Cert.InAReferenceIdeal.nD Cert.InAReferenceIdeal.τ).loc Cert.InAReferenceIdeal.main_arg5) = m ((c.tc : Thread Cert.InAReferenceIdeal.nD Cert.InAReferenceIdeal.τ).loc Cert.InAReferenceIdeal.main_arg5)
      ∧ r.2.mem ((c.tc : Thread Cert.InAReferenceIdeal.nD Cert.InAReferenceIdeal.τ).loc Cert.InAReferenceIdeal.main_arg6) = m ((c.tc : Thread Cert.InAReferenceIdeal.nD Cert.InAReferenceIdeal.τ).loc Cert.InAReferenceIdeal.main_arg6))
      ∧ r.2.sem = fun _ => 0)

def quiescent_FirstA [hFirstA : Cert.FirstA.Facts] : Prop :=
  ∀ (m : (ℓ : Loc Cert.FirstA.nD Cert.FirstA.τ Cert.FirstA.sig) → Buf (Elt Bits) ℓ) (g : Dev Cert.FirstA.nD → PrngReg), Pre_FirstA m →
    θ_run (Cert.FirstA.defs (F := Bits)) (onTc (τ := Cert.FirstA.τ) (Cert.FirstA.main (F := Bits))) ⟨m, fun _ => 0, g⟩ (fun r => (∀ c : Dev Cert.FirstA.nD,
      r.2.mem ((c.tc : Thread Cert.FirstA.nD Cert.FirstA.τ).loc Cert.FirstA.main_arg0) = m ((c.tc : Thread Cert.FirstA.nD Cert.FirstA.τ).loc Cert.FirstA.main_arg0)
      ∧ r.2.mem ((c.tc : Thread Cert.FirstA.nD Cert.FirstA.τ).loc Cert.FirstA.main_arg1) = m ((c.tc : Thread Cert.FirstA.nD Cert.FirstA.τ).loc Cert.FirstA.main_arg1)
      ∧ r.2.mem ((c.tc : Thread Cert.FirstA.nD Cert.FirstA.τ).loc Cert.FirstA.main_arg2) = m ((c.tc : Thread Cert.FirstA.nD Cert.FirstA.τ).loc Cert.FirstA.main_arg2)
      ∧ r.2.mem ((c.tc : Thread Cert.FirstA.nD Cert.FirstA.τ).loc Cert.FirstA.main_arg3) = m ((c.tc : Thread Cert.FirstA.nD Cert.FirstA.τ).loc Cert.FirstA.main_arg3))
      ∧ r.2.sem = fun _ => 0)

def quiescent_FirstAIdeal [hFirstAIdeal : Cert.FirstAIdeal.Facts] : Prop :=
  ∀ (m : (ℓ : Loc Cert.FirstAIdeal.nD Cert.FirstAIdeal.τ Cert.FirstAIdeal.sig) → Buf (Elt Ideal) ℓ) (g : Dev Cert.FirstAIdeal.nD → PrngReg), Pre_FirstAIdeal m →
    θ_run (Cert.FirstAIdeal.defs (F := Ideal)) (onTc (τ := Cert.FirstAIdeal.τ) (Cert.FirstAIdeal.main (F := Ideal))) ⟨m, fun _ => 0, g⟩ (fun r => (∀ c : Dev Cert.FirstAIdeal.nD,
      r.2.mem ((c.tc : Thread Cert.FirstAIdeal.nD Cert.FirstAIdeal.τ).loc Cert.FirstAIdeal.main_arg0) = m ((c.tc : Thread Cert.FirstAIdeal.nD Cert.FirstAIdeal.τ).loc Cert.FirstAIdeal.main_arg0)
      ∧ r.2.mem ((c.tc : Thread Cert.FirstAIdeal.nD Cert.FirstAIdeal.τ).loc Cert.FirstAIdeal.main_arg1) = m ((c.tc : Thread Cert.FirstAIdeal.nD Cert.FirstAIdeal.τ).loc Cert.FirstAIdeal.main_arg1)
      ∧ r.2.mem ((c.tc : Thread Cert.FirstAIdeal.nD Cert.FirstAIdeal.τ).loc Cert.FirstAIdeal.main_arg2) = m ((c.tc : Thread Cert.FirstAIdeal.nD Cert.FirstAIdeal.τ).loc Cert.FirstAIdeal.main_arg2)
      ∧ r.2.mem ((c.tc : Thread Cert.FirstAIdeal.nD Cert.FirstAIdeal.τ).loc Cert.FirstAIdeal.main_arg3) = m ((c.tc : Thread Cert.FirstAIdeal.nD Cert.FirstAIdeal.τ).loc Cert.FirstAIdeal.main_arg3))
      ∧ r.2.sem = fun _ => 0)

def quiescent_FirstAReferenceIdeal [hFirstAReferenceIdeal : Cert.FirstAReferenceIdeal.Facts] : Prop :=
  ∀ (m : (ℓ : Loc Cert.FirstAReferenceIdeal.nD Cert.FirstAReferenceIdeal.τ Cert.FirstAReferenceIdeal.sig) → Buf (Elt Ideal) ℓ) (g : Dev Cert.FirstAReferenceIdeal.nD → PrngReg), Pre_FirstAReferenceIdeal m →
    θ_run (Cert.FirstAReferenceIdeal.defs (F := Ideal)) (onTc (τ := Cert.FirstAReferenceIdeal.τ) (Cert.FirstAReferenceIdeal.main (F := Ideal))) ⟨m, fun _ => 0, g⟩ (fun r => (∀ c : Dev Cert.FirstAReferenceIdeal.nD,
      r.2.mem ((c.tc : Thread Cert.FirstAReferenceIdeal.nD Cert.FirstAReferenceIdeal.τ).loc Cert.FirstAReferenceIdeal.main_arg0) = m ((c.tc : Thread Cert.FirstAReferenceIdeal.nD Cert.FirstAReferenceIdeal.τ).loc Cert.FirstAReferenceIdeal.main_arg0)
      ∧ r.2.mem ((c.tc : Thread Cert.FirstAReferenceIdeal.nD Cert.FirstAReferenceIdeal.τ).loc Cert.FirstAReferenceIdeal.main_arg1) = m ((c.tc : Thread Cert.FirstAReferenceIdeal.nD Cert.FirstAReferenceIdeal.τ).loc Cert.FirstAReferenceIdeal.main_arg1)
      ∧ r.2.mem ((c.tc : Thread Cert.FirstAReferenceIdeal.nD Cert.FirstAReferenceIdeal.τ).loc Cert.FirstAReferenceIdeal.main_arg2) = m ((c.tc : Thread Cert.FirstAReferenceIdeal.nD Cert.FirstAReferenceIdeal.τ).loc Cert.FirstAReferenceIdeal.main_arg2)
      ∧ r.2.mem ((c.tc : Thread Cert.FirstAReferenceIdeal.nD Cert.FirstAReferenceIdeal.τ).loc Cert.FirstAReferenceIdeal.main_arg3) = m ((c.tc : Thread Cert.FirstAReferenceIdeal.nD Cert.FirstAReferenceIdeal.τ).loc Cert.FirstAReferenceIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5)
      ∧ r.2.mem ((c.tc : Thread Cert.Mod.nD Cert.Mod.τ).loc Cert.Mod.main_arg6) = m ((c.tc : Thread Cert.Mod.nD Cert.Mod.τ).loc Cert.Mod.main_arg6)
      ∧ r.2.mem ((c.tc : Thread Cert.Mod.nD Cert.Mod.τ).loc Cert.Mod.main_arg7) = m ((c.tc : Thread Cert.Mod.nD Cert.Mod.τ).loc Cert.Mod.main_arg7)
      ∧ r.2.mem ((c.tc : Thread Cert.Mod.nD Cert.Mod.τ).loc Cert.Mod.main_arg8) = m ((c.tc : Thread Cert.Mod.nD Cert.Mod.τ).loc Cert.Mod.main_arg8))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
      ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
      ∧ r.2.mem ((c.tc : Thread Cert.ModIdeal.nD Cert.ModIdeal.τ).loc Cert.ModIdeal.main_arg8) = m ((c.tc : Thread Cert.ModIdeal.nD Cert.ModIdeal.τ).loc Cert.ModIdeal.main_arg8))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4)
      ∧ r.2.mem ((c.tc : Thread Cert.ModReferenceIdeal.nD Cert.ModReferenceIdeal.τ).loc Cert.ModReferenceIdeal.main_arg5) = m ((c.tc : Thread Cert.ModReferenceIdeal.nD Cert.ModReferenceIdeal.τ).loc Cert.ModReferenceIdeal.main_arg5)
      ∧ r.2.mem ((c.tc : Thread Cert.ModReferenceIdeal.nD Cert.ModReferenceIdeal.τ).loc Cert.ModReferenceIdeal.main_arg6) = m ((c.tc : Thread Cert.ModReferenceIdeal.nD Cert.ModReferenceIdeal.τ).loc Cert.ModReferenceIdeal.main_arg6)
      ∧ r.2.mem ((c.tc : Thread Cert.ModReferenceIdeal.nD Cert.ModReferenceIdeal.τ).loc Cert.ModReferenceIdeal.main_arg7) = m ((c.tc : Thread Cert.ModReferenceIdeal.nD Cert.ModReferenceIdeal.τ).loc Cert.ModReferenceIdeal.main_arg7)
      ∧ r.2.mem ((c.tc : Thread Cert.ModReferenceIdeal.nD Cert.ModReferenceIdeal.τ).loc Cert.ModReferenceIdeal.main_arg8) = m ((c.tc : Thread Cert.ModReferenceIdeal.nD Cert.ModReferenceIdeal.τ).loc Cert.ModReferenceIdeal.main_arg8))
      ∧ r.2.sem = fun _ => 0)

def quiescent_InBLat [hInBLat : Cert.InBLat.Facts] : Prop :=
  ∀ (m : (ℓ : Loc Cert.InBLat.nD Cert.InBLat.τ Cert.InBLat.sig) → Buf (Elt Bits) ℓ) (g : Dev Cert.InBLat.nD → PrngReg), Pre_InBLat m →
    θ_run (Cert.InBLat.defs (F := Bits)) (onTc (τ := Cert.InBLat.τ) (Cert.InBLat.main (F := Bits))) ⟨m, fun _ => 0, g⟩ (fun r => (∀ c : Dev Cert.InBLat.nD,
      r.2.mem ((c.tc : Thread Cert.InBLat.nD Cert.InBLat.τ).loc Cert.InBLat.main_arg0) = m ((c.tc : Thread Cert.InBLat.nD Cert.InBLat.τ).loc Cert.InBLat.main_arg0)
      ∧ r.2.mem ((c.tc : Thread Cert.InBLat.nD Cert.InBLat.τ).loc Cert.InBLat.main_arg1) = m ((c.tc : Thread Cert.InBLat.nD Cert.InBLat.τ).loc Cert.InBLat.main_arg1)
      ∧ r.2.mem ((c.tc : Thread Cert.InBLat.nD Cert.InBLat.τ).loc Cert.InBLat.main_arg2) = m ((c.tc : Thread Cert.InBLat.nD Cert.InBLat.τ).loc Cert.InBLat.main_arg2)
      ∧ r.2.mem ((c.tc : Thread Cert.InBLat.nD Cert.InBLat.τ).loc Cert.InBLat.main_arg3) = m ((c.tc : Thread Cert.InBLat.nD Cert.InBLat.τ).loc Cert.InBLat.main_arg3)
      ∧ r.2.mem ((c.tc : Thread Cert.InBLat.nD Cert.InBLat.τ).loc Cert.InBLat.main_arg4) = m ((c.tc : Thread Cert.InBLat.nD Cert.InBLat.τ).loc Cert.InBLat.main_arg4)
      ∧ r.2.mem ((c.tc : Thread Cert.InBLat.nD Cert.InBLat.τ).loc Cert.InBLat.main_arg5) = m ((c.tc : Thread Cert.InBLat.nD Cert.InBLat.τ).loc Cert.InBLat.main_arg5)
      ∧ r.2.mem ((c.tc : Thread Cert.InBLat.nD Cert.InBLat.τ).loc Cert.InBLat.main_arg6) = m ((c.tc : Thread Cert.InBLat.nD Cert.InBLat.τ).loc Cert.InBLat.main_arg6)
      ∧ r.2.mem ((c.tc : Thread Cert.InBLat.nD Cert.InBLat.τ).loc Cert.InBLat.main_arg7) = m ((c.tc : Thread Cert.InBLat.nD Cert.InBLat.τ).loc Cert.InBLat.main_arg7)
      ∧ r.2.mem ((c.tc : Thread Cert.InBLat.nD Cert.InBLat.τ).loc Cert.InBLat.main_arg8) = m ((c.tc : Thread Cert.InBLat.nD Cert.InBLat.τ).loc Cert.InBLat.main_arg8))
      ∧ r.2.sem = fun _ => 0)

def quiescent_InBLatIdeal [hInBLatIdeal : Cert.InBLatIdeal.Facts] : Prop :=
  ∀ (m : (ℓ : Loc Cert.InBLatIdeal.nD Cert.InBLatIdeal.τ Cert.InBLatIdeal.sig) → Buf (Elt Ideal) ℓ) (g : Dev Cert.InBLatIdeal.nD → PrngReg), Pre_InBLatIdeal m →
    θ_run (Cert.InBLatIdeal.defs (F := Ideal)) (onTc (τ := Cert.InBLatIdeal.τ) (Cert.InBLatIdeal.main (F := Ideal))) ⟨m, fun _ => 0, g⟩ (fun r => (∀ c : Dev Cert.InBLatIdeal.nD,
      r.2.mem ((c.tc : Thread Cert.InBLatIdeal.nD Cert.InBLatIdeal.τ).loc Cert.InBLatIdeal.main_arg0) = m ((c.tc : Thread Cert.InBLatIdeal.nD Cert.InBLatIdeal.τ).loc Cert.InBLatIdeal.main_arg0)
      ∧ r.2.mem ((c.tc : Thread Cert.InBLatIdeal.nD Cert.InBLatIdeal.τ).loc Cert.InBLatIdeal.main_arg1) = m ((c.tc : Thread Cert.InBLatIdeal.nD Cert.InBLatIdeal.τ).loc Cert.InBLatIdeal.main_arg1)
      ∧ r.2.mem ((c.tc : Thread Cert.InBLatIdeal.nD Cert.InBLatIdeal.τ).loc Cert.InBLatIdeal.main_arg2) = m ((c.tc : Thread Cert.InBLatIdeal.nD Cert.InBLatIdeal.τ).loc Cert.InBLatIdeal.main_arg2)
      ∧ r.2.mem ((c.tc : Thread Cert.InBLatIdeal.nD Cert.InBLatIdeal.τ).loc Cert.InBLatIdeal.main_arg3) = m ((c.tc : Thread Cert.InBLatIdeal.nD Cert.InBLatIdeal.τ).loc Cert.InBLatIdeal.main_arg3)
      ∧ r.2.mem ((c.tc : Thread Cert.InBLatIdeal.nD Cert.InBLatIdeal.τ).loc Cert.InBLatIdeal.main_arg4) = m ((c.tc : Thread Cert.InBLatIdeal.nD Cert.InBLatIdeal.τ).loc Cert.InBLatIdeal.main_arg4)
      ∧ r.2.mem ((c.tc : Thread Cert.InBLatIdeal.nD Cert.InBLatIdeal.τ).loc Cert.InBLatIdeal.main_arg5) = m ((c.tc : Thread Cert.InBLatIdeal.nD Cert.InBLatIdeal.τ).loc Cert.InBLatIdeal.main_arg5)
      ∧ r.2.mem ((c.tc : Thread Cert.InBLatIdeal.nD Cert.InBLatIdeal.τ).loc Cert.InBLatIdeal.main_arg6) = m ((c.tc : Thread Cert.InBLatIdeal.nD Cert.InBLatIdeal.τ).loc Cert.InBLatIdeal.main_arg6)
      ∧ r.2.mem ((c.tc : Thread Cert.InBLatIdeal.nD Cert.InBLatIdeal.τ).loc Cert.InBLatIdeal.main_arg7) = m ((c.tc : Thread Cert.InBLatIdeal.nD Cert.InBLatIdeal.τ).loc Cert.InBLatIdeal.main_arg7)
      ∧ r.2.mem ((c.tc : Thread Cert.InBLatIdeal.nD Cert.InBLatIdeal.τ).loc Cert.InBLatIdeal.main_arg8) = m ((c.tc : Thread Cert.InBLatIdeal.nD Cert.InBLatIdeal.τ).loc Cert.InBLatIdeal.main_arg8))
      ∧ r.2.sem = fun _ => 0)

def quiescent_InBLatReferenceIdeal [hInBLatReferenceIdeal : Cert.InBLatReferenceIdeal.Facts] : Prop :=
  ∀ (m : (ℓ : Loc Cert.InBLatReferenceIdeal.nD Cert.InBLatReferenceIdeal.τ Cert.InBLatReferenceIdeal.sig) → Buf (Elt Ideal) ℓ) (g : Dev Cert.InBLatReferenceIdeal.nD → PrngReg), Pre_InBLatReferenceIdeal m →
    θ_run (Cert.InBLatReferenceIdeal.defs (F := Ideal)) (onTc (τ := Cert.InBLatReferenceIdeal.τ) (Cert.InBLatReferenceIdeal.main (F := Ideal))) ⟨m, fun _ => 0, g⟩ (fun r => (∀ c : Dev Cert.InBLatReferenceIdeal.nD,
      r.2.mem ((c.tc : Thread Cert.InBLatReferenceIdeal.nD Cert.InBLatReferenceIdeal.τ).loc Cert.InBLatReferenceIdeal.main_arg0) = m ((c.tc : Thread Cert.InBLatReferenceIdeal.nD Cert.InBLatReferenceIdeal.τ).loc Cert.InBLatReferenceIdeal.main_arg0)
      ∧ r.2.mem ((c.tc : Thread Cert.InBLatReferenceIdeal.nD Cert.InBLatReferenceIdeal.τ).loc Cert.InBLatReferenceIdeal.main_arg1) = m ((c.tc : Thread Cert.InBLatReferenceIdeal.nD Cert.InBLatReferenceIdeal.τ).loc Cert.InBLatReferenceIdeal.main_arg1)
      ∧ r.2.mem ((c.tc : Thread Cert.InBLatReferenceIdeal.nD Cert.InBLatReferenceIdeal.τ).loc Cert.InBLatReferenceIdeal.main_arg2) = m ((c.tc : Thread Cert.InBLatReferenceIdeal.nD Cert.InBLatReferenceIdeal.τ).loc Cert.InBLatReferenceIdeal.main_arg2)
      ∧ r.2.mem ((c.tc : Thread Cert.InBLatReferenceIdeal.nD Cert.InBLatReferenceIdeal.τ).loc Cert.InBLatReferenceIdeal.main_arg3) = m ((c.tc : Thread Cert.InBLatReferenceIdeal.nD Cert.InBLatReferenceIdeal.τ).loc Cert.InBLatReferenceIdeal.main_arg3)
      ∧ r.2.mem ((c.tc : Thread Cert.InBLatReferenceIdeal.nD Cert.InBLatReferenceIdeal.τ).loc Cert.InBLatReferenceIdeal.main_arg4) = m ((c.tc : Thread Cert.InBLatReferenceIdeal.nD Cert.InBLatReferenceIdeal.τ).loc Cert.InBLatReferenceIdeal.main_arg4)
      ∧ r.2.mem ((c.tc : Thread Cert.InBLatReferenceIdeal.nD Cert.InBLatReferenceIdeal.τ).loc Cert.InBLatReferenceIdeal.main_arg5) = m ((c.tc : Thread Cert.InBLatReferenceIdeal.nD Cert.InBLatReferenceIdeal.τ).loc Cert.InBLatReferenceIdeal.main_arg5)
      ∧ r.2.mem ((c.tc : Thread Cert.InBLatReferenceIdeal.nD Cert.InBLatReferenceIdeal.τ).loc Cert.InBLatReferenceIdeal.main_arg6) = m ((c.tc : Thread Cert.InBLatReferenceIdeal.nD Cert.InBLatReferenceIdeal.τ).loc Cert.InBLatReferenceIdeal.main_arg6)
      ∧ r.2.mem ((c.tc : Thread Cert.InBLatReferenceIdeal.nD Cert.InBLatReferenceIdeal.τ).loc Cert.InBLatReferenceIdeal.main_arg7) = m ((c.tc : Thread Cert.InBLatReferenceIdeal.nD Cert.InBLatReferenceIdeal.τ).loc Cert.InBLatReferenceIdeal.main_arg7)
      ∧ r.2.mem ((c.tc : Thread Cert.InBLatReferenceIdeal.nD Cert.InBLatReferenceIdeal.τ).loc Cert.InBLatReferenceIdeal.main_arg8) = m ((c.tc : Thread Cert.InBLatReferenceIdeal.nD Cert.InBLatReferenceIdeal.τ).loc Cert.InBLatReferenceIdeal.main_arg8))
      ∧ r.2.sem = fun _ => 0)

def quiescent_InCLat [hInCLat : Cert.InCLat.Facts] : Prop :=
  ∀ (m : (ℓ : Loc Cert.InCLat.nD Cert.InCLat.τ Cert.InCLat.sig) → Buf (Elt Bits) ℓ) (g : Dev Cert.InCLat.nD → PrngReg), Pre_InCLat m →
    θ_run (Cert.InCLat.defs (F := Bits)) (onTc (τ := Cert.InCLat.τ) (Cert.InCLat.main (F := Bits))) ⟨m, fun _ => 0, g⟩ (fun r => (∀ c : Dev Cert.InCLat.nD,
      r.2.mem ((c.tc : Thread Cert.InCLat.nD Cert.InCLat.τ).loc Cert.InCLat.main_arg0) = m ((c.tc : Thread Cert.InCLat.nD Cert.InCLat.τ).loc Cert.InCLat.main_arg0)
      ∧ r.2.mem ((c.tc : Thread Cert.InCLat.nD Cert.InCLat.τ).loc Cert.InCLat.main_arg1) = m ((c.tc : Thread Cert.InCLat.nD Cert.InCLat.τ).loc Cert.InCLat.main_arg1)
      ∧ r.2.mem ((c.tc : Thread Cert.InCLat.nD Cert.InCLat.τ).loc Cert.InCLat.main_arg2) = m ((c.tc : Thread Cert.InCLat.nD Cert.InCLat.τ).loc Cert.InCLat.main_arg2)
      ∧ r.2.mem ((c.tc : Thread Cert.InCLat.nD Cert.InCLat.τ).loc Cert.InCLat.main_arg3) = m ((c.tc : Thread Cert.InCLat.nD Cert.InCLat.τ).loc Cert.InCLat.main_arg3)
      ∧ r.2.mem ((c.tc : Thread Cert.InCLat.nD Cert.InCLat.τ).loc Cert.InCLat.main_arg4) = m ((c.tc : Thread Cert.InCLat.nD Cert.InCLat.τ).loc Cert.InCLat.main_arg4)
      ∧ r.2.mem ((c.tc : Thread Cert.InCLat.nD Cert.InCLat.τ).loc Cert.InCLat.main_arg5) = m ((c.tc : Thread Cert.InCLat.nD Cert.InCLat.τ).loc Cert.InCLat.main_arg5)
      ∧ r.2.mem ((c.tc : Thread Cert.InCLat.nD Cert.InCLat.τ).loc Cert.InCLat.main_arg6) = m ((c.tc : Thread Cert.InCLat.nD Cert.InCLat.τ).loc Cert.InCLat.main_arg6)
      ∧ r.2.mem ((c.tc : Thread Cert.InCLat.nD Cert.InCLat.τ).loc Cert.InCLat.main_arg7) = m ((c.tc : Thread Cert.InCLat.nD Cert.InCLat.τ).loc Cert.InCLat.main_arg7)
      ∧ r.2.mem ((c.tc : Thread Cert.InCLat.nD Cert.InCLat.τ).loc Cert.InCLat.main_arg8) = m ((c.tc : Thread Cert.InCLat.nD Cert.InCLat.τ).loc Cert.InCLat.main_arg8)
      ∧ r.2.mem ((c.tc : Thread Cert.InCLat.nD Cert.InCLat.τ).loc Cert.InCLat.main_arg9) = m ((c.tc : Thread Cert.InCLat.nD Cert.InCLat.τ).loc Cert.InCLat.main_arg9))
      ∧ r.2.sem = fun _ => 0)

def quiescent_InCLatIdeal [hInCLatIdeal : Cert.InCLatIdeal.Facts] : Prop :=
  ∀ (m : (ℓ : Loc Cert.InCLatIdeal.nD Cert.InCLatIdeal.τ Cert.InCLatIdeal.sig) → Buf (Elt Ideal) ℓ) (g : Dev Cert.InCLatIdeal.nD → PrngReg), Pre_InCLatIdeal m →
    θ_run (Cert.InCLatIdeal.defs (F := Ideal)) (onTc (τ := Cert.InCLatIdeal.τ) (Cert.InCLatIdeal.main (F := Ideal))) ⟨m, fun _ => 0, g⟩ (fun r => (∀ c : Dev Cert.InCLatIdeal.nD,
      r.2.mem ((c.tc : Thread Cert.InCLatIdeal.nD Cert.InCLatIdeal.τ).loc Cert.InCLatIdeal.main_arg0) = m ((c.tc : Thread Cert.InCLatIdeal.nD Cert.InCLatIdeal.τ).loc Cert.InCLatIdeal.main_arg0)
      ∧ r.2.mem ((c.tc : Thread Cert.InCLatIdeal.nD Cert.InCLatIdeal.τ).loc Cert.InCLatIdeal.main_arg1) = m ((c.tc : Thread Cert.InCLatIdeal.nD Cert.InCLatIdeal.τ).loc Cert.InCLatIdeal.main_arg1)
      ∧ r.2.mem ((c.tc : Thread Cert.InCLatIdeal.nD Cert.InCLatIdeal.τ).loc Cert.InCLatIdeal.main_arg2) = m ((c.tc : Thread Cert.InCLatIdeal.nD Cert.InCLatIdeal.τ).loc Cert.InCLatIdeal.main_arg2)
      ∧ r.2.mem ((c.tc : Thread Cert.InCLatIdeal.nD Cert.InCLatIdeal.τ).loc Cert.InCLatIdeal.main_arg3) = m ((c.tc : Thread Cert.InCLatIdeal.nD Cert.InCLatIdeal.τ).loc Cert.InCLatIdeal.main_arg3)
      ∧ r.2.mem ((c.tc : Thread Cert.InCLatIdeal.nD Cert.InCLatIdeal.τ).loc Cert.InCLatIdeal.main_arg4) = m ((c.tc : Thread Cert.InCLatIdeal.nD Cert.InCLatIdeal.τ).loc Cert.InCLatIdeal.main_arg4)
      ∧ r.2.mem ((c.tc : Thread Cert.InCLatIdeal.nD Cert.InCLatIdeal.τ).loc Cert.InCLatIdeal.main_arg5) = m ((c.tc : Thread Cert.InCLatIdeal.nD Cert.InCLatIdeal.τ).loc Cert.InCLatIdeal.main_arg5)
      ∧ r.2.mem ((c.tc : Thread Cert.InCLatIdeal.nD Cert.InCLatIdeal.τ).loc Cert.InCLatIdeal.main_arg6) = m ((c.tc : Thread Cert.InCLatIdeal.nD Cert.InCLatIdeal.τ).loc Cert.InCLatIdeal.main_arg6)
      ∧ r.2.mem ((c.tc : Thread Cert.InCLatIdeal.nD Cert.InCLatIdeal.τ).loc Cert.InCLatIdeal.main_arg7) = m ((c.tc : Thread Cert.InCLatIdeal.nD Cert.InCLatIdeal.τ).loc Cert.InCLatIdeal.main_arg7)
      ∧ r.2.mem ((c.tc : Thread Cert.InCLatIdeal.nD Cert.InCLatIdeal.τ).loc Cert.InCLatIdeal.main_arg8) = m ((c.tc : Thread Cert.InCLatIdeal.nD Cert.InCLatIdeal.τ).loc Cert.InCLatIdeal.main_arg8)
      ∧ r.2.mem ((c.tc : Thread Cert.InCLatIdeal.nD Cert.InCLatIdeal.τ).loc Cert.InCLatIdeal.main_arg9) = m ((c.tc : Thread Cert.InCLatIdeal.nD Cert.InCLatIdeal.τ).loc Cert.InCLatIdeal.main_arg9))
      ∧ r.2.sem = fun _ => 0)

def quiescent_InCLatReferenceIdeal [hInCLatReferenceIdeal : Cert.InCLatReferenceIdeal.Facts] : Prop :=
  ∀ (m : (ℓ : Loc Cert.InCLatReferenceIdeal.nD Cert.InCLatReferenceIdeal.τ Cert.InCLatReferenceIdeal.sig) → Buf (Elt Ideal) ℓ) (g : Dev Cert.InCLatReferenceIdeal.nD → PrngReg), Pre_InCLatReferenceIdeal m →
    θ_run (Cert.InCLatReferenceIdeal.defs (F := Ideal)) (onTc (τ := Cert.InCLatReferenceIdeal.τ) (Cert.InCLatReferenceIdeal.main (F := Ideal))) ⟨m, fun _ => 0, g⟩ (fun r => (∀ c : Dev Cert.InCLatReferenceIdeal.nD,
      r.2.mem ((c.tc : Thread Cert.InCLatReferenceIdeal.nD Cert.InCLatReferenceIdeal.τ).loc Cert.InCLatReferenceIdeal.main_arg0) = m ((c.tc : Thread Cert.InCLatReferenceIdeal.nD Cert.InCLatReferenceIdeal.τ).loc Cert.InCLatReferenceIdeal.main_arg0)
      ∧ r.2.mem ((c.tc : Thread Cert.InCLatReferenceIdeal.nD Cert.InCLatReferenceIdeal.τ).loc Cert.InCLatReferenceIdeal.main_arg1) = m ((c.tc : Thread Cert.InCLatReferenceIdeal.nD Cert.InCLatReferenceIdeal.τ).loc Cert.InCLatReferenceIdeal.main_arg1)
      ∧ r.2.mem ((c.tc : Thread Cert.InCLatReferenceIdeal.nD Cert.InCLatReferenceIdeal.τ).loc Cert.InCLatReferenceIdeal.main_arg2) = m ((c.tc : Thread Cert.InCLatReferenceIdeal.nD Cert.InCLatReferenceIdeal.τ).loc Cert.InCLatReferenceIdeal.main_arg2)
      ∧ r.2.mem ((c.tc : Thread Cert.InCLatReferenceIdeal.nD Cert.InCLatReferenceIdeal.τ).loc Cert.InCLatReferenceIdeal.main_arg3) = m ((c.tc : Thread Cert.InCLatReferenceIdeal.nD Cert.InCLatReferenceIdeal.τ).loc Cert.InCLatReferenceIdeal.main_arg3)
      ∧ r.2.mem ((c.tc : Thread Cert.InCLatReferenceIdeal.nD Cert.InCLatReferenceIdeal.τ).loc Cert.InCLatReferenceIdeal.main_arg4) = m ((c.tc : Thread Cert.InCLatReferenceIdeal.nD Cert.InCLatReferenceIdeal.τ).loc Cert.InCLatReferenceIdeal.main_arg4)
      ∧ r.2.mem ((c.tc : Thread Cert.InCLatReferenceIdeal.nD Cert.InCLatReferenceIdeal.τ).loc Cert.InCLatReferenceIdeal.main_arg5) = m ((c.tc : Thread Cert.InCLatReferenceIdeal.nD Cert.InCLatReferenceIdeal.τ).loc Cert.InCLatReferenceIdeal.main_arg5)
      ∧ r.2.mem ((c.tc : Thread Cert.InCLatReferenceIdeal.nD Cert.InCLatReferenceIdeal.τ).loc Cert.InCLatReferenceIdeal.main_arg6) = m ((c.tc : Thread Cert.InCLatReferenceIdeal.nD Cert.InCLatReferenceIdeal.τ).loc Cert.InCLatReferenceIdeal.main_arg6)
      ∧ r.2.mem ((c.tc : Thread Cert.InCLatReferenceIdeal.nD Cert.InCLatReferenceIdeal.τ).loc Cert.InCLatReferenceIdeal.main_arg7) = m ((c.tc : Thread Cert.InCLatReferenceIdeal.nD Cert.InCLatReferenceIdeal.τ).loc Cert.InCLatReferenceIdeal.main_arg7)
      ∧ r.2.mem ((c.tc : Thread Cert.InCLatReferenceIdeal.nD Cert.InCLatReferenceIdeal.τ).loc Cert.InCLatReferenceIdeal.main_arg8) = m ((c.tc : Thread Cert.InCLatReferenceIdeal.nD Cert.InCLatReferenceIdeal.τ).loc Cert.InCLatReferenceIdeal.main_arg8)
      ∧ r.2.mem ((c.tc : Thread Cert.InCLatReferenceIdeal.nD Cert.InCLatReferenceIdeal.τ).loc Cert.InCLatReferenceIdeal.main_arg9) = m ((c.tc : Thread Cert.InCLatReferenceIdeal.nD Cert.InCLatReferenceIdeal.τ).loc Cert.InCLatReferenceIdeal.main_arg9))
      ∧ r.2.sem = fun _ => 0)

def quiescent_FirstALat [hFirstALat : Cert.FirstALat.Facts] : Prop :=
  ∀ (m : (ℓ : Loc Cert.FirstALat.nD Cert.FirstALat.τ Cert.FirstALat.sig) → Buf (Elt Bits) ℓ) (g : Dev Cert.FirstALat.nD → PrngReg), Pre_FirstALat m →
    θ_run (Cert.FirstALat.defs (F := Bits)) (onTc (τ := Cert.FirstALat.τ) (Cert.FirstALat.main (F := Bits))) ⟨m, fun _ => 0, g⟩ (fun r => (∀ c : Dev Cert.FirstALat.nD,
      r.2.mem ((c.tc : Thread Cert.FirstALat.nD Cert.FirstALat.τ).loc Cert.FirstALat.main_arg0) = m ((c.tc : Thread Cert.FirstALat.nD Cert.FirstALat.τ).loc Cert.FirstALat.main_arg0)
      ∧ r.2.mem ((c.tc : Thread Cert.FirstALat.nD Cert.FirstALat.τ).loc Cert.FirstALat.main_arg1) = m ((c.tc : Thread Cert.FirstALat.nD Cert.FirstALat.τ).loc Cert.FirstALat.main_arg1)
      ∧ r.2.mem ((c.tc : Thread Cert.FirstALat.nD Cert.FirstALat.τ).loc Cert.FirstALat.main_arg2) = m ((c.tc : Thread Cert.FirstALat.nD Cert.FirstALat.τ).loc Cert.FirstALat.main_arg2)
      ∧ r.2.mem ((c.tc : Thread Cert.FirstALat.nD Cert.FirstALat.τ).loc Cert.FirstALat.main_arg3) = m ((c.tc : Thread Cert.FirstALat.nD Cert.FirstALat.τ).loc Cert.FirstALat.main_arg3)
      ∧ r.2.mem ((c.tc : Thread Cert.FirstALat.nD Cert.FirstALat.τ).loc Cert.FirstALat.main_arg4) = m ((c.tc : Thread Cert.FirstALat.nD Cert.FirstALat.τ).loc Cert.FirstALat.main_arg4)
      ∧ r.2.mem ((c.tc : Thread Cert.FirstALat.nD Cert.FirstALat.τ).loc Cert.FirstALat.main_arg5) = m ((c.tc : Thread Cert.FirstALat.nD Cert.FirstALat.τ).loc Cert.FirstALat.main_arg5))
      ∧ r.2.sem = fun _ => 0)

def quiescent_FirstALatIdeal [hFirstALatIdeal : Cert.FirstALatIdeal.Facts] : Prop :=
  ∀ (m : (ℓ : Loc Cert.FirstALatIdeal.nD Cert.FirstALatIdeal.τ Cert.FirstALatIdeal.sig) → Buf (Elt Ideal) ℓ) (g : Dev Cert.FirstALatIdeal.nD → PrngReg), Pre_FirstALatIdeal m →
    θ_run (Cert.FirstALatIdeal.defs (F := Ideal)) (onTc (τ := Cert.FirstALatIdeal.τ) (Cert.FirstALatIdeal.main (F := Ideal))) ⟨m, fun _ => 0, g⟩ (fun r => (∀ c : Dev Cert.FirstALatIdeal.nD,
      r.2.mem ((c.tc : Thread Cert.FirstALatIdeal.nD Cert.FirstALatIdeal.τ).loc Cert.FirstALatIdeal.main_arg0) = m ((c.tc : Thread Cert.FirstALatIdeal.nD Cert.FirstALatIdeal.τ).loc Cert.FirstALatIdeal.main_arg0)
      ∧ r.2.mem ((c.tc : Thread Cert.FirstALatIdeal.nD Cert.FirstALatIdeal.τ).loc Cert.FirstALatIdeal.main_arg1) = m ((c.tc : Thread Cert.FirstALatIdeal.nD Cert.FirstALatIdeal.τ).loc Cert.FirstALatIdeal.main_arg1)
      ∧ r.2.mem ((c.tc : Thread Cert.FirstALatIdeal.nD Cert.FirstALatIdeal.τ).loc Cert.FirstALatIdeal.main_arg2) = m ((c.tc : Thread Cert.FirstALatIdeal.nD Cert.FirstALatIdeal.τ).loc Cert.FirstALatIdeal.main_arg2)
      ∧ r.2.mem ((c.tc : Thread Cert.FirstALatIdeal.nD Cert.FirstALatIdeal.τ).loc Cert.FirstALatIdeal.main_arg3) = m ((c.tc : Thread Cert.FirstALatIdeal.nD Cert.FirstALatIdeal.τ).loc Cert.FirstALatIdeal.main_arg3)
      ∧ r.2.mem ((c.tc : Thread Cert.FirstALatIdeal.nD Cert.FirstALatIdeal.τ).loc Cert.FirstALatIdeal.main_arg4) = m ((c.tc : Thread Cert.FirstALatIdeal.nD Cert.FirstALatIdeal.τ).loc Cert.FirstALatIdeal.main_arg4)
      ∧ r.2.mem ((c.tc : Thread Cert.FirstALatIdeal.nD Cert.FirstALatIdeal.τ).loc Cert.FirstALatIdeal.main_arg5) = m ((c.tc : Thread Cert.FirstALatIdeal.nD Cert.FirstALatIdeal.τ).loc Cert.FirstALatIdeal.main_arg5))
      ∧ r.2.sem = fun _ => 0)

def quiescent_FirstALatReferenceIdeal [hFirstALatReferenceIdeal : Cert.FirstALatReferenceIdeal.Facts] : Prop :=
  ∀ (m : (ℓ : Loc Cert.FirstALatReferenceIdeal.nD Cert.FirstALatReferenceIdeal.τ Cert.FirstALatReferenceIdeal.sig) → Buf (Elt Ideal) ℓ) (g : Dev Cert.FirstALatReferenceIdeal.nD → PrngReg), Pre_FirstALatReferenceIdeal m →
    θ_run (Cert.FirstALatReferenceIdeal.defs (F := Ideal)) (onTc (τ := Cert.FirstALatReferenceIdeal.τ) (Cert.FirstALatReferenceIdeal.main (F := Ideal))) ⟨m, fun _ => 0, g⟩ (fun r => (∀ c : Dev Cert.FirstALatReferenceIdeal.nD,
      r.2.mem ((c.tc : Thread Cert.FirstALatReferenceIdeal.nD Cert.FirstALatReferenceIdeal.τ).loc Cert.FirstALatReferenceIdeal.main_arg0) = m ((c.tc : Thread Cert.FirstALatReferenceIdeal.nD Cert.FirstALatReferenceIdeal.τ).loc Cert.FirstALatReferenceIdeal.main_arg0)
      ∧ r.2.mem ((c.tc : Thread Cert.FirstALatReferenceIdeal.nD Cert.FirstALatReferenceIdeal.τ).loc Cert.FirstALatReferenceIdeal.main_arg1) = m ((c.tc : Thread Cert.FirstALatReferenceIdeal.nD Cert.FirstALatReferenceIdeal.τ).loc Cert.FirstALatReferenceIdeal.main_arg1)
      ∧ r.2.mem ((c.tc : Thread Cert.FirstALatReferenceIdeal.nD Cert.FirstALatReferenceIdeal.τ).loc Cert.FirstALatReferenceIdeal.main_arg2) = m ((c.tc : Thread Cert.FirstALatReferenceIdeal.nD Cert.FirstALatReferenceIdeal.τ).loc Cert.FirstALatReferenceIdeal.main_arg2)
      ∧ r.2.mem ((c.tc : Thread Cert.FirstALatReferenceIdeal.nD Cert.FirstALatReferenceIdeal.τ).loc Cert.FirstALatReferenceIdeal.main_arg3) = m ((c.tc : Thread Cert.FirstALatReferenceIdeal.nD Cert.FirstALatReferenceIdeal.τ).loc Cert.FirstALatReferenceIdeal.main_arg3)
      ∧ r.2.mem ((c.tc : Thread Cert.FirstALatReferenceIdeal.nD Cert.FirstALatReferenceIdeal.τ).loc Cert.FirstALatReferenceIdeal.main_arg4) = m ((c.tc : Thread Cert.FirstALatReferenceIdeal.nD Cert.FirstALatReferenceIdeal.τ).loc Cert.FirstALatReferenceIdeal.main_arg4)
      ∧ r.2.mem ((c.tc : Thread Cert.FirstALatReferenceIdeal.nD Cert.FirstALatReferenceIdeal.τ).loc Cert.FirstALatReferenceIdeal.main_arg5) = m ((c.tc : Thread Cert.FirstALatReferenceIdeal.nD Cert.FirstALatReferenceIdeal.τ).loc Cert.FirstALatReferenceIdeal.main_arg5))
      ∧ r.2.sem = fun _ => 0)

def quiescent_InALat [hInALat : Cert.InALat.Facts] : Prop :=
  ∀ (m : (ℓ : Loc Cert.InALat.nD Cert.InALat.τ Cert.InALat.sig) → Buf (Elt Bits) ℓ) (g : Dev Cert.InALat.nD → PrngReg), Pre_InALat m →
    θ_run (Cert.InALat.defs (F := Bits)) (onTc (τ := Cert.InALat.τ) (Cert.InALat.main (F := Bits))) ⟨m, fun _ => 0, g⟩ (fun r => (∀ c : Dev Cert.InALat.nD,
      r.2.mem ((c.tc : Thread Cert.InALat.nD Cert.InALat.τ).loc Cert.InALat.main_arg0) = m ((c.tc : Thread Cert.InALat.nD Cert.InALat.τ).loc Cert.InALat.main_arg0)
      ∧ r.2.mem ((c.tc : Thread Cert.InALat.nD Cert.InALat.τ).loc Cert.InALat.main_arg1) = m ((c.tc : Thread Cert.InALat.nD Cert.InALat.τ).loc Cert.InALat.main_arg1)
      ∧ r.2.mem ((c.tc : Thread Cert.InALat.nD Cert.InALat.τ).loc Cert.InALat.main_arg2) = m ((c.tc : Thread Cert.InALat.nD Cert.InALat.τ).loc Cert.InALat.main_arg2)
      ∧ r.2.mem ((c.tc : Thread Cert.InALat.nD Cert.InALat.τ).loc Cert.InALat.main_arg3) = m ((c.tc : Thread Cert.InALat.nD Cert.InALat.τ).loc Cert.InALat.main_arg3)
      ∧ r.2.mem ((c.tc : Thread Cert.InALat.nD Cert.InALat.τ).loc Cert.InALat.main_arg4) = m ((c.tc : Thread Cert.InALat.nD Cert.InALat.τ).loc Cert.InALat.main_arg4)
      ∧ r.2.mem ((c.tc : Thread Cert.InALat.nD Cert.InALat.τ).loc Cert.InALat.main_arg5) = m ((c.tc : Thread Cert.InALat.nD Cert.InALat.τ).loc Cert.InALat.main_arg5)
      ∧ r.2.mem ((c.tc : Thread Cert.InALat.nD Cert.InALat.τ).loc Cert.InALat.main_arg6) = m ((c.tc : Thread Cert.InALat.nD Cert.InALat.τ).loc Cert.InALat.main_arg6)
      ∧ r.2.mem ((c.tc : Thread Cert.InALat.nD Cert.InALat.τ).loc Cert.InALat.main_arg7) = m ((c.tc : Thread Cert.InALat.nD Cert.InALat.τ).loc Cert.InALat.main_arg7)
      ∧ r.2.mem ((c.tc : Thread Cert.InALat.nD Cert.InALat.τ).loc Cert.InALat.main_arg8) = m ((c.tc : Thread Cert.InALat.nD Cert.InALat.τ).loc Cert.InALat.main_arg8))
      ∧ r.2.sem = fun _ => 0)

def quiescent_InALatIdeal [hInALatIdeal : Cert.InALatIdeal.Facts] : Prop :=
  ∀ (m : (ℓ : Loc Cert.InALatIdeal.nD Cert.InALatIdeal.τ Cert.InALatIdeal.sig) → Buf (Elt Ideal) ℓ) (g : Dev Cert.InALatIdeal.nD → PrngReg), Pre_InALatIdeal m →
    θ_run (Cert.InALatIdeal.defs (F := Ideal)) (onTc (τ := Cert.InALatIdeal.τ) (Cert.InALatIdeal.main (F := Ideal))) ⟨m, fun _ => 0, g⟩ (fun r => (∀ c : Dev Cert.InALatIdeal.nD,
      r.2.mem ((c.tc : Thread Cert.InALatIdeal.nD Cert.InALatIdeal.τ).loc Cert.InALatIdeal.main_arg0) = m ((c.tc : Thread Cert.InALatIdeal.nD Cert.InALatIdeal.τ).loc Cert.InALatIdeal.main_arg0)
      ∧ r.2.mem ((c.tc : Thread Cert.InALatIdeal.nD Cert.InALatIdeal.τ).loc Cert.InALatIdeal.main_arg1) = m ((c.tc : Thread Cert.InALatIdeal.nD Cert.InALatIdeal.τ).loc Cert.InALatIdeal.main_arg1)
      ∧ r.2.mem ((c.tc : Thread Cert.InALatIdeal.nD Cert.InALatIdeal.τ).loc Cert.InALatIdeal.main_arg2) = m ((c.tc : Thread Cert.InALatIdeal.nD Cert.InALatIdeal.τ).loc Cert.InALatIdeal.main_arg2)
      ∧ r.2.mem ((c.tc : Thread Cert.InALatIdeal.nD Cert.InALatIdeal.τ).loc Cert.InALatIdeal.main_arg3) = m ((c.tc : Thread Cert.InALatIdeal.nD Cert.InALatIdeal.τ).loc Cert.InALatIdeal.main_arg3)
      ∧ r.2.mem ((c.tc : Thread Cert.InALatIdeal.nD Cert.InALatIdeal.τ).loc Cert.InALatIdeal.main_arg4) = m ((c.tc : Thread Cert.InALatIdeal.nD Cert.InALatIdeal.τ).loc Cert.InALatIdeal.main_arg4)
      ∧ r.2.mem ((c.tc : Thread Cert.InALatIdeal.nD Cert.InALatIdeal.τ).loc Cert.InALatIdeal.main_arg5) = m ((c.tc : Thread Cert.InALatIdeal.nD Cert.InALatIdeal.τ).loc Cert.InALatIdeal.main_arg5)
      ∧ r.2.mem ((c.tc : Thread Cert.InALatIdeal.nD Cert.InALatIdeal.τ).loc Cert.InALatIdeal.main_arg6) = m ((c.tc : Thread Cert.InALatIdeal.nD Cert.InALatIdeal.τ).loc Cert.InALatIdeal.main_arg6)
      ∧ r.2.mem ((c.tc : Thread Cert.InALatIdeal.nD Cert.InALatIdeal.τ).loc Cert.InALatIdeal.main_arg7) = m ((c.tc : Thread Cert.InALatIdeal.nD Cert.InALatIdeal.τ).loc Cert.InALatIdeal.main_arg7)
      ∧ r.2.mem ((c.tc : Thread Cert.InALatIdeal.nD Cert.InALatIdeal.τ).loc Cert.InALatIdeal.main_arg8) = m ((c.tc : Thread Cert.InALatIdeal.nD Cert.InALatIdeal.τ).loc Cert.InALatIdeal.main_arg8))
      ∧ r.2.sem = fun _ => 0)

def quiescent_InALatReferenceIdeal [hInALatReferenceIdeal : Cert.InALatReferenceIdeal.Facts] : Prop :=
  ∀ (m : (ℓ : Loc Cert.InALatReferenceIdeal.nD Cert.InALatReferenceIdeal.τ Cert.InALatReferenceIdeal.sig) → Buf (Elt Ideal) ℓ) (g : Dev Cert.InALatReferenceIdeal.nD → PrngReg), Pre_InALatReferenceIdeal m →
    θ_run (Cert.InALatReferenceIdeal.defs (F := Ideal)) (onTc (τ := Cert.InALatReferenceIdeal.τ) (Cert.InALatReferenceIdeal.main (F := Ideal))) ⟨m, fun _ => 0, g⟩ (fun r => (∀ c : Dev Cert.InALatReferenceIdeal.nD,
      r.2.mem ((c.tc : Thread Cert.InALatReferenceIdeal.nD Cert.InALatReferenceIdeal.τ).loc Cert.InALatReferenceIdeal.main_arg0) = m ((c.tc : Thread Cert.InALatReferenceIdeal.nD Cert.InALatReferenceIdeal.τ).loc Cert.InALatReferenceIdeal.main_arg0)
      ∧ r.2.mem ((c.tc : Thread Cert.InALatReferenceIdeal.nD Cert.InALatReferenceIdeal.τ).loc Cert.InALatReferenceIdeal.main_arg1) = m ((c.tc : Thread Cert.InALatReferenceIdeal.nD Cert.InALatReferenceIdeal.τ).loc Cert.InALatReferenceIdeal.main_arg1)
      ∧ r.2.mem ((c.tc : Thread Cert.InALatReferenceIdeal.nD Cert.InALatReferenceIdeal.τ).loc Cert.InALatReferenceIdeal.main_arg2) = m ((c.tc : Thread Cert.InALatReferenceIdeal.nD Cert.InALatReferenceIdeal.τ).loc Cert.InALatReferenceIdeal.main_arg2)
      ∧ r.2.mem ((c.tc : Thread Cert.InALatReferenceIdeal.nD Cert.InALatReferenceIdeal.τ).loc Cert.InALatReferenceIdeal.main_arg3) = m ((c.tc : Thread Cert.InALatReferenceIdeal.nD Cert.InALatReferenceIdeal.τ).loc Cert.InALatReferenceIdeal.main_arg3)
      ∧ r.2.mem ((c.tc : Thread Cert.InALatReferenceIdeal.nD Cert.InALatReferenceIdeal.τ).loc Cert.InALatReferenceIdeal.main_arg4) = m ((c.tc : Thread Cert.InALatReferenceIdeal.nD Cert.InALatReferenceIdeal.τ).loc Cert.InALatReferenceIdeal.main_arg4)
      ∧ r.2.mem ((c.tc : Thread Cert.InALatReferenceIdeal.nD Cert.InALatReferenceIdeal.τ).loc Cert.InALatReferenceIdeal.main_arg5) = m ((c.tc : Thread Cert.InALatReferenceIdeal.nD Cert.InALatReferenceIdeal.τ).loc Cert.InALatReferenceIdeal.main_arg5)
      ∧ r.2.mem ((c.tc : Thread Cert.InALatReferenceIdeal.nD Cert.InALatReferenceIdeal.τ).loc Cert.InALatReferenceIdeal.main_arg6) = m ((c.tc : Thread Cert.InALatReferenceIdeal.nD Cert.InALatReferenceIdeal.τ).loc Cert.InALatReferenceIdeal.main_arg6)
      ∧ r.2.mem ((c.tc : Thread Cert.InALatReferenceIdeal.nD Cert.InALatReferenceIdeal.τ).loc Cert.InALatReferenceIdeal.main_arg7) = m ((c.tc : Thread Cert.InALatReferenceIdeal.nD Cert.InALatReferenceIdeal.τ).loc Cert.InALatReferenceIdeal.main_arg7)
      ∧ r.2.mem ((c.tc : Thread Cert.InALatReferenceIdeal.nD Cert.InALatReferenceIdeal.τ).loc Cert.InALatReferenceIdeal.main_arg8) = m ((c.tc : Thread Cert.InALatReferenceIdeal.nD Cert.InALatReferenceIdeal.τ).loc Cert.InALatReferenceIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6))
      ∧ r.2.sem = fun _ => 0)

def preserves_Kernel_KernelIdeal : Prop :=
  True

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Sink_SinkIdeal : Prop :=
  IdealRules.named_const.Statement Cert.SinkIdeal.κ "log2e" .f32 0x3FB8AA3B#32 (((Real.log 2)⁻¹ : ℝ) : EReal)

def preserves_SinkReference_SinkReferenceIdeal : Prop :=
  True

def algebraic_SinkIdeal_SinkReferenceIdeal_pre_finite_logits [hSinkIdeal : Cert.SinkIdeal.Facts] [hSinkReferenceIdeal : Cert.SinkReferenceIdeal.Facts] [hPre_finite_logits : Cert.Pre_finite_logits.Facts] : Prop :=
  ∀ (m : (ℓ : Loc Cert.SinkIdeal.nD Cert.SinkIdeal.τ Cert.SinkIdeal.sig) → Buf (Elt Ideal) ℓ) (g : Dev Cert.SinkIdeal.nD → PrngReg)
    (m' : (ℓ : Loc Cert.SinkReferenceIdeal.nD Cert.SinkReferenceIdeal.τ Cert.SinkReferenceIdeal.sig) → Buf (Elt Ideal) ℓ) (g' : Dev Cert.SinkReferenceIdeal.nD → PrngReg), Pre_SinkIdeal_finite_logits m →
    (∀ c : Dev Cert.SinkIdeal.nD,
      m' ((c.tc : Thread Cert.SinkReferenceIdeal.nD Cert.SinkReferenceIdeal.τ).loc Cert.SinkReferenceIdeal.main_arg0) = m ((c.tc : Thread Cert.SinkIdeal.nD Cert.SinkIdeal.τ).loc Cert.SinkIdeal.main_arg0)
      ∧ m' ((c.tc : Thread Cert.SinkReferenceIdeal.nD Cert.SinkReferenceIdeal.τ).loc Cert.SinkReferenceIdeal.main_arg1) = m ((c.tc : Thread Cert.SinkIdeal.nD Cert.SinkIdeal.τ).loc Cert.SinkIdeal.main_arg1)
      ∧ m' ((c.tc : Thread Cert.SinkReferenceIdeal.nD Cert.SinkReferenceIdeal.τ).loc Cert.SinkReferenceIdeal.main_arg2) = m ((c.tc : Thread Cert.SinkIdeal.nD Cert.SinkIdeal.τ).loc Cert.SinkIdeal.main_arg2)
      ∧ m' ((c.tc : Thread Cert.SinkReferenceIdeal.nD Cert.SinkReferenceIdeal.τ).loc Cert.SinkReferenceIdeal.main_arg3) = m ((c.tc : Thread Cert.SinkIdeal.nD Cert.SinkIdeal.τ).loc Cert.SinkIdeal.main_arg3)
      ∧ m' ((c.tc : Thread Cert.SinkReferenceIdeal.nD Cert.SinkReferenceIdeal.τ).loc Cert.SinkReferenceIdeal.main_arg4) = m ((c.tc : Thread Cert.SinkIdeal.nD Cert.SinkIdeal.τ).loc Cert.SinkIdeal.main_arg4)) →
    ∃ (v0 : (c : Dev Cert.SinkIdeal.nD) → Buf (Elt Ideal) ((c.tc : Thread Cert.SinkIdeal.nD Cert.SinkIdeal.τ).loc Cert.SinkIdeal.main_v0)),
      θ_run (Cert.SinkIdeal.defs (F := Ideal)) (onTc (τ := Cert.SinkIdeal.τ) (Cert.SinkIdeal.main (F := Ideal))) ⟨m, fun _ => 0, g⟩ (fun r => ∀ c : Dev Cert.SinkIdeal.nD,
          r.2.mem ((c.tc : Thread Cert.SinkIdeal.nD Cert.SinkIdeal.τ).loc Cert.SinkIdeal.main_v0) = v0 c
          ∧ r.2.mem ((c.tc : Thread Cert.SinkIdeal.nD Cert.SinkIdeal.τ).loc Cert.SinkIdeal.main_arg0) = m ((c.tc : Thread Cert.SinkIdeal.nD Cert.SinkIdeal.τ).loc Cert.SinkIdeal.main_arg0)
          ∧ r.2.mem ((c.tc : Thread Cert.SinkIdeal.nD Cert.SinkIdeal.τ).loc Cert.SinkIdeal.main_arg1) = m ((c.tc : Thread Cert.SinkIdeal.nD Cert.SinkIdeal.τ).loc Cert.SinkIdeal.main_arg1)
          ∧ r.2.mem ((c.tc : Thread Cert.SinkIdeal.nD Cert.SinkIdeal.τ).loc Cert.SinkIdeal.main_arg2) = m ((c.tc : Thread Cert.SinkIdeal.nD Cert.SinkIdeal.τ).loc Cert.SinkIdeal.main_arg2)
          ∧ r.2.mem ((c.tc : Thread Cert.SinkIdeal.nD Cert.SinkIdeal.τ).loc Cert.SinkIdeal.main_arg3) = m ((c.tc : Thread Cert.SinkIdeal.nD Cert.SinkIdeal.τ).loc Cert.SinkIdeal.main_arg3)
          ∧ r.2.mem ((c.tc : Thread Cert.SinkIdeal.nD Cert.SinkIdeal.τ).loc Cert.SinkIdeal.main_arg4) = m ((c.tc : Thread Cert.SinkIdeal.nD Cert.SinkIdeal.τ).loc Cert.SinkIdeal.main_arg4))
      ∧ θ_run (Cert.SinkReferenceIdeal.defs (F := Ideal)) (onTc (τ := Cert.SinkReferenceIdeal.τ) (Cert.SinkReferenceIdeal.main (F := Ideal))) ⟨m', fun _ => 0, g'⟩ (fun r => ∀ c : Dev Cert.SinkReferenceIdeal.nD,
          r.2.mem ((c.tc : Thread Cert.SinkReferenceIdeal.nD Cert.SinkReferenceIdeal.τ).loc Cert.SinkReferenceIdeal.main_v33) = v0 c
          ∧ r.2.mem ((c.tc : Thread Cert.SinkReferenceIdeal.nD Cert.SinkReferenceIdeal.τ).loc Cert.SinkReferenceIdeal.main_arg0) = m' ((c.tc : Thread Cert.SinkReferenceIdeal.nD Cert.SinkReferenceIdeal.τ).loc Cert.SinkReferenceIdeal.main_arg0)
          ∧ r.2.mem ((c.tc : Thread Cert.SinkReferenceIdeal.nD Cert.SinkReferenceIdeal.τ).loc Cert.SinkReferenceIdeal.main_arg1) = m' ((c.tc : Thread Cert.SinkReferenceIdeal.nD Cert.SinkReferenceIdeal.τ).loc Cert.SinkReferenceIdeal.main_arg1)
          ∧ r.2.mem ((c.tc : Thread Cert.SinkReferenceIdeal.nD Cert.SinkReferenceIdeal.τ).loc Cert.SinkReferenceIdeal.main_arg2) = m' ((c.tc : Thread Cert.SinkReferenceIdeal.nD Cert.SinkReferenceIdeal.τ).loc Cert.SinkReferenceIdeal.main_arg2)
          ∧ r.2.mem ((c.tc : Thread Cert.SinkReferenceIdeal.nD Cert.SinkReferenceIdeal.τ).loc Cert.SinkReferenceIdeal.main_arg3) = m' ((c.tc : Thread Cert.SinkReferenceIdeal.nD Cert.SinkReferenceIdeal.τ).loc Cert.SinkReferenceIdeal.main_arg3)
          ∧ r.2.mem ((c.tc : Thread Cert.SinkReferenceIdeal.nD Cert.SinkReferenceIdeal.τ).loc Cert.SinkReferenceIdeal.main_arg4) = m' ((c.tc : Thread Cert.SinkReferenceIdeal.nD Cert.SinkReferenceIdeal.τ).loc Cert.SinkReferenceIdeal.main_arg4))

def preserves_InB_InBIdeal : Prop :=
  True

def algebraic_InBIdeal_InBReferenceIdeal [hInBIdeal : Cert.InBIdeal.Facts] [hInBReferenceIdeal : Cert.InBReferenceIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBReferenceIdeal.nD Cert.InBReferenceIdeal.τ Cert.InBReferenceIdeal.sig) → Buf (Elt Ideal) ℓ) (g' : Dev Cert.InBReferenceIdeal.nD → PrngReg), Pre_InBIdeal m →
    (∀ c : Dev Cert.InBIdeal.nD,
      m' ((c.tc : Thread Cert.InBReferenceIdeal.nD Cert.InBReferenceIdeal.τ).loc Cert.InBReferenceIdeal.main_arg0) = m ((c.tc : Thread Cert.InBIdeal.nD Cert.InBIdeal.τ).loc Cert.InBIdeal.main_arg0)
      ∧ m' ((c.tc : Thread Cert.InBReferenceIdeal.nD Cert.InBReferenceIdeal.τ).loc Cert.InBReferenceIdeal.main_arg1) = m ((c.tc : Thread Cert.InBIdeal.nD Cert.InBIdeal.τ).loc Cert.InBIdeal.main_arg1)
      ∧ m' ((c.tc : Thread Cert.InBReferenceIdeal.nD Cert.InBReferenceIdeal.τ).loc Cert.InBReferenceIdeal.main_arg2) = m ((c.tc : Thread Cert.InBIdeal.nD Cert.InBIdeal.τ).loc Cert.InBIdeal.main_arg2)
      ∧ m' ((c.tc : Thread Cert.InBReferenceIdeal.nD Cert.InBReferenceIdeal.τ).loc Cert.InBReferenceIdeal.main_arg3) = m ((c.tc : Thread Cert.InBIdeal.nD Cert.InBIdeal.τ).loc Cert.InBIdeal.main_arg3)
      ∧ m' ((c.tc : Thread Cert.InBReferenceIdeal.nD Cert.InBReferenceIdeal.τ).loc Cert.InBReferenceIdeal.main_arg4) = m ((c.tc : Thread Cert.InBIdeal.nD Cert.InBIdeal.τ).loc Cert.InBIdeal.main_arg4)
      ∧ m' ((c.tc : Thread Cert.InBReferenceIdeal.nD Cert.InBReferenceIdeal.τ).loc Cert.InBReferenceIdeal.main_arg5) = m ((c.tc : Thread Cert.InBIdeal.nD Cert.InBIdeal.τ).loc Cert.InBIdeal.main_arg5)
      ∧ m' ((c.tc : Thread Cert.InBReferenceIdeal.nD Cert.InBReferenceIdeal.τ).loc Cert.InBReferenceIdeal.main_arg6) = m ((c.tc : Thread Cert.InBIdeal.nD Cert.InBIdeal.τ).loc Cert.InBIdeal.main_arg6)) →
    ∃ (v0 : (c : Dev Cert.InBIdeal.nD) → Buf (Elt Ideal) ((c.tc : Thread Cert.InBIdeal.nD Cert.InBIdeal.τ).loc Cert.InBIdeal.main_v1_0)) (v1 : (c : Dev Cert.InBIdeal.nD) → Buf (Elt Ideal) ((c.tc : Thread Cert.InBIdeal.nD Cert.InBIdeal.τ).loc Cert.InBIdeal.main_v1_1)) (v2 : (c : Dev Cert.InBIdeal.nD) → Buf (Elt Ideal) ((c.tc : Thread Cert.InBIdeal.nD Cert.InBIdeal.τ).loc Cert.InBIdeal.main_v1_2)) (v3 : (c : Dev Cert.InBIdeal.nD) → Buf (Elt Ideal) ((c.tc : Thread Cert.InBIdeal.nD Cert.InBIdeal.τ).loc Cert.InBIdeal.main_v1_3)) (v4 : (c : Dev Cert.InBIdeal.nD) → Buf (Elt Ideal) ((c.tc : Thread Cert.InBIdeal.nD Cert.InBIdeal.τ).loc Cert.InBIdeal.main_v1_4)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v1_0) = v0 c
          ∧ r.2.mem ((c.tc : Thread Cert.InBIdeal.nD Cert.InBIdeal.τ).loc Cert.InBIdeal.main_v1_1) = v1 c
          ∧ r.2.mem ((c.tc : Thread Cert.InBIdeal.nD Cert.InBIdeal.τ).loc Cert.InBIdeal.main_v1_2) = v2 c
          ∧ r.2.mem ((c.tc : Thread Cert.InBIdeal.nD Cert.InBIdeal.τ).loc Cert.InBIdeal.main_v1_3) = v3 c
          ∧ r.2.mem ((c.tc : Thread Cert.InBIdeal.nD Cert.InBIdeal.τ).loc Cert.InBIdeal.main_v1_4) = v4 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
          ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
          ∧ r.2.mem ((c.tc : Thread Cert.InBIdeal.nD Cert.InBIdeal.τ).loc Cert.InBIdeal.main_arg6) = m ((c.tc : Thread Cert.InBIdeal.nD Cert.InBIdeal.τ).loc Cert.InBIdeal.main_arg6))
      ∧ θ_run (Cert.InBReferenceIdeal.defs (F := Ideal)) (onTc (τ := Cert.InBReferenceIdeal.τ) (Cert.InBReferenceIdeal.main (F := Ideal))) ⟨m', fun _ => 0, g'⟩ (fun r => ∀ c : Dev Cert.InBReferenceIdeal.nD,
          r.2.mem ((c.tc : Thread Cert.InBReferenceIdeal.nD Cert.InBReferenceIdeal.τ).loc Cert.InBReferenceIdeal.main_v8) = v0 c
          ∧ r.2.mem ((c.tc : Thread Cert.InBReferenceIdeal.nD Cert.InBReferenceIdeal.τ).loc Cert.InBReferenceIdeal.main_v41) = v1 c
          ∧ r.2.mem ((c.tc : Thread Cert.InBReferenceIdeal.nD Cert.InBReferenceIdeal.τ).loc Cert.InBReferenceIdeal.main_v43) = v2 c
          ∧ r.2.mem ((c.tc : Thread Cert.InBReferenceIdeal.nD Cert.InBReferenceIdeal.τ).loc Cert.InBReferenceIdeal.main_v37) = v3 c
          ∧ r.2.mem ((c.tc : Thread Cert.InBReferenceIdeal.nD Cert.InBReferenceIdeal.τ).loc Cert.InBReferenceIdeal.main_v44) = v4 c
          ∧ r.2.mem ((c.tc : Thread Cert.InBReferenceIdeal.nD Cert.InBReferenceIdeal.τ).loc Cert.InBReferenceIdeal.main_arg0) = m' ((c.tc : Thread Cert.InBReferenceIdeal.nD Cert.InBReferenceIdeal.τ).loc Cert.InBReferenceIdeal.main_arg0)
          ∧ r.2.mem ((c.tc : Thread Cert.InBReferenceIdeal.nD Cert.InBReferenceIdeal.τ).loc Cert.InBReferenceIdeal.main_arg1) = m' ((c.tc : Thread Cert.InBReferenceIdeal.nD Cert.InBReferenceIdeal.τ).loc Cert.InBReferenceIdeal.main_arg1)
          ∧ r.2.mem ((c.tc : Thread Cert.InBReferenceIdeal.nD Cert.InBReferenceIdeal.τ).loc Cert.InBReferenceIdeal.main_arg2) = m' ((c.tc : Thread Cert.InBReferenceIdeal.nD Cert.InBReferenceIdeal.τ).loc Cert.InBReferenceIdeal.main_arg2)
          ∧ r.2.mem ((c.tc : Thread Cert.InBReferenceIdeal.nD Cert.InBReferenceIdeal.τ).loc Cert.InBReferenceIdeal.main_arg3) = m' ((c.tc : Thread Cert.InBReferenceIdeal.nD Cert.InBReferenceIdeal.τ).loc Cert.InBReferenceIdeal.main_arg3)
          ∧ r.2.mem ((c.tc : Thread Cert.InBReferenceIdeal.nD Cert.InBReferenceIdeal.τ).loc Cert.InBReferenceIdeal.main_arg4) = m' ((c.tc : Thread Cert.InBReferenceIdeal.nD Cert.InBReferenceIdeal.τ).loc Cert.InBReferenceIdeal.main_arg4)
          ∧ r.2.mem ((c.tc : Thread Cert.InBReferenceIdeal.nD Cert.InBReferenceIdeal.τ).loc Cert.InBReferenceIdeal.main_arg5) = m' ((c.tc : Thread Cert.InBReferenceIdeal.nD Cert.InBReferenceIdeal.τ).loc Cert.InBReferenceIdeal.main_arg5)
          ∧ r.2.mem ((c.tc : Thread Cert.InBReferenceIdeal.nD Cert.InBReferenceIdeal.τ).loc Cert.InBReferenceIdeal.main_arg6) = m' ((c.tc : Thread Cert.InBReferenceIdeal.nD Cert.InBReferenceIdeal.τ).loc Cert.InBReferenceIdeal.main_arg6))

def preserves_InC_InCIdeal : Prop :=
  True

def algebraic_InCIdeal_InCReferenceIdeal [hInCIdeal : Cert.InCIdeal.Facts] [hInCReferenceIdeal : Cert.InCReferenceIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCReferenceIdeal.nD Cert.InCReferenceIdeal.τ Cert.InCReferenceIdeal.sig) → Buf (Elt Ideal) ℓ) (g' : Dev Cert.InCReferenceIdeal.nD → PrngReg), Pre_InCIdeal m →
    (∀ c : Dev Cert.InCIdeal.nD,
      m' ((c.tc : Thread Cert.InCReferenceIdeal.nD Cert.InCReferenceIdeal.τ).loc Cert.InCReferenceIdeal.main_arg0) = m ((c.tc : Thread Cert.InCIdeal.nD Cert.InCIdeal.τ).loc Cert.InCIdeal.main_arg0)
      ∧ m' ((c.tc : Thread Cert.InCReferenceIdeal.nD Cert.InCReferenceIdeal.τ).loc Cert.InCReferenceIdeal.main_arg1) = m ((c.tc : Thread Cert.InCIdeal.nD Cert.InCIdeal.τ).loc Cert.InCIdeal.main_arg1)
      ∧ m' ((c.tc : Thread Cert.InCReferenceIdeal.nD Cert.InCReferenceIdeal.τ).loc Cert.InCReferenceIdeal.main_arg2) = m ((c.tc : Thread Cert.InCIdeal.nD Cert.InCIdeal.τ).loc Cert.InCIdeal.main_arg2)
      ∧ m' ((c.tc : Thread Cert.InCReferenceIdeal.nD Cert.InCReferenceIdeal.τ).loc Cert.InCReferenceIdeal.main_arg3) = m ((c.tc : Thread Cert.InCIdeal.nD Cert.InCIdeal.τ).loc Cert.InCIdeal.main_arg3)
      ∧ m' ((c.tc : Thread Cert.InCReferenceIdeal.nD Cert.InCReferenceIdeal.τ).loc Cert.InCReferenceIdeal.main_arg4) = m ((c.tc : Thread Cert.InCIdeal.nD Cert.InCIdeal.τ).loc Cert.InCIdeal.main_arg4)
      ∧ m' ((c.tc : Thread Cert.InCReferenceIdeal.nD Cert.InCReferenceIdeal.τ).loc Cert.InCReferenceIdeal.main_arg5) = m ((c.tc : Thread Cert.InCIdeal.nD Cert.InCIdeal.τ).loc Cert.InCIdeal.main_arg5)
      ∧ m' ((c.tc : Thread Cert.InCReferenceIdeal.nD Cert.InCReferenceIdeal.τ).loc Cert.InCReferenceIdeal.main_arg6) = m ((c.tc : Thread Cert.InCIdeal.nD Cert.InCIdeal.τ).loc Cert.InCIdeal.main_arg6)
      ∧ m' ((c.tc : Thread Cert.InCReferenceIdeal.nD Cert.InCReferenceIdeal.τ).loc Cert.InCReferenceIdeal.main_arg7) = m ((c.tc : Thread Cert.InCIdeal.nD Cert.InCIdeal.τ).loc Cert.InCIdeal.main_arg7)
      ∧ m' ((c.tc : Thread Cert.InCReferenceIdeal.nD Cert.InCReferenceIdeal.τ).loc Cert.InCReferenceIdeal.main_arg8) = m ((c.tc : Thread Cert.InCIdeal.nD Cert.InCIdeal.τ).loc Cert.InCIdeal.main_arg8)
      ∧ m' ((c.tc : Thread Cert.InCReferenceIdeal.nD Cert.InCReferenceIdeal.τ).loc Cert.InCReferenceIdeal.main_arg9) = m ((c.tc : Thread Cert.InCIdeal.nD Cert.InCIdeal.τ).loc Cert.InCIdeal.main_arg9)) →
    ∃ (v0 : (c : Dev Cert.InCIdeal.nD) → Buf (Elt Ideal) ((c.tc : Thread Cert.InCIdeal.nD Cert.InCIdeal.τ).loc Cert.InCIdeal.main_v1_0)) (v1 : (c : Dev Cert.InCIdeal.nD) → Buf (Elt Ideal) ((c.tc : Thread Cert.InCIdeal.nD Cert.InCIdeal.τ).loc Cert.InCIdeal.main_v1_1)) (v2 : (c : Dev Cert.InCIdeal.nD) → Buf (Elt Ideal) ((c.tc : Thread Cert.InCIdeal.nD Cert.InCIdeal.τ).loc Cert.InCIdeal.main_v1_2)) (v3 : (c : Dev Cert.InCIdeal.nD) → Buf (Elt Ideal) ((c.tc : Thread Cert.InCIdeal.nD Cert.InCIdeal.τ).loc Cert.InCIdeal.main_v1_3)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v1_0) = v0 c
          ∧ r.2.mem ((c.tc : Thread Cert.InCIdeal.nD Cert.InCIdeal.τ).loc Cert.InCIdeal.main_v1_1) = v1 c
          ∧ r.2.mem ((c.tc : Thread Cert.InCIdeal.nD Cert.InCIdeal.τ).loc Cert.InCIdeal.main_v1_2) = v2 c
          ∧ r.2.mem ((c.tc : Thread Cert.InCIdeal.nD Cert.InCIdeal.τ).loc Cert.InCIdeal.main_v1_3) = v3 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
          ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
          ∧ r.2.mem ((c.tc : Thread Cert.InCIdeal.nD Cert.InCIdeal.τ).loc Cert.InCIdeal.main_arg4) = m ((c.tc : Thread Cert.InCIdeal.nD Cert.InCIdeal.τ).loc Cert.InCIdeal.main_arg4)
          ∧ r.2.mem ((c.tc : Thread Cert.InCIdeal.nD Cert.InCIdeal.τ).loc Cert.InCIdeal.main_arg5) = m ((c.tc : Thread Cert.InCIdeal.nD Cert.InCIdeal.τ).loc Cert.InCIdeal.main_arg5)
          ∧ r.2.mem ((c.tc : Thread Cert.InCIdeal.nD Cert.InCIdeal.τ).loc Cert.InCIdeal.main_arg6) = m ((c.tc : Thread Cert.InCIdeal.nD Cert.InCIdeal.τ).loc Cert.InCIdeal.main_arg6)
          ∧ r.2.mem ((c.tc : Thread Cert.InCIdeal.nD Cert.InCIdeal.τ).loc Cert.InCIdeal.main_arg7) = m ((c.tc : Thread Cert.InCIdeal.nD Cert.InCIdeal.τ).loc Cert.InCIdeal.main_arg7)
          ∧ r.2.mem ((c.tc : Thread Cert.InCIdeal.nD Cert.InCIdeal.τ).loc Cert.InCIdeal.main_arg8) = m ((c.tc : Thread Cert.InCIdeal.nD Cert.InCIdeal.τ).loc Cert.InCIdeal.main_arg8)
          ∧ r.2.mem ((c.tc : Thread Cert.InCIdeal.nD Cert.InCIdeal.τ).loc Cert.InCIdeal.main_arg9) = m ((c.tc : Thread Cert.InCIdeal.nD Cert.InCIdeal.τ).loc Cert.InCIdeal.main_arg9))
      ∧ θ_run (Cert.InCReferenceIdeal.defs (F := Ideal)) (onTc (τ := Cert.InCReferenceIdeal.τ) (Cert.InCReferenceIdeal.main (F := Ideal))) ⟨m', fun _ => 0, g'⟩ (fun r => ∀ c : Dev Cert.InCReferenceIdeal.nD,
          r.2.mem ((c.tc : Thread Cert.InCReferenceIdeal.nD Cert.InCReferenceIdeal.τ).loc Cert.InCReferenceIdeal.main_v8) = v0 c
          ∧ r.2.mem ((c.tc : Thread Cert.InCReferenceIdeal.nD Cert.InCReferenceIdeal.τ).loc Cert.InCReferenceIdeal.main_v54) = v1 c
          ∧ r.2.mem ((c.tc : Thread Cert.InCReferenceIdeal.nD Cert.InCReferenceIdeal.τ).loc Cert.InCReferenceIdeal.main_v56) = v2 c
          ∧ r.2.mem ((c.tc : Thread Cert.InCReferenceIdeal.nD Cert.InCReferenceIdeal.τ).loc Cert.InCReferenceIdeal.main_v52) = v3 c
          ∧ r.2.mem ((c.tc : Thread Cert.InCReferenceIdeal.nD Cert.InCReferenceIdeal.τ).loc Cert.InCReferenceIdeal.main_arg0) = m' ((c.tc : Thread Cert.InCReferenceIdeal.nD Cert.InCReferenceIdeal.τ).loc Cert.InCReferenceIdeal.main_arg0)
          ∧ r.2.mem ((c.tc : Thread Cert.InCReferenceIdeal.nD Cert.InCReferenceIdeal.τ).loc Cert.InCReferenceIdeal.main_arg1) = m' ((c.tc : Thread Cert.InCReferenceIdeal.nD Cert.InCReferenceIdeal.τ).loc Cert.InCReferenceIdeal.main_arg1)
          ∧ r.2.mem ((c.tc : Thread Cert.InCReferenceIdeal.nD Cert.InCReferenceIdeal.τ).loc Cert.InCReferenceIdeal.main_arg2) = m' ((c.tc : Thread Cert.InCReferenceIdeal.nD Cert.InCReferenceIdeal.τ).loc Cert.InCReferenceIdeal.main_arg2)
          ∧ r.2.mem ((c.tc : Thread Cert.InCReferenceIdeal.nD Cert.InCReferenceIdeal.τ).loc Cert.InCReferenceIdeal.main_arg3) = m' ((c.tc : Thread Cert.InCReferenceIdeal.nD Cert.InCReferenceIdeal.τ).loc Cert.InCReferenceIdeal.main_arg3)
          ∧ r.2.mem ((c.tc : Thread Cert.InCReferenceIdeal.nD Cert.InCReferenceIdeal.τ).loc Cert.InCReferenceIdeal.main_arg4) = m' ((c.tc : Thread Cert.InCReferenceIdeal.nD Cert.InCReferenceIdeal.τ).loc Cert.InCReferenceIdeal.main_arg4)
          ∧ r.2.mem ((c.tc : Thread Cert.InCReferenceIdeal.nD Cert.InCReferenceIdeal.τ).loc Cert.InCReferenceIdeal.main_arg5) = m' ((c.tc : Thread Cert.InCReferenceIdeal.nD Cert.InCReferenceIdeal.τ).loc Cert.InCReferenceIdeal.main_arg5)
          ∧ r.2.mem ((c.tc : Thread Cert.InCReferenceIdeal.nD Cert.InCReferenceIdeal.τ).loc Cert.InCReferenceIdeal.main_arg6) = m' ((c.tc : Thread Cert.InCReferenceIdeal.nD Cert.InCReferenceIdeal.τ).loc Cert.InCReferenceIdeal.main_arg6)
          ∧ r.2.mem ((c.tc : Thread Cert.InCReferenceIdeal.nD Cert.InCReferenceIdeal.τ).loc Cert.InCReferenceIdeal.main_arg7) = m' ((c.tc : Thread Cert.InCReferenceIdeal.nD Cert.InCReferenceIdeal.τ).loc Cert.InCReferenceIdeal.main_arg7)
          ∧ r.2.mem ((c.tc : Thread Cert.InCReferenceIdeal.nD Cert.InCReferenceIdeal.τ).loc Cert.InCReferenceIdeal.main_arg8) = m' ((c.tc : Thread Cert.InCReferenceIdeal.nD Cert.InCReferenceIdeal.τ).loc Cert.InCReferenceIdeal.main_arg8)
          ∧ r.2.mem ((c.tc : Thread Cert.InCReferenceIdeal.nD Cert.InCReferenceIdeal.τ).loc Cert.InCReferenceIdeal.main_arg9) = m' ((c.tc : Thread Cert.InCReferenceIdeal.nD Cert.InCReferenceIdeal.τ).loc Cert.InCReferenceIdeal.main_arg9))

def preserves_InA_InAIdeal : Prop :=
  True

def algebraic_InAIdeal_InAReferenceIdeal [hInAIdeal : Cert.InAIdeal.Facts] [hInAReferenceIdeal : Cert.InAReferenceIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InAReferenceIdeal.nD Cert.InAReferenceIdeal.τ Cert.InAReferenceIdeal.sig) → Buf (Elt Ideal) ℓ) (g' : Dev Cert.InAReferenceIdeal.nD → PrngReg), Pre_InAIdeal m →
    (∀ c : Dev Cert.InAIdeal.nD,
      m' ((c.tc : Thread Cert.InAReferenceIdeal.nD Cert.InAReferenceIdeal.τ).loc Cert.InAReferenceIdeal.main_arg0) = m ((c.tc : Thread Cert.InAIdeal.nD Cert.InAIdeal.τ).loc Cert.InAIdeal.main_arg0)
      ∧ m' ((c.tc : Thread Cert.InAReferenceIdeal.nD Cert.InAReferenceIdeal.τ).loc Cert.InAReferenceIdeal.main_arg1) = m ((c.tc : Thread Cert.InAIdeal.nD Cert.InAIdeal.τ).loc Cert.InAIdeal.main_arg1)
      ∧ m' ((c.tc : Thread Cert.InAReferenceIdeal.nD Cert.InAReferenceIdeal.τ).loc Cert.InAReferenceIdeal.main_arg2) = m ((c.tc : Thread Cert.InAIdeal.nD Cert.InAIdeal.τ).loc Cert.InAIdeal.main_arg2)
      ∧ m' ((c.tc : Thread Cert.InAReferenceIdeal.nD Cert.InAReferenceIdeal.τ).loc Cert.InAReferenceIdeal.main_arg3) = m ((c.tc : Thread Cert.InAIdeal.nD Cert.InAIdeal.τ).loc Cert.InAIdeal.main_arg3)
      ∧ m' ((c.tc : Thread Cert.InAReferenceIdeal.nD Cert.InAReferenceIdeal.τ).loc Cert.InAReferenceIdeal.main_arg4) = m ((c.tc : Thread Cert.InAIdeal.nD Cert.InAIdeal.τ).loc Cert.InAIdeal.main_arg4)
      ∧ m' ((c.tc : Thread Cert.InAReferenceIdeal.nD Cert.InAReferenceIdeal.τ).loc Cert.InAReferenceIdeal.main_arg5) = m ((c.tc : Thread Cert.InAIdeal.nD Cert.InAIdeal.τ).loc Cert.InAIdeal.main_arg5)
      ∧ m' ((c.tc : Thread Cert.InAReferenceIdeal.nD Cert.InAReferenceIdeal.τ).loc Cert.InAReferenceIdeal.main_arg6) = m ((c.tc : Thread Cert.InAIdeal.nD Cert.InAIdeal.τ).loc Cert.InAIdeal.main_arg6)) →
    ∃ (v0 : (c : Dev Cert.InAIdeal.nD) → Buf (Elt Ideal) ((c.tc : Thread Cert.InAIdeal.nD Cert.InAIdeal.τ).loc Cert.InAIdeal.main_v1_0)) (v1 : (c : Dev Cert.InAIdeal.nD) → Buf (Elt Ideal) ((c.tc : Thread Cert.InAIdeal.nD Cert.InAIdeal.τ).loc Cert.InAIdeal.main_v1_1)) (v2 : (c : Dev Cert.InAIdeal.nD) → Buf (Elt Ideal) ((c.tc : Thread Cert.InAIdeal.nD Cert.InAIdeal.τ).loc Cert.InAIdeal.main_v1_2)) (v3 : (c : Dev Cert.InAIdeal.nD) → Buf (Elt Ideal) ((c.tc : Thread Cert.InAIdeal.nD Cert.InAIdeal.τ).loc Cert.InAIdeal.main_v1_3)) (v4 : (c : Dev Cert.InAIdeal.nD) → Buf (Elt Ideal) ((c.tc : Thread Cert.InAIdeal.nD Cert.InAIdeal.τ).loc Cert.InAIdeal.main_v1_4)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v1_0) = v0 c
          ∧ r.2.mem ((c.tc : Thread Cert.InAIdeal.nD Cert.InAIdeal.τ).loc Cert.InAIdeal.main_v1_1) = v1 c
          ∧ r.2.mem ((c.tc : Thread Cert.InAIdeal.nD Cert.InAIdeal.τ).loc Cert.InAIdeal.main_v1_2) = v2 c
          ∧ r.2.mem ((c.tc : Thread Cert.InAIdeal.nD Cert.InAIdeal.τ).loc Cert.InAIdeal.main_v1_3) = v3 c
          ∧ r.2.mem ((c.tc : Thread Cert.InAIdeal.nD Cert.InAIdeal.τ).loc Cert.InAIdeal.main_v1_4) = v4 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
          ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
          ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ θ_run (Cert.InAReferenceIdeal.defs (F := Ideal)) (onTc (τ := Cert.InAReferenceIdeal.τ) (Cert.InAReferenceIdeal.main (F := Ideal))) ⟨m', fun _ => 0, g'⟩ (fun r => ∀ c : Dev Cert.InAReferenceIdeal.nD,
          r.2.mem ((c.tc : Thread Cert.InAReferenceIdeal.nD Cert.InAReferenceIdeal.τ).loc Cert.InAReferenceIdeal.main_v8) = v0 c
          ∧ r.2.mem ((c.tc : Thread Cert.InAReferenceIdeal.nD Cert.InAReferenceIdeal.τ).loc Cert.InAReferenceIdeal.main_v41) = v1 c
          ∧ r.2.mem ((c.tc : Thread Cert.InAReferenceIdeal.nD Cert.InAReferenceIdeal.τ).loc Cert.InAReferenceIdeal.main_v43) = v2 c
          ∧ r.2.mem ((c.tc : Thread Cert.InAReferenceIdeal.nD Cert.InAReferenceIdeal.τ).loc Cert.InAReferenceIdeal.main_v45) = v3 c
          ∧ r.2.mem ((c.tc : Thread Cert.InAReferenceIdeal.nD Cert.InAReferenceIdeal.τ).loc Cert.InAReferenceIdeal.main_v46) = v4 c
          ∧ r.2.mem ((c.tc : Thread Cert.InAReferenceIdeal.nD Cert.InAReferenceIdeal.τ).loc Cert.InAReferenceIdeal.main_arg0) = m' ((c.tc : Thread Cert.InAReferenceIdeal.nD Cert.InAReferenceIdeal.τ).loc Cert.InAReferenceIdeal.main_arg0)
          ∧ r.2.mem ((c.tc : Thread Cert.InAReferenceIdeal.nD Cert.InAReferenceIdeal.τ).loc Cert.InAReferenceIdeal.main_arg1) = m' ((c.tc : Thread Cert.InAReferenceIdeal.nD Cert.InAReferenceIdeal.τ).loc Cert.InAReferenceIdeal.main_arg1)
          ∧ r.2.mem ((c.tc : Thread Cert.InAReferenceIdeal.nD Cert.InAReferenceIdeal.τ).loc Cert.InAReferenceIdeal.main_arg2) = m' ((c.tc : Thread Cert.InAReferenceIdeal.nD Cert.InAReferenceIdeal.τ).loc Cert.InAReferenceIdeal.main_arg2)
          ∧ r.2.mem ((c.tc : Thread Cert.InAReferenceIdeal.nD Cert.InAReferenceIdeal.τ).loc Cert.InAReferenceIdeal.main_arg3) = m' ((c.tc : Thread Cert.InAReferenceIdeal.nD Cert.InAReferenceIdeal.τ).loc Cert.InAReferenceIdeal.main_arg3)
          ∧ r.2.mem ((c.tc : Thread Cert.InAReferenceIdeal.nD Cert.InAReferenceIdeal.τ).loc Cert.InAReferenceIdeal.main_arg4) = m' ((c.tc : Thread Cert.InAReferenceIdeal.nD Cert.InAReferenceIdeal.τ).loc Cert.InAReferenceIdeal.main_arg4)
          ∧ r.2.mem ((c.tc : Thread Cert.InAReferenceIdeal.nD Cert.InAReferenceIdeal.τ).loc Cert.InAReferenceIdeal.main_arg5) = m' ((c.tc : Thread Cert.InAReferenceIdeal.nD Cert.InAReferenceIdeal.τ).loc Cert.InAReferenceIdeal.main_arg5)
          ∧ r.2.mem ((c.tc : Thread Cert.InAReferenceIdeal.nD Cert.InAReferenceIdeal.τ).loc Cert.InAReferenceIdeal.main_arg6) = m' ((c.tc : Thread Cert.InAReferenceIdeal.nD Cert.InAReferenceIdeal.τ).loc Cert.InAReferenceIdeal.main_arg6))

def preserves_FirstA_FirstAIdeal : Prop :=
  True

def algebraic_FirstAIdeal_FirstAReferenceIdeal [hFirstAIdeal : Cert.FirstAIdeal.Facts] [hFirstAReferenceIdeal : Cert.FirstAReferenceIdeal.Facts] : Prop :=
  ∀ (m : (ℓ : Loc Cert.FirstAIdeal.nD Cert.FirstAIdeal.τ Cert.FirstAIdeal.sig) → Buf (Elt Ideal) ℓ) (g : Dev Cert.FirstAIdeal.nD → PrngReg)
    (m' : (ℓ : Loc Cert.FirstAReferenceIdeal.nD Cert.FirstAReferenceIdeal.τ Cert.FirstAReferenceIdeal.sig) → Buf (Elt Ideal) ℓ) (g' : Dev Cert.FirstAReferenceIdeal.nD → PrngReg), Pre_FirstAIdeal m →
    (∀ c : Dev Cert.FirstAIdeal.nD,
      m' ((c.tc : Thread Cert.FirstAReferenceIdeal.nD Cert.FirstAReferenceIdeal.τ).loc Cert.FirstAReferenceIdeal.main_arg0) = m ((c.tc : Thread Cert.FirstAIdeal.nD Cert.FirstAIdeal.τ).loc Cert.FirstAIdeal.main_arg0)
      ∧ m' ((c.tc : Thread Cert.FirstAReferenceIdeal.nD Cert.FirstAReferenceIdeal.τ).loc Cert.FirstAReferenceIdeal.main_arg1) = m ((c.tc : Thread Cert.FirstAIdeal.nD Cert.FirstAIdeal.τ).loc Cert.FirstAIdeal.main_arg1)
      ∧ m' ((c.tc : Thread Cert.FirstAReferenceIdeal.nD Cert.FirstAReferenceIdeal.τ).loc Cert.FirstAReferenceIdeal.main_arg2) = m ((c.tc : Thread Cert.FirstAIdeal.nD Cert.FirstAIdeal.τ).loc Cert.FirstAIdeal.main_arg2)
      ∧ m' ((c.tc : Thread Cert.FirstAReferenceIdeal.nD Cert.FirstAReferenceIdeal.τ).loc Cert.FirstAReferenceIdeal.main_arg3) = m ((c.tc : Thread Cert.FirstAIdeal.nD Cert.FirstAIdeal.τ).loc Cert.FirstAIdeal.main_arg3)) →
    ∃ (v0 : (c : Dev Cert.FirstAIdeal.nD) → Buf (Elt Ideal) ((c.tc : Thread Cert.FirstAIdeal.nD Cert.FirstAIdeal.τ).loc Cert.FirstAIdeal.main_v1_0)) (v1 : (c : Dev Cert.FirstAIdeal.nD) → Buf (Elt Ideal) ((c.tc : Thread Cert.FirstAIdeal.nD Cert.FirstAIdeal.τ).loc Cert.FirstAIdeal.main_v1_1)) (v2 : (c : Dev Cert.FirstAIdeal.nD) → Buf (Elt Ideal) ((c.tc : Thread Cert.FirstAIdeal.nD Cert.FirstAIdeal.τ).loc Cert.FirstAIdeal.main_v1_2)) (v3 : (c : Dev Cert.FirstAIdeal.nD) → Buf (Elt Ideal) ((c.tc : Thread Cert.FirstAIdeal.nD Cert.FirstAIdeal.τ).loc Cert.FirstAIdeal.main_v1_3)),
      θ_run (Cert.FirstAIdeal.defs (F := Ideal)) (onTc (τ := Cert.FirstAIdeal.τ) (Cert.FirstAIdeal.main (F := Ideal))) ⟨m, fun _ => 0, g⟩ (fun r => ∀ c : Dev Cert.FirstAIdeal.nD,
          r.2.mem ((c.tc : Thread Cert.FirstAIdeal.nD Cert.FirstAIdeal.τ).loc Cert.FirstAIdeal.main_v1_0) = v0 c
          ∧ r.2.mem ((c.tc : Thread Cert.FirstAIdeal.nD Cert.FirstAIdeal.τ).loc Cert.FirstAIdeal.main_v1_1) = v1 c
          ∧ r.2.mem ((c.tc : Thread Cert.FirstAIdeal.nD Cert.FirstAIdeal.τ).loc Cert.FirstAIdeal.main_v1_2) = v2 c
          ∧ r.2.mem ((c.tc : Thread Cert.FirstAIdeal.nD Cert.FirstAIdeal.τ).loc Cert.FirstAIdeal.main_v1_3) = v3 c
          ∧ r.2.mem ((c.tc : Thread Cert.FirstAIdeal.nD Cert.FirstAIdeal.τ).loc Cert.FirstAIdeal.main_arg0) = m ((c.tc : Thread Cert.FirstAIdeal.nD Cert.FirstAIdeal.τ).loc Cert.FirstAIdeal.main_arg0)
          ∧ r.2.mem ((c.tc : Thread Cert.FirstAIdeal.nD Cert.FirstAIdeal.τ).loc Cert.FirstAIdeal.main_arg1) = m ((c.tc : Thread Cert.FirstAIdeal.nD Cert.FirstAIdeal.τ).loc Cert.FirstAIdeal.main_arg1)
          ∧ r.2.mem ((c.tc : Thread Cert.FirstAIdeal.nD Cert.FirstAIdeal.τ).loc Cert.FirstAIdeal.main_arg2) = m ((c.tc : Thread Cert.FirstAIdeal.nD Cert.FirstAIdeal.τ).loc Cert.FirstAIdeal.main_arg2)
          ∧ r.2.mem ((c.tc : Thread Cert.FirstAIdeal.nD Cert.FirstAIdeal.τ).loc Cert.FirstAIdeal.main_arg3) = m ((c.tc : Thread Cert.FirstAIdeal.nD Cert.FirstAIdeal.τ).loc Cert.FirstAIdeal.main_arg3))
      ∧ θ_run (Cert.FirstAReferenceIdeal.defs (F := Ideal)) (onTc (τ := Cert.FirstAReferenceIdeal.τ) (Cert.FirstAReferenceIdeal.main (F := Ideal))) ⟨m', fun _ => 0, g'⟩ (fun r => ∀ c : Dev Cert.FirstAReferenceIdeal.nD,
          r.2.mem ((c.tc : Thread Cert.FirstAReferenceIdeal.nD Cert.FirstAReferenceIdeal.τ).loc Cert.FirstAReferenceIdeal.main_v32) = v0 c
          ∧ r.2.mem ((c.tc : Thread Cert.FirstAReferenceIdeal.nD Cert.FirstAReferenceIdeal.τ).loc Cert.FirstAReferenceIdeal.main_v34) = v1 c
          ∧ r.2.mem ((c.tc : Thread Cert.FirstAReferenceIdeal.nD Cert.FirstAReferenceIdeal.τ).loc Cert.FirstAReferenceIdeal.main_v36) = v2 c
          ∧ r.2.mem ((c.tc : Thread Cert.FirstAReferenceIdeal.nD Cert.FirstAReferenceIdeal.τ).loc Cert.FirstAReferenceIdeal.main_v37) = v3 c
          ∧ r.2.mem ((c.tc : Thread Cert.FirstAReferenceIdeal.nD Cert.FirstAReferenceIdeal.τ).loc Cert.FirstAReferenceIdeal.main_arg0) = m' ((c.tc : Thread Cert.FirstAReferenceIdeal.nD Cert.FirstAReferenceIdeal.τ).loc Cert.FirstAReferenceIdeal.main_arg0)
          ∧ r.2.mem ((c.tc : Thread Cert.FirstAReferenceIdeal.nD Cert.FirstAReferenceIdeal.τ).loc Cert.FirstAReferenceIdeal.main_arg1) = m' ((c.tc : Thread Cert.FirstAReferenceIdeal.nD Cert.FirstAReferenceIdeal.τ).loc Cert.FirstAReferenceIdeal.main_arg1)
          ∧ r.2.mem ((c.tc : Thread Cert.FirstAReferenceIdeal.nD Cert.FirstAReferenceIdeal.τ).loc Cert.FirstAReferenceIdeal.main_arg2) = m' ((c.tc : Thread Cert.FirstAReferenceIdeal.nD Cert.FirstAReferenceIdeal.τ).loc Cert.FirstAReferenceIdeal.main_arg2)
          ∧ r.2.mem ((c.tc : Thread Cert.FirstAReferenceIdeal.nD Cert.FirstAReferenceIdeal.τ).loc Cert.FirstAReferenceIdeal.main_arg3) = m' ((c.tc : Thread Cert.FirstAReferenceIdeal.nD Cert.FirstAReferenceIdeal.τ).loc Cert.FirstAReferenceIdeal.main_arg3))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)
      ∧ m' ((c.tc : Thread Cert.ModReferenceIdeal.nD Cert.ModReferenceIdeal.τ).loc Cert.ModReferenceIdeal.main_arg4) = m ((c.tc : Thread Cert.ModIdeal.nD Cert.ModIdeal.τ).loc Cert.ModIdeal.main_arg4)
      ∧ m' ((c.tc : Thread Cert.ModReferenceIdeal.nD Cert.ModReferenceIdeal.τ).loc Cert.ModReferenceIdeal.main_arg5) = m ((c.tc : Thread Cert.ModIdeal.nD Cert.ModIdeal.τ).loc Cert.ModIdeal.main_arg5)
      ∧ m' ((c.tc : Thread Cert.ModReferenceIdeal.nD Cert.ModReferenceIdeal.τ).loc Cert.ModReferenceIdeal.main_arg6) = m ((c.tc : Thread Cert.ModIdeal.nD Cert.ModIdeal.τ).loc Cert.ModIdeal.main_arg6)
      ∧ m' ((c.tc : Thread Cert.ModReferenceIdeal.nD Cert.ModReferenceIdeal.τ).loc Cert.ModReferenceIdeal.main_arg7) = m ((c.tc : Thread Cert.ModIdeal.nD Cert.ModIdeal.τ).loc Cert.ModIdeal.main_arg7)
      ∧ m' ((c.tc : Thread Cert.ModReferenceIdeal.nD Cert.ModReferenceIdeal.τ).loc Cert.ModReferenceIdeal.main_arg8) = m ((c.tc : Thread Cert.ModIdeal.nD Cert.ModIdeal.τ).loc Cert.ModIdeal.main_arg8)) →
    ∃ (v0 : (c : Dev Cert.ModIdeal.nD) → Buf (Elt Ideal) ((c.tc : Thread Cert.ModIdeal.nD Cert.ModIdeal.τ).loc Cert.ModIdeal.main_v4_0)) (v1 : (c : Dev Cert.ModIdeal.nD) → Buf (Elt Ideal) ((c.tc : Thread Cert.ModIdeal.nD Cert.ModIdeal.τ).loc Cert.ModIdeal.main_v4_1)) (v2 : (c : Dev Cert.ModIdeal.nD) → Buf (Elt Ideal) ((c.tc : Thread Cert.ModIdeal.nD Cert.ModIdeal.τ).loc Cert.ModIdeal.main_v4_2)) (v3 : (c : Dev Cert.ModIdeal.nD) → Buf (Elt Ideal) ((c.tc : Thread Cert.ModIdeal.nD Cert.ModIdeal.τ).loc Cert.ModIdeal.main_v4_3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4_0) = v0 c
          ∧ r.2.mem ((c.tc : Thread Cert.ModIdeal.nD Cert.ModIdeal.τ).loc Cert.ModIdeal.main_v4_1) = v1 c
          ∧ r.2.mem ((c.tc : Thread Cert.ModIdeal.nD Cert.ModIdeal.τ).loc Cert.ModIdeal.main_v4_2) = v2 c
          ∧ r.2.mem ((c.tc : Thread Cert.ModIdeal.nD Cert.ModIdeal.τ).loc Cert.ModIdeal.main_v4_3) = v3 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
          ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
          ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
          ∧ r.2.mem ((c.tc : Thread Cert.ModIdeal.nD Cert.ModIdeal.τ).loc Cert.ModIdeal.main_arg8) = m ((c.tc : Thread Cert.ModIdeal.nD Cert.ModIdeal.τ).loc Cert.ModIdeal.main_arg8))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v4) = v0 c
          ∧ r.2.mem ((c.tc : Thread Cert.ModReferenceIdeal.nD Cert.ModReferenceIdeal.τ).loc Cert.ModReferenceIdeal.main_v8) = v1 c
          ∧ r.2.mem ((c.tc : Thread Cert.ModReferenceIdeal.nD Cert.ModReferenceIdeal.τ).loc Cert.ModReferenceIdeal.main_v12) = v2 c
          ∧ r.2.mem ((c.tc : Thread Cert.ModReferenceIdeal.nD Cert.ModReferenceIdeal.τ).loc Cert.ModReferenceIdeal.main_v16) = v3 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3)
          ∧ r.2.mem ((c.tc : Thread Cert.ModReferenceIdeal.nD Cert.ModReferenceIdeal.τ).loc Cert.ModReferenceIdeal.main_arg4) = m' ((c.tc : Thread Cert.ModReferenceIdeal.nD Cert.ModReferenceIdeal.τ).loc Cert.ModReferenceIdeal.main_arg4)
          ∧ r.2.mem ((c.tc : Thread Cert.ModReferenceIdeal.nD Cert.ModReferenceIdeal.τ).loc Cert.ModReferenceIdeal.main_arg5) = m' ((c.tc : Thread Cert.ModReferenceIdeal.nD Cert.ModReferenceIdeal.τ).loc Cert.ModReferenceIdeal.main_arg5)
          ∧ r.2.mem ((c.tc : Thread Cert.ModReferenceIdeal.nD Cert.ModReferenceIdeal.τ).loc Cert.ModReferenceIdeal.main_arg6) = m' ((c.tc : Thread Cert.ModReferenceIdeal.nD Cert.ModReferenceIdeal.τ).loc Cert.ModReferenceIdeal.main_arg6)
          ∧ r.2.mem ((c.tc : Thread Cert.ModReferenceIdeal.nD Cert.ModReferenceIdeal.τ).loc Cert.ModReferenceIdeal.main_arg7) = m' ((c.tc : Thread Cert.ModReferenceIdeal.nD Cert.ModReferenceIdeal.τ).loc Cert.ModReferenceIdeal.main_arg7)
          ∧ r.2.mem ((c.tc : Thread Cert.ModReferenceIdeal.nD Cert.ModReferenceIdeal.τ).loc Cert.ModReferenceIdeal.main_arg8) = m' ((c.tc : Thread Cert.ModReferenceIdeal.nD Cert.ModReferenceIdeal.τ).loc Cert.ModReferenceIdeal.main_arg8))

def preserves_InBLat_InBLatIdeal : Prop :=
  True

def algebraic_InBLatIdeal_InBLatReferenceIdeal [hInBLatIdeal : Cert.InBLatIdeal.Facts] [hInBLatReferenceIdeal : Cert.InBLatReferenceIdeal.Facts] : Prop :=
  ∀ (m : (ℓ : Loc Cert.InBLatIdeal.nD Cert.InBLatIdeal.τ Cert.InBLatIdeal.sig) → Buf (Elt Ideal) ℓ) (g : Dev Cert.InBLatIdeal.nD → PrngReg)
    (m' : (ℓ : Loc Cert.InBLatReferenceIdeal.nD Cert.InBLatReferenceIdeal.τ Cert.InBLatReferenceIdeal.sig) → Buf (Elt Ideal) ℓ) (g' : Dev Cert.InBLatReferenceIdeal.nD → PrngReg), Pre_InBLatIdeal m →
    (∀ c : Dev Cert.InBLatIdeal.nD,
      m' ((c.tc : Thread Cert.InBLatReferenceIdeal.nD Cert.InBLatReferenceIdeal.τ).loc Cert.InBLatReferenceIdeal.main_arg0) = m ((c.tc : Thread Cert.InBLatIdeal.nD Cert.InBLatIdeal.τ).loc Cert.InBLatIdeal.main_arg0)
      ∧ m' ((c.tc : Thread Cert.InBLatReferenceIdeal.nD Cert.InBLatReferenceIdeal.τ).loc Cert.InBLatReferenceIdeal.main_arg1) = m ((c.tc : Thread Cert.InBLatIdeal.nD Cert.InBLatIdeal.τ).loc Cert.InBLatIdeal.main_arg1)
      ∧ m' ((c.tc : Thread Cert.InBLatReferenceIdeal.nD Cert.InBLatReferenceIdeal.τ).loc Cert.InBLatReferenceIdeal.main_arg2) = m ((c.tc : Thread Cert.InBLatIdeal.nD Cert.InBLatIdeal.τ).loc Cert.InBLatIdeal.main_arg2)
      ∧ m' ((c.tc : Thread Cert.InBLatReferenceIdeal.nD Cert.InBLatReferenceIdeal.τ).loc Cert.InBLatReferenceIdeal.main_arg3) = m ((c.tc : Thread Cert.InBLatIdeal.nD Cert.InBLatIdeal.τ).loc Cert.InBLatIdeal.main_arg3)
      ∧ m' ((c.tc : Thread Cert.InBLatReferenceIdeal.nD Cert.InBLatReferenceIdeal.τ).loc Cert.InBLatReferenceIdeal.main_arg4) = m ((c.tc : Thread Cert.InBLatIdeal.nD Cert.InBLatIdeal.τ).loc Cert.InBLatIdeal.main_arg4)
      ∧ m' ((c.tc : Thread Cert.InBLatReferenceIdeal.nD Cert.InBLatReferenceIdeal.τ).loc Cert.InBLatReferenceIdeal.main_arg5) = m ((c.tc : Thread Cert.InBLatIdeal.nD Cert.InBLatIdeal.τ).loc Cert.InBLatIdeal.main_arg5)
      ∧ m' ((c.tc : Thread Cert.InBLatReferenceIdeal.nD Cert.InBLatReferenceIdeal.τ).loc Cert.InBLatReferenceIdeal.main_arg6) = m ((c.tc : Thread Cert.InBLatIdeal.nD Cert.InBLatIdeal.τ).loc Cert.InBLatIdeal.main_arg6)
      ∧ m' ((c.tc : Thread Cert.InBLatReferenceIdeal.nD Cert.InBLatReferenceIdeal.τ).loc Cert.InBLatReferenceIdeal.main_arg7) = m ((c.tc : Thread Cert.InBLatIdeal.nD Cert.InBLatIdeal.τ).loc Cert.InBLatIdeal.main_arg7)
      ∧ m' ((c.tc : Thread Cert.InBLatReferenceIdeal.nD Cert.InBLatReferenceIdeal.τ).loc Cert.InBLatReferenceIdeal.main_arg8) = m ((c.tc : Thread Cert.InBLatIdeal.nD Cert.InBLatIdeal.τ).loc Cert.InBLatIdeal.main_arg8)) →
    ∃ (v0 : (c : Dev Cert.InBLatIdeal.nD) → Buf (Elt Ideal) ((c.tc : Thread Cert.InBLatIdeal.nD Cert.InBLatIdeal.τ).loc Cert.InBLatIdeal.main_v1_0)) (v1 : (c : Dev Cert.InBLatIdeal.nD) → Buf (Elt Ideal) ((c.tc : Thread Cert.InBLatIdeal.nD Cert.InBLatIdeal.τ).loc Cert.InBLatIdeal.main_v1_1)) (v2 : (c : Dev Cert.InBLatIdeal.nD) → Buf (Elt Ideal) ((c.tc : Thread Cert.InBLatIdeal.nD Cert.InBLatIdeal.τ).loc Cert.InBLatIdeal.main_v1_2)) (v3 : (c : Dev Cert.InBLatIdeal.nD) → Buf (Elt Ideal) ((c.tc : Thread Cert.InBLatIdeal.nD Cert.InBLatIdeal.τ).loc Cert.InBLatIdeal.main_v1_3)) (v4 : (c : Dev Cert.InBLatIdeal.nD) → Buf (Elt Ideal) ((c.tc : Thread Cert.InBLatIdeal.nD Cert.InBLatIdeal.τ).loc Cert.InBLatIdeal.main_v1_4)),
      θ_run (Cert.InBLatIdeal.defs (F := Ideal)) (onTc (τ := Cert.InBLatIdeal.τ) (Cert.InBLatIdeal.main (F := Ideal))) ⟨m, fun _ => 0, g⟩ (fun r => ∀ c : Dev Cert.InBLatIdeal.nD,
          r.2.mem ((c.tc : Thread Cert.InBLatIdeal.nD Cert.InBLatIdeal.τ).loc Cert.InBLatIdeal.main_v1_0) = v0 c
          ∧ r.2.mem ((c.tc : Thread Cert.InBLatIdeal.nD Cert.InBLatIdeal.τ).loc Cert.InBLatIdeal.main_v1_1) = v1 c
          ∧ r.2.mem ((c.tc : Thread Cert.InBLatIdeal.nD Cert.InBLatIdeal.τ).loc Cert.InBLatIdeal.main_v1_2) = v2 c
          ∧ r.2.mem ((c.tc : Thread Cert.InBLatIdeal.nD Cert.InBLatIdeal.τ).loc Cert.InBLatIdeal.main_v1_3) = v3 c
          ∧ r.2.mem ((c.tc : Thread Cert.InBLatIdeal.nD Cert.InBLatIdeal.τ).loc Cert.InBLatIdeal.main_v1_4) = v4 c
          ∧ r.2.mem ((c.tc : Thread Cert.InBLatIdeal.nD Cert.InBLatIdeal.τ).loc Cert.InBLatIdeal.main_arg0) = m ((c.tc : Thread Cert.InBLatIdeal.nD Cert.InBLatIdeal.τ).loc Cert.InBLatIdeal.main_arg0)
          ∧ r.2.mem ((c.tc : Thread Cert.InBLatIdeal.nD Cert.InBLatIdeal.τ).loc Cert.InBLatIdeal.main_arg1) = m ((c.tc : Thread Cert.InBLatIdeal.nD Cert.InBLatIdeal.τ).loc Cert.InBLatIdeal.main_arg1)
          ∧ r.2.mem ((c.tc : Thread Cert.InBLatIdeal.nD Cert.InBLatIdeal.τ).loc Cert.InBLatIdeal.main_arg2) = m ((c.tc : Thread Cert.InBLatIdeal.nD Cert.InBLatIdeal.τ).loc Cert.InBLatIdeal.main_arg2)
          ∧ r.2.mem ((c.tc : Thread Cert.InBLatIdeal.nD Cert.InBLatIdeal.τ).loc Cert.InBLatIdeal.main_arg3) = m ((c.tc : Thread Cert.InBLatIdeal.nD Cert.InBLatIdeal.τ).loc Cert.InBLatIdeal.main_arg3)
          ∧ r.2.mem ((c.tc : Thread Cert.InBLatIdeal.nD Cert.InBLatIdeal.τ).loc Cert.InBLatIdeal.main_arg4) = m ((c.tc : Thread Cert.InBLatIdeal.nD Cert.InBLatIdeal.τ).loc Cert.InBLatIdeal.main_arg4)
          ∧ r.2.mem ((c.tc : Thread Cert.InBLatIdeal.nD Cert.InBLatIdeal.τ).loc Cert.InBLatIdeal.main_arg5) = m ((c.tc : Thread Cert.InBLatIdeal.nD Cert.InBLatIdeal.τ).loc Cert.InBLatIdeal.main_arg5)
          ∧ r.2.mem ((c.tc : Thread Cert.InBLatIdeal.nD Cert.InBLatIdeal.τ).loc Cert.InBLatIdeal.main_arg6) = m ((c.tc : Thread Cert.InBLatIdeal.nD Cert.InBLatIdeal.τ).loc Cert.InBLatIdeal.main_arg6)
          ∧ r.2.mem ((c.tc : Thread Cert.InBLatIdeal.nD Cert.InBLatIdeal.τ).loc Cert.InBLatIdeal.main_arg7) = m ((c.tc : Thread Cert.InBLatIdeal.nD Cert.InBLatIdeal.τ).loc Cert.InBLatIdeal.main_arg7)
          ∧ r.2.mem ((c.tc : Thread Cert.InBLatIdeal.nD Cert.InBLatIdeal.τ).loc Cert.InBLatIdeal.main_arg8) = m ((c.tc : Thread Cert.InBLatIdeal.nD Cert.InBLatIdeal.τ).loc Cert.InBLatIdeal.main_arg8))
      ∧ θ_run (Cert.InBLatReferenceIdeal.defs (F := Ideal)) (onTc (τ := Cert.InBLatReferenceIdeal.τ) (Cert.InBLatReferenceIdeal.main (F := Ideal))) ⟨m', fun _ => 0, g'⟩ (fun r => ∀ c : Dev Cert.InBLatReferenceIdeal.nD,
          r.2.mem ((c.tc : Thread Cert.InBLatReferenceIdeal.nD Cert.InBLatReferenceIdeal.τ).loc Cert.InBLatReferenceIdeal.main_v8) = v0 c
          ∧ r.2.mem ((c.tc : Thread Cert.InBLatReferenceIdeal.nD Cert.InBLatReferenceIdeal.τ).loc Cert.InBLatReferenceIdeal.main_v64) = v1 c
          ∧ r.2.mem ((c.tc : Thread Cert.InBLatReferenceIdeal.nD Cert.InBLatReferenceIdeal.τ).loc Cert.InBLatReferenceIdeal.main_v65) = v2 c
          ∧ r.2.mem ((c.tc : Thread Cert.InBLatReferenceIdeal.nD Cert.InBLatReferenceIdeal.τ).loc Cert.InBLatReferenceIdeal.main_v66) = v3 c
          ∧ r.2.mem ((c.tc : Thread Cert.InBLatReferenceIdeal.nD Cert.InBLatReferenceIdeal.τ).loc Cert.InBLatReferenceIdeal.main_v67) = v4 c
          ∧ r.2.mem ((c.tc : Thread Cert.InBLatReferenceIdeal.nD Cert.InBLatReferenceIdeal.τ).loc Cert.InBLatReferenceIdeal.main_arg0) = m' ((c.tc : Thread Cert.InBLatReferenceIdeal.nD Cert.InBLatReferenceIdeal.τ).loc Cert.InBLatReferenceIdeal.main_arg0)
          ∧ r.2.mem ((c.tc : Thread Cert.InBLatReferenceIdeal.nD Cert.InBLatReferenceIdeal.τ).loc Cert.InBLatReferenceIdeal.main_arg1) = m' ((c.tc : Thread Cert.InBLatReferenceIdeal.nD Cert.InBLatReferenceIdeal.τ).loc Cert.InBLatReferenceIdeal.main_arg1)
          ∧ r.2.mem ((c.tc : Thread Cert.InBLatReferenceIdeal.nD Cert.InBLatReferenceIdeal.τ).loc Cert.InBLatReferenceIdeal.main_arg2) = m' ((c.tc : Thread Cert.InBLatReferenceIdeal.nD Cert.InBLatReferenceIdeal.τ).loc Cert.InBLatReferenceIdeal.main_arg2)
          ∧ r.2.mem ((c.tc : Thread Cert.InBLatReferenceIdeal.nD Cert.InBLatReferenceIdeal.τ).loc Cert.InBLatReferenceIdeal.main_arg3) = m' ((c.tc : Thread Cert.InBLatReferenceIdeal.nD Cert.InBLatReferenceIdeal.τ).loc Cert.InBLatReferenceIdeal.main_arg3)
          ∧ r.2.mem ((c.tc : Thread Cert.InBLatReferenceIdeal.nD Cert.InBLatReferenceIdeal.τ).loc Cert.InBLatReferenceIdeal.main_arg4) = m' ((c.tc : Thread Cert.InBLatReferenceIdeal.nD Cert.InBLatReferenceIdeal.τ).loc Cert.InBLatReferenceIdeal.main_arg4)
          ∧ r.2.mem ((c.tc : Thread Cert.InBLatReferenceIdeal.nD Cert.InBLatReferenceIdeal.τ).loc Cert.InBLatReferenceIdeal.main_arg5) = m' ((c.tc : Thread Cert.InBLatReferenceIdeal.nD Cert.InBLatReferenceIdeal.τ).loc Cert.InBLatReferenceIdeal.main_arg5)
          ∧ r.2.mem ((c.tc : Thread Cert.InBLatReferenceIdeal.nD Cert.InBLatReferenceIdeal.τ).loc Cert.InBLatReferenceIdeal.main_arg6) = m' ((c.tc : Thread Cert.InBLatReferenceIdeal.nD Cert.InBLatReferenceIdeal.τ).loc Cert.InBLatReferenceIdeal.main_arg6)
          ∧ r.2.mem ((c.tc : Thread Cert.InBLatReferenceIdeal.nD Cert.InBLatReferenceIdeal.τ).loc Cert.InBLatReferenceIdeal.main_arg7) = m' ((c.tc : Thread Cert.InBLatReferenceIdeal.nD Cert.InBLatReferenceIdeal.τ).loc Cert.InBLatReferenceIdeal.main_arg7)
          ∧ r.2.mem ((c.tc : Thread Cert.InBLatReferenceIdeal.nD Cert.InBLatReferenceIdeal.τ).loc Cert.InBLatReferenceIdeal.main_arg8) = m' ((c.tc : Thread Cert.InBLatReferenceIdeal.nD Cert.InBLatReferenceIdeal.τ).loc Cert.InBLatReferenceIdeal.main_arg8))

def preserves_InCLat_InCLatIdeal : Prop :=
  True

def algebraic_InCLatIdeal_InCLatReferenceIdeal [hInCLatIdeal : Cert.InCLatIdeal.Facts] [hInCLatReferenceIdeal : Cert.InCLatReferenceIdeal.Facts] : Prop :=
  ∀ (m : (ℓ : Loc Cert.InCLatIdeal.nD Cert.InCLatIdeal.τ Cert.InCLatIdeal.sig) → Buf (Elt Ideal) ℓ) (g : Dev Cert.InCLatIdeal.nD → PrngReg)
    (m' : (ℓ : Loc Cert.InCLatReferenceIdeal.nD Cert.InCLatReferenceIdeal.τ Cert.InCLatReferenceIdeal.sig) → Buf (Elt Ideal) ℓ) (g' : Dev Cert.InCLatReferenceIdeal.nD → PrngReg), Pre_InCLatIdeal m →
    (∀ c : Dev Cert.InCLatIdeal.nD,
      m' ((c.tc : Thread Cert.InCLatReferenceIdeal.nD Cert.InCLatReferenceIdeal.τ).loc Cert.InCLatReferenceIdeal.main_arg0) = m ((c.tc : Thread Cert.InCLatIdeal.nD Cert.InCLatIdeal.τ).loc Cert.InCLatIdeal.main_arg0)
      ∧ m' ((c.tc : Thread Cert.InCLatReferenceIdeal.nD Cert.InCLatReferenceIdeal.τ).loc Cert.InCLatReferenceIdeal.main_arg1) = m ((c.tc : Thread Cert.InCLatIdeal.nD Cert.InCLatIdeal.τ).loc Cert.InCLatIdeal.main_arg1)
      ∧ m' ((c.tc : Thread Cert.InCLatReferenceIdeal.nD Cert.InCLatReferenceIdeal.τ).loc Cert.InCLatReferenceIdeal.main_arg2) = m ((c.tc : Thread Cert.InCLatIdeal.nD Cert.InCLatIdeal.τ).loc Cert.InCLatIdeal.main_arg2)
      ∧ m' ((c.tc : Thread Cert.InCLatReferenceIdeal.nD Cert.InCLatReferenceIdeal.τ).loc Cert.InCLatReferenceIdeal.main_arg3) = m ((c.tc : Thread Cert.InCLatIdeal.nD Cert.InCLatIdeal.τ).loc Cert.InCLatIdeal.main_arg3)
      ∧ m' ((c.tc : Thread Cert.InCLatReferenceIdeal.nD Cert.InCLatReferenceIdeal.τ).loc Cert.InCLatReferenceIdeal.main_arg4) = m ((c.tc : Thread Cert.InCLatIdeal.nD Cert.InCLatIdeal.τ).loc Cert.InCLatIdeal.main_arg4)
      ∧ m' ((c.tc : Thread Cert.InCLatReferenceIdeal.nD Cert.InCLatReferenceIdeal.τ).loc Cert.InCLatReferenceIdeal.main_arg5) = m ((c.tc : Thread Cert.InCLatIdeal.nD Cert.InCLatIdeal.τ).loc Cert.InCLatIdeal.main_arg5)
      ∧ m' ((c.tc : Thread Cert.InCLatReferenceIdeal.nD Cert.InCLatReferenceIdeal.τ).loc Cert.InCLatReferenceIdeal.main_arg6) = m ((c.tc : Thread Cert.InCLatIdeal.nD Cert.InCLatIdeal.τ).loc Cert.InCLatIdeal.main_arg6)
      ∧ m' ((c.tc : Thread Cert.InCLatReferenceIdeal.nD Cert.InCLatReferenceIdeal.τ).loc Cert.InCLatReferenceIdeal.main_arg7) = m ((c.tc : Thread Cert.InCLatIdeal.nD Cert.InCLatIdeal.τ).loc Cert.InCLatIdeal.main_arg7)
      ∧ m' ((c.tc : Thread Cert.InCLatReferenceIdeal.nD Cert.InCLatReferenceIdeal.τ).loc Cert.InCLatReferenceIdeal.main_arg8) = m ((c.tc : Thread Cert.InCLatIdeal.nD Cert.InCLatIdeal.τ).loc Cert.InCLatIdeal.main_arg8)
      ∧ m' ((c.tc : Thread Cert.InCLatReferenceIdeal.nD Cert.InCLatReferenceIdeal.τ).loc Cert.InCLatReferenceIdeal.main_arg9) = m ((c.tc : Thread Cert.InCLatIdeal.nD Cert.InCLatIdeal.τ).loc Cert.InCLatIdeal.main_arg9)) →
    ∃ (v0 : (c : Dev Cert.InCLatIdeal.nD) → Buf (Elt Ideal) ((c.tc : Thread Cert.InCLatIdeal.nD Cert.InCLatIdeal.τ).loc Cert.InCLatIdeal.main_v1_0)) (v1 : (c : Dev Cert.InCLatIdeal.nD) → Buf (Elt Ideal) ((c.tc : Thread Cert.InCLatIdeal.nD Cert.InCLatIdeal.τ).loc Cert.InCLatIdeal.main_v1_1)) (v2 : (c : Dev Cert.InCLatIdeal.nD) → Buf (Elt Ideal) ((c.tc : Thread Cert.InCLatIdeal.nD Cert.InCLatIdeal.τ).loc Cert.InCLatIdeal.main_v1_2)) (v3 : (c : Dev Cert.InCLatIdeal.nD) → Buf (Elt Ideal) ((c.tc : Thread Cert.InCLatIdeal.nD Cert.InCLatIdeal.τ).loc Cert.InCLatIdeal.main_v1_3)),
      θ_run (Cert.InCLatIdeal.defs (F := Ideal)) (onTc (τ := Cert.InCLatIdeal.τ) (Cert.InCLatIdeal.main (F := Ideal))) ⟨m, fun _ => 0, g⟩ (fun r => ∀ c : Dev Cert.InCLatIdeal.nD,
          r.2.mem ((c.tc : Thread Cert.InCLatIdeal.nD Cert.InCLatIdeal.τ).loc Cert.InCLatIdeal.main_v1_0) = v0 c
          ∧ r.2.mem ((c.tc : Thread Cert.InCLatIdeal.nD Cert.InCLatIdeal.τ).loc Cert.InCLatIdeal.main_v1_1) = v1 c
          ∧ r.2.mem ((c.tc : Thread Cert.InCLatIdeal.nD Cert.InCLatIdeal.τ).loc Cert.InCLatIdeal.main_v1_2) = v2 c
          ∧ r.2.mem ((c.tc : Thread Cert.InCLatIdeal.nD Cert.InCLatIdeal.τ).loc Cert.InCLatIdeal.main_v1_3) = v3 c
          ∧ r.2.mem ((c.tc : Thread Cert.InCLatIdeal.nD Cert.InCLatIdeal.τ).loc Cert.InCLatIdeal.main_arg0) = m ((c.tc : Thread Cert.InCLatIdeal.nD Cert.InCLatIdeal.τ).loc Cert.InCLatIdeal.main_arg0)
          ∧ r.2.mem ((c.tc : Thread Cert.InCLatIdeal.nD Cert.InCLatIdeal.τ).loc Cert.InCLatIdeal.main_arg1) = m ((c.tc : Thread Cert.InCLatIdeal.nD Cert.InCLatIdeal.τ).loc Cert.InCLatIdeal.main_arg1)
          ∧ r.2.mem ((c.tc : Thread Cert.InCLatIdeal.nD Cert.InCLatIdeal.τ).loc Cert.InCLatIdeal.main_arg2) = m ((c.tc : Thread Cert.InCLatIdeal.nD Cert.InCLatIdeal.τ).loc Cert.InCLatIdeal.main_arg2)
          ∧ r.2.mem ((c.tc : Thread Cert.InCLatIdeal.nD Cert.InCLatIdeal.τ).loc Cert.InCLatIdeal.main_arg3) = m ((c.tc : Thread Cert.InCLatIdeal.nD Cert.InCLatIdeal.τ).loc Cert.InCLatIdeal.main_arg3)
          ∧ r.2.mem ((c.tc : Thread Cert.InCLatIdeal.nD Cert.InCLatIdeal.τ).loc Cert.InCLatIdeal.main_arg4) = m ((c.tc : Thread Cert.InCLatIdeal.nD Cert.InCLatIdeal.τ).loc Cert.InCLatIdeal.main_arg4)
          ∧ r.2.mem ((c.tc : Thread Cert.InCLatIdeal.nD Cert.InCLatIdeal.τ).loc Cert.InCLatIdeal.main_arg5) = m ((c.tc : Thread Cert.InCLatIdeal.nD Cert.InCLatIdeal.τ).loc Cert.InCLatIdeal.main_arg5)
          ∧ r.2.mem ((c.tc : Thread Cert.InCLatIdeal.nD Cert.InCLatIdeal.τ).loc Cert.InCLatIdeal.main_arg6) = m ((c.tc : Thread Cert.InCLatIdeal.nD Cert.InCLatIdeal.τ).loc Cert.InCLatIdeal.main_arg6)
          ∧ r.2.mem ((c.tc : Thread Cert.InCLatIdeal.nD Cert.InCLatIdeal.τ).loc Cert.InCLatIdeal.main_arg7) = m ((c.tc : Thread Cert.InCLatIdeal.nD Cert.InCLatIdeal.τ).loc Cert.InCLatIdeal.main_arg7)
          ∧ r.2.mem ((c.tc : Thread Cert.InCLatIdeal.nD Cert.InCLatIdeal.τ).loc Cert.InCLatIdeal.main_arg8) = m ((c.tc : Thread Cert.InCLatIdeal.nD Cert.InCLatIdeal.τ).loc Cert.InCLatIdeal.main_arg8)
          ∧ r.2.mem ((c.tc : Thread Cert.InCLatIdeal.nD Cert.InCLatIdeal.τ).loc Cert.InCLatIdeal.main_arg9) = m ((c.tc : Thread Cert.InCLatIdeal.nD Cert.InCLatIdeal.τ).loc Cert.InCLatIdeal.main_arg9))
      ∧ θ_run (Cert.InCLatReferenceIdeal.defs (F := Ideal)) (onTc (τ := Cert.InCLatReferenceIdeal.τ) (Cert.InCLatReferenceIdeal.main (F := Ideal))) ⟨m', fun _ => 0, g'⟩ (fun r => ∀ c : Dev Cert.InCLatReferenceIdeal.nD,
          r.2.mem ((c.tc : Thread Cert.InCLatReferenceIdeal.nD Cert.InCLatReferenceIdeal.τ).loc Cert.InCLatReferenceIdeal.main_v8) = v0 c
          ∧ r.2.mem ((c.tc : Thread Cert.InCLatReferenceIdeal.nD Cert.InCLatReferenceIdeal.τ).loc Cert.InCLatReferenceIdeal.main_v53) = v1 c
          ∧ r.2.mem ((c.tc : Thread Cert.InCLatReferenceIdeal.nD Cert.InCLatReferenceIdeal.τ).loc Cert.InCLatReferenceIdeal.main_v55) = v2 c
          ∧ r.2.mem ((c.tc : Thread Cert.InCLatReferenceIdeal.nD Cert.InCLatReferenceIdeal.τ).loc Cert.InCLatReferenceIdeal.main_v51) = v3 c
          ∧ r.2.mem ((c.tc : Thread Cert.InCLatReferenceIdeal.nD Cert.InCLatReferenceIdeal.τ).loc Cert.InCLatReferenceIdeal.main_arg0) = m' ((c.tc : Thread Cert.InCLatReferenceIdeal.nD Cert.InCLatReferenceIdeal.τ).loc Cert.InCLatReferenceIdeal.main_arg0)
          ∧ r.2.mem ((c.tc : Thread Cert.InCLatReferenceIdeal.nD Cert.InCLatReferenceIdeal.τ).loc Cert.InCLatReferenceIdeal.main_arg1) = m' ((c.tc : Thread Cert.InCLatReferenceIdeal.nD Cert.InCLatReferenceIdeal.τ).loc Cert.InCLatReferenceIdeal.main_arg1)
          ∧ r.2.mem ((c.tc : Thread Cert.InCLatReferenceIdeal.nD Cert.InCLatReferenceIdeal.τ).loc Cert.InCLatReferenceIdeal.main_arg2) = m' ((c.tc : Thread Cert.InCLatReferenceIdeal.nD Cert.InCLatReferenceIdeal.τ).loc Cert.InCLatReferenceIdeal.main_arg2)
          ∧ r.2.mem ((c.tc : Thread Cert.InCLatReferenceIdeal.nD Cert.InCLatReferenceIdeal.τ).loc Cert.InCLatReferenceIdeal.main_arg3) = m' ((c.tc : Thread Cert.InCLatReferenceIdeal.nD Cert.InCLatReferenceIdeal.τ).loc Cert.InCLatReferenceIdeal.main_arg3)
          ∧ r.2.mem ((c.tc : Thread Cert.InCLatReferenceIdeal.nD Cert.InCLatReferenceIdeal.τ).loc Cert.InCLatReferenceIdeal.main_arg4) = m' ((c.tc : Thread Cert.InCLatReferenceIdeal.nD Cert.InCLatReferenceIdeal.τ).loc Cert.InCLatReferenceIdeal.main_arg4)
          ∧ r.2.mem ((c.tc : Thread Cert.InCLatReferenceIdeal.nD Cert.InCLatReferenceIdeal.τ).loc Cert.InCLatReferenceIdeal.main_arg5) = m' ((c.tc : Thread Cert.InCLatReferenceIdeal.nD Cert.InCLatReferenceIdeal.τ).loc Cert.InCLatReferenceIdeal.main_arg5)
          ∧ r.2.mem ((c.tc : Thread Cert.InCLatReferenceIdeal.nD Cert.InCLatReferenceIdeal.τ).loc Cert.InCLatReferenceIdeal.main_arg6) = m' ((c.tc : Thread Cert.InCLatReferenceIdeal.nD Cert.InCLatReferenceIdeal.τ).loc Cert.InCLatReferenceIdeal.main_arg6)
          ∧ r.2.mem ((c.tc : Thread Cert.InCLatReferenceIdeal.nD Cert.InCLatReferenceIdeal.τ).loc Cert.InCLatReferenceIdeal.main_arg7) = m' ((c.tc : Thread Cert.InCLatReferenceIdeal.nD Cert.InCLatReferenceIdeal.τ).loc Cert.InCLatReferenceIdeal.main_arg7)
          ∧ r.2.mem ((c.tc : Thread Cert.InCLatReferenceIdeal.nD Cert.InCLatReferenceIdeal.τ).loc Cert.InCLatReferenceIdeal.main_arg8) = m' ((c.tc : Thread Cert.InCLatReferenceIdeal.nD Cert.InCLatReferenceIdeal.τ).loc Cert.InCLatReferenceIdeal.main_arg8)
          ∧ r.2.mem ((c.tc : Thread Cert.InCLatReferenceIdeal.nD Cert.InCLatReferenceIdeal.τ).loc Cert.InCLatReferenceIdeal.main_arg9) = m' ((c.tc : Thread Cert.InCLatReferenceIdeal.nD Cert.InCLatReferenceIdeal.τ).loc Cert.InCLatReferenceIdeal.main_arg9))

def preserves_FirstALat_FirstALatIdeal : Prop :=
  True

def algebraic_FirstALatIdeal_FirstALatReferenceIdeal [hFirstALatIdeal : Cert.FirstALatIdeal.Facts] [hFirstALatReferenceIdeal : Cert.FirstALatReferenceIdeal.Facts] : Prop :=
  ∀ (m : (ℓ : Loc Cert.FirstALatIdeal.nD Cert.FirstALatIdeal.τ Cert.FirstALatIdeal.sig) → Buf (Elt Ideal) ℓ) (g : Dev Cert.FirstALatIdeal.nD → PrngReg)
    (m' : (ℓ : Loc Cert.FirstALatReferenceIdeal.nD Cert.FirstALatReferenceIdeal.τ Cert.FirstALatReferenceIdeal.sig) → Buf (Elt Ideal) ℓ) (g' : Dev Cert.FirstALatReferenceIdeal.nD → PrngReg), Pre_FirstALatIdeal m →
    (∀ c : Dev Cert.FirstALatIdeal.nD,
      m' ((c.tc : Thread Cert.FirstALatReferenceIdeal.nD Cert.FirstALatReferenceIdeal.τ).loc Cert.FirstALatReferenceIdeal.main_arg0) = m ((c.tc : Thread Cert.FirstALatIdeal.nD Cert.FirstALatIdeal.τ).loc Cert.FirstALatIdeal.main_arg0)
      ∧ m' ((c.tc : Thread Cert.FirstALatReferenceIdeal.nD Cert.FirstALatReferenceIdeal.τ).loc Cert.FirstALatReferenceIdeal.main_arg1) = m ((c.tc : Thread Cert.FirstALatIdeal.nD Cert.FirstALatIdeal.τ).loc Cert.FirstALatIdeal.main_arg1)
      ∧ m' ((c.tc : Thread Cert.FirstALatReferenceIdeal.nD Cert.FirstALatReferenceIdeal.τ).loc Cert.FirstALatReferenceIdeal.main_arg2) = m ((c.tc : Thread Cert.FirstALatIdeal.nD Cert.FirstALatIdeal.τ).loc Cert.FirstALatIdeal.main_arg2)
      ∧ m' ((c.tc : Thread Cert.FirstALatReferenceIdeal.nD Cert.FirstALatReferenceIdeal.τ).loc Cert.FirstALatReferenceIdeal.main_arg3) = m ((c.tc : Thread Cert.FirstALatIdeal.nD Cert.FirstALatIdeal.τ).loc Cert.FirstALatIdeal.main_arg3)
      ∧ m' ((c.tc : Thread Cert.FirstALatReferenceIdeal.nD Cert.FirstALatReferenceIdeal.τ).loc Cert.FirstALatReferenceIdeal.main_arg4) = m ((c.tc : Thread Cert.FirstALatIdeal.nD Cert.FirstALatIdeal.τ).loc Cert.FirstALatIdeal.main_arg4)
      ∧ m' ((c.tc : Thread Cert.FirstALatReferenceIdeal.nD Cert.FirstALatReferenceIdeal.τ).loc Cert.FirstALatReferenceIdeal.main_arg5) = m ((c.tc : Thread Cert.FirstALatIdeal.nD Cert.FirstALatIdeal.τ).loc Cert.FirstALatIdeal.main_arg5)) →
    ∃ (v0 : (c : Dev Cert.FirstALatIdeal.nD) → Buf (Elt Ideal) ((c.tc : Thread Cert.FirstALatIdeal.nD Cert.FirstALatIdeal.τ).loc Cert.FirstALatIdeal.main_v1_0)) (v1 : (c : Dev Cert.FirstALatIdeal.nD) → Buf (Elt Ideal) ((c.tc : Thread Cert.FirstALatIdeal.nD Cert.FirstALatIdeal.τ).loc Cert.FirstALatIdeal.main_v1_1)) (v2 : (c : Dev Cert.FirstALatIdeal.nD) → Buf (Elt Ideal) ((c.tc : Thread Cert.FirstALatIdeal.nD Cert.FirstALatIdeal.τ).loc Cert.FirstALatIdeal.main_v1_2)) (v3 : (c : Dev Cert.FirstALatIdeal.nD) → Buf (Elt Ideal) ((c.tc : Thread Cert.FirstALatIdeal.nD Cert.FirstALatIdeal.τ).loc Cert.FirstALatIdeal.main_v1_3)),
      θ_run (Cert.FirstALatIdeal.defs (F := Ideal)) (onTc (τ := Cert.FirstALatIdeal.τ) (Cert.FirstALatIdeal.main (F := Ideal))) ⟨m, fun _ => 0, g⟩ (fun r => ∀ c : Dev Cert.FirstALatIdeal.nD,
          r.2.mem ((c.tc : Thread Cert.FirstALatIdeal.nD Cert.FirstALatIdeal.τ).loc Cert.FirstALatIdeal.main_v1_0) = v0 c
          ∧ r.2.mem ((c.tc : Thread Cert.FirstALatIdeal.nD Cert.FirstALatIdeal.τ).loc Cert.FirstALatIdeal.main_v1_1) = v1 c
          ∧ r.2.mem ((c.tc : Thread Cert.FirstALatIdeal.nD Cert.FirstALatIdeal.τ).loc Cert.FirstALatIdeal.main_v1_2) = v2 c
          ∧ r.2.mem ((c.tc : Thread Cert.FirstALatIdeal.nD Cert.FirstALatIdeal.τ).loc Cert.FirstALatIdeal.main_v1_3) = v3 c
          ∧ r.2.mem ((c.tc : Thread Cert.FirstALatIdeal.nD Cert.FirstALatIdeal.τ).loc Cert.FirstALatIdeal.main_arg0) = m ((c.tc : Thread Cert.FirstALatIdeal.nD Cert.FirstALatIdeal.τ).loc Cert.FirstALatIdeal.main_arg0)
          ∧ r.2.mem ((c.tc : Thread Cert.FirstALatIdeal.nD Cert.FirstALatIdeal.τ).loc Cert.FirstALatIdeal.main_arg1) = m ((c.tc : Thread Cert.FirstALatIdeal.nD Cert.FirstALatIdeal.τ).loc Cert.FirstALatIdeal.main_arg1)
          ∧ r.2.mem ((c.tc : Thread Cert.FirstALatIdeal.nD Cert.FirstALatIdeal.τ).loc Cert.FirstALatIdeal.main_arg2) = m ((c.tc : Thread Cert.FirstALatIdeal.nD Cert.FirstALatIdeal.τ).loc Cert.FirstALatIdeal.main_arg2)
          ∧ r.2.mem ((c.tc : Thread Cert.FirstALatIdeal.nD Cert.FirstALatIdeal.τ).loc Cert.FirstALatIdeal.main_arg3) = m ((c.tc : Thread Cert.FirstALatIdeal.nD Cert.FirstALatIdeal.τ).loc Cert.FirstALatIdeal.main_arg3)
          ∧ r.2.mem ((c.tc : Thread Cert.FirstALatIdeal.nD Cert.FirstALatIdeal.τ).loc Cert.FirstALatIdeal.main_arg4) = m ((c.tc : Thread Cert.FirstALatIdeal.nD Cert.FirstALatIdeal.τ).loc Cert.FirstALatIdeal.main_arg4)
          ∧ r.2.mem ((c.tc : Thread Cert.FirstALatIdeal.nD Cert.FirstALatIdeal.τ).loc Cert.FirstALatIdeal.main_arg5) = m ((c.tc : Thread Cert.FirstALatIdeal.nD Cert.FirstALatIdeal.τ).loc Cert.FirstALatIdeal.main_arg5))
      ∧ θ_run (Cert.FirstALatReferenceIdeal.defs (F := Ideal)) (onTc (τ := Cert.FirstALatReferenceIdeal.τ) (Cert.FirstALatReferenceIdeal.main (F := Ideal))) ⟨m', fun _ => 0, g'⟩ (fun r => ∀ c : Dev Cert.FirstALatReferenceIdeal.nD,
          r.2.mem ((c.tc : Thread Cert.FirstALatReferenceIdeal.nD Cert.FirstALatReferenceIdeal.τ).loc Cert.FirstALatReferenceIdeal.main_v55) = v0 c
          ∧ r.2.mem ((c.tc : Thread Cert.FirstALatReferenceIdeal.nD Cert.FirstALatReferenceIdeal.τ).loc Cert.FirstALatReferenceIdeal.main_v56) = v1 c
          ∧ r.2.mem ((c.tc : Thread Cert.FirstALatReferenceIdeal.nD Cert.FirstALatReferenceIdeal.τ).loc Cert.FirstALatReferenceIdeal.main_v57) = v2 c
          ∧ r.2.mem ((c.tc : Thread Cert.FirstALatReferenceIdeal.nD Cert.FirstALatReferenceIdeal.τ).loc Cert.FirstALatReferenceIdeal.main_v58) = v3 c
          ∧ r.2.mem ((c.tc : Thread Cert.FirstALatReferenceIdeal.nD Cert.FirstALatReferenceIdeal.τ).loc Cert.FirstALatReferenceIdeal.main_arg0) = m' ((c.tc : Thread Cert.FirstALatReferenceIdeal.nD Cert.FirstALatReferenceIdeal.τ).loc Cert.FirstALatReferenceIdeal.main_arg0)
          ∧ r.2.mem ((c.tc : Thread Cert.FirstALatReferenceIdeal.nD Cert.FirstALatReferenceIdeal.τ).loc Cert.FirstALatReferenceIdeal.main_arg1) = m' ((c.tc : Thread Cert.FirstALatReferenceIdeal.nD Cert.FirstALatReferenceIdeal.τ).loc Cert.FirstALatReferenceIdeal.main_arg1)
          ∧ r.2.mem ((c.tc : Thread Cert.FirstALatReferenceIdeal.nD Cert.FirstALatReferenceIdeal.τ).loc Cert.FirstALatReferenceIdeal.main_arg2) = m' ((c.tc : Thread Cert.FirstALatReferenceIdeal.nD Cert.FirstALatReferenceIdeal.τ).loc Cert.FirstALatReferenceIdeal.main_arg2)
          ∧ r.2.mem ((c.tc : Thread Cert.FirstALatReferenceIdeal.nD Cert.FirstALatReferenceIdeal.τ).loc Cert.FirstALatReferenceIdeal.main_arg3) = m' ((c.tc : Thread Cert.FirstALatReferenceIdeal.nD Cert.FirstALatReferenceIdeal.τ).loc Cert.FirstALatReferenceIdeal.main_arg3)
          ∧ r.2.mem ((c.tc : Thread Cert.FirstALatReferenceIdeal.nD Cert.FirstALatReferenceIdeal.τ).loc Cert.FirstALatReferenceIdeal.main_arg4) = m' ((c.tc : Thread Cert.FirstALatReferenceIdeal.nD Cert.FirstALatReferenceIdeal.τ).loc Cert.FirstALatReferenceIdeal.main_arg4)
          ∧ r.2.mem ((c.tc : Thread Cert.FirstALatReferenceIdeal.nD Cert.FirstALatReferenceIdeal.τ).loc Cert.FirstALatReferenceIdeal.main_arg5) = m' ((c.tc : Thread Cert.FirstALatReferenceIdeal.nD Cert.FirstALatReferenceIdeal.τ).loc Cert.FirstALatReferenceIdeal.main_arg5))

def preserves_InALat_InALatIdeal : Prop :=
  True

def algebraic_InALatIdeal_InALatReferenceIdeal [hInALatIdeal : Cert.InALatIdeal.Facts] [hInALatReferenceIdeal : Cert.InALatReferenceIdeal.Facts] : Prop :=
  ∀ (m : (ℓ : Loc Cert.InALatIdeal.nD Cert.InALatIdeal.τ Cert.InALatIdeal.sig) → Buf (Elt Ideal) ℓ) (g : Dev Cert.InALatIdeal.nD → PrngReg)
    (m' : (ℓ : Loc Cert.InALatReferenceIdeal.nD Cert.InALatReferenceIdeal.τ Cert.InALatReferenceIdeal.sig) → Buf (Elt Ideal) ℓ) (g' : Dev Cert.InALatReferenceIdeal.nD → PrngReg), Pre_InALatIdeal m →
    (∀ c : Dev Cert.InALatIdeal.nD,
      m' ((c.tc : Thread Cert.InALatReferenceIdeal.nD Cert.InALatReferenceIdeal.τ).loc Cert.InALatReferenceIdeal.main_arg0) = m ((c.tc : Thread Cert.InALatIdeal.nD Cert.InALatIdeal.τ).loc Cert.InALatIdeal.main_arg0)
      ∧ m' ((c.tc : Thread Cert.InALatReferenceIdeal.nD Cert.InALatReferenceIdeal.τ).loc Cert.InALatReferenceIdeal.main_arg1) = m ((c.tc : Thread Cert.InALatIdeal.nD Cert.InALatIdeal.τ).loc Cert.InALatIdeal.main_arg1)
      ∧ m' ((c.tc : Thread Cert.InALatReferenceIdeal.nD Cert.InALatReferenceIdeal.τ).loc Cert.InALatReferenceIdeal.main_arg2) = m ((c.tc : Thread Cert.InALatIdeal.nD Cert.InALatIdeal.τ).loc Cert.InALatIdeal.main_arg2)
      ∧ m' ((c.tc : Thread Cert.InALatReferenceIdeal.nD Cert.InALatReferenceIdeal.τ).loc Cert.InALatReferenceIdeal.main_arg3) = m ((c.tc : Thread Cert.InALatIdeal.nD Cert.InALatIdeal.τ).loc Cert.InALatIdeal.main_arg3)
      ∧ m' ((c.tc : Thread Cert.InALatReferenceIdeal.nD Cert.InALatReferenceIdeal.τ).loc Cert.InALatReferenceIdeal.main_arg4) = m ((c.tc : Thread Cert.InALatIdeal.nD Cert.InALatIdeal.τ).loc Cert.InALatIdeal.main_arg4)
      ∧ m' ((c.tc : Thread Cert.InALatReferenceIdeal.nD Cert.InALatReferenceIdeal.τ).loc Cert.InALatReferenceIdeal.main_arg5) = m ((c.tc : Thread Cert.InALatIdeal.nD Cert.InALatIdeal.τ).loc Cert.InALatIdeal.main_arg5)
      ∧ m' ((c.tc : Thread Cert.InALatReferenceIdeal.nD Cert.InALatReferenceIdeal.τ).loc Cert.InALatReferenceIdeal.main_arg6) = m ((c.tc : Thread Cert.InALatIdeal.nD Cert.InALatIdeal.τ).loc Cert.InALatIdeal.main_arg6)
      ∧ m' ((c.tc : Thread Cert.InALatReferenceIdeal.nD Cert.InALatReferenceIdeal.τ).loc Cert.InALatReferenceIdeal.main_arg7) = m ((c.tc : Thread Cert.InALatIdeal.nD Cert.InALatIdeal.τ).loc Cert.InALatIdeal.main_arg7)
      ∧ m' ((c.tc : Thread Cert.InALatReferenceIdeal.nD Cert.InALatReferenceIdeal.τ).loc Cert.InALatReferenceIdeal.main_arg8) = m ((c.tc : Thread Cert.InALatIdeal.nD Cert.InALatIdeal.τ).loc Cert.InALatIdeal.main_arg8)) →
    ∃ (v0 : (c : Dev Cert.InALatIdeal.nD) → Buf (Elt Ideal) ((c.tc : Thread Cert.InALatIdeal.nD Cert.InALatIdeal.τ).loc Cert.InALatIdeal.main_v1_0)) (v1 : (c : Dev Cert.InALatIdeal.nD) → Buf (Elt Ideal) ((c.tc : Thread Cert.InALatIdeal.nD Cert.InALatIdeal.τ).loc Cert.InALatIdeal.main_v1_1)) (v2 : (c : Dev Cert.InALatIdeal.nD) → Buf (Elt Ideal) ((c.tc : Thread Cert.InALatIdeal.nD Cert.InALatIdeal.τ).loc Cert.InALatIdeal.main_v1_2)) (v3 : (c : Dev Cert.InALatIdeal.nD) → Buf (Elt Ideal) ((c.tc : Thread Cert.InALatIdeal.nD Cert.InALatIdeal.τ).loc Cert.InALatIdeal.main_v1_3)) (v4 : (c : Dev Cert.InALatIdeal.nD) → Buf (Elt Ideal) ((c.tc : Thread Cert.InALatIdeal.nD Cert.InALatIdeal.τ).loc Cert.InALatIdeal.main_v1_4)),
      θ_run (Cert.InALatIdeal.defs (F := Ideal)) (onTc (τ := Cert.InALatIdeal.τ) (Cert.InALatIdeal.main (F := Ideal))) ⟨m, fun _ => 0, g⟩ (fun r => ∀ c : Dev Cert.InALatIdeal.nD,
          r.2.mem ((c.tc : Thread Cert.InALatIdeal.nD Cert.InALatIdeal.τ).loc Cert.InALatIdeal.main_v1_0) = v0 c
          ∧ r.2.mem ((c.tc : Thread Cert.InALatIdeal.nD Cert.InALatIdeal.τ).loc Cert.InALatIdeal.main_v1_1) = v1 c
          ∧ r.2.mem ((c.tc : Thread Cert.InALatIdeal.nD Cert.InALatIdeal.τ).loc Cert.InALatIdeal.main_v1_2) = v2 c
          ∧ r.2.mem ((c.tc : Thread Cert.InALatIdeal.nD Cert.InALatIdeal.τ).loc Cert.InALatIdeal.main_v1_3) = v3 c
          ∧ r.2.mem ((c.tc : Thread Cert.InALatIdeal.nD Cert.InALatIdeal.τ).loc Cert.InALatIdeal.main_v1_4) = v4 c
          ∧ r.2.mem ((c.tc : Thread Cert.InALatIdeal.nD Cert.InALatIdeal.τ).loc Cert.InALatIdeal.main_arg0) = m ((c.tc : Thread Cert.InALatIdeal.nD Cert.InALatIdeal.τ).loc Cert.InALatIdeal.main_arg0)
          ∧ r.2.mem ((c.tc : Thread Cert.InALatIdeal.nD Cert.InALatIdeal.τ).loc Cert.InALatIdeal.main_arg1) = m ((c.tc : Thread Cert.InALatIdeal.nD Cert.InALatIdeal.τ).loc Cert.InALatIdeal.main_arg1)
          ∧ r.2.mem ((c.tc : Thread Cert.InALatIdeal.nD Cert.InALatIdeal.τ).loc Cert.InALatIdeal.main_arg2) = m ((c.tc : Thread Cert.InALatIdeal.nD Cert.InALatIdeal.τ).loc Cert.InALatIdeal.main_arg2)
          ∧ r.2.mem ((c.tc : Thread Cert.InALatIdeal.nD Cert.InALatIdeal.τ).loc Cert.InALatIdeal.main_arg3) = m ((c.tc : Thread Cert.InALatIdeal.nD Cert.InALatIdeal.τ).loc Cert.InALatIdeal.main_arg3)
          ∧ r.2.mem ((c.tc : Thread Cert.InALatIdeal.nD Cert.InALatIdeal.τ).loc Cert.InALatIdeal.main_arg4) = m ((c.tc : Thread Cert.InALatIdeal.nD Cert.InALatIdeal.τ).loc Cert.InALatIdeal.main_arg4)
          ∧ r.2.mem ((c.tc : Thread Cert.InALatIdeal.nD Cert.InALatIdeal.τ).loc Cert.InALatIdeal.main_arg5) = m ((c.tc : Thread Cert.InALatIdeal.nD Cert.InALatIdeal.τ).loc Cert.InALatIdeal.main_arg5)
          ∧ r.2.mem ((c.tc : Thread Cert.InALatIdeal.nD Cert.InALatIdeal.τ).loc Cert.InALatIdeal.main_arg6) = m ((c.tc : Thread Cert.InALatIdeal.nD Cert.InALatIdeal.τ).loc Cert.InALatIdeal.main_arg6)
          ∧ r.2.mem ((c.tc : Thread Cert.InALatIdeal.nD Cert.InALatIdeal.τ).loc Cert.InALatIdeal.main_arg7) = m ((c.tc : Thread Cert.InALatIdeal.nD Cert.InALatIdeal.τ).loc Cert.InALatIdeal.main_arg7)
          ∧ r.2.mem ((c.tc : Thread Cert.InALatIdeal.nD Cert.InALatIdeal.τ).loc Cert.InALatIdeal.main_arg8) = m ((c.tc : Thread Cert.InALatIdeal.nD Cert.InALatIdeal.τ).loc Cert.InALatIdeal.main_arg8))
      ∧ θ_run (Cert.InALatReferenceIdeal.defs (F := Ideal)) (onTc (τ := Cert.InALatReferenceIdeal.τ) (Cert.InALatReferenceIdeal.main (F := Ideal))) ⟨m', fun _ => 0, g'⟩ (fun r => ∀ c : Dev Cert.InALatReferenceIdeal.nD,
          r.2.mem ((c.tc : Thread Cert.InALatReferenceIdeal.nD Cert.InALatReferenceIdeal.τ).loc Cert.InALatReferenceIdeal.main_v8) = v0 c
          ∧ r.2.mem ((c.tc : Thread Cert.InALatReferenceIdeal.nD Cert.InALatReferenceIdeal.τ).loc Cert.InALatReferenceIdeal.main_v64) = v1 c
          ∧ r.2.mem ((c.tc : Thread Cert.InALatReferenceIdeal.nD Cert.InALatReferenceIdeal.τ).loc Cert.InALatReferenceIdeal.main_v65) = v2 c
          ∧ r.2.mem ((c.tc : Thread Cert.InALatReferenceIdeal.nD Cert.InALatReferenceIdeal.τ).loc Cert.InALatReferenceIdeal.main_v66) = v3 c
          ∧ r.2.mem ((c.tc : Thread Cert.InALatReferenceIdeal.nD Cert.InALatReferenceIdeal.τ).loc Cert.InALatReferenceIdeal.main_v67) = v4 c
          ∧ r.2.mem ((c.tc : Thread Cert.InALatReferenceIdeal.nD Cert.InALatReferenceIdeal.τ).loc Cert.InALatReferenceIdeal.main_arg0) = m' ((c.tc : Thread Cert.InALatReferenceIdeal.nD Cert.InALatReferenceIdeal.τ).loc Cert.InALatReferenceIdeal.main_arg0)
          ∧ r.2.mem ((c.tc : Thread Cert.InALatReferenceIdeal.nD Cert.InALatReferenceIdeal.τ).loc Cert.InALatReferenceIdeal.main_arg1) = m' ((c.tc : Thread Cert.InALatReferenceIdeal.nD Cert.InALatReferenceIdeal.τ).loc Cert.InALatReferenceIdeal.main_arg1)
          ∧ r.2.mem ((c.tc : Thread Cert.InALatReferenceIdeal.nD Cert.InALatReferenceIdeal.τ).loc Cert.InALatReferenceIdeal.main_arg2) = m' ((c.tc : Thread Cert.InALatReferenceIdeal.nD Cert.InALatReferenceIdeal.τ).loc Cert.InALatReferenceIdeal.main_arg2)
          ∧ r.2.mem ((c.tc : Thread Cert.InALatReferenceIdeal.nD Cert.InALatReferenceIdeal.τ).loc Cert.InALatReferenceIdeal.main_arg3) = m' ((c.tc : Thread Cert.InALatReferenceIdeal.nD Cert.InALatReferenceIdeal.τ).loc Cert.InALatReferenceIdeal.main_arg3)
          ∧ r.2.mem ((c.tc : Thread Cert.InALatReferenceIdeal.nD Cert.InALatReferenceIdeal.τ).loc Cert.InALatReferenceIdeal.main_arg4) = m' ((c.tc : Thread Cert.InALatReferenceIdeal.nD Cert.InALatReferenceIdeal.τ).loc Cert.InALatReferenceIdeal.main_arg4)
          ∧ r.2.mem ((c.tc : Thread Cert.InALatReferenceIdeal.nD Cert.InALatReferenceIdeal.τ).loc Cert.InALatReferenceIdeal.main_arg5) = m' ((c.tc : Thread Cert.InALatReferenceIdeal.nD Cert.InALatReferenceIdeal.τ).loc Cert.InALatReferenceIdeal.main_arg5)
          ∧ r.2.mem ((c.tc : Thread Cert.InALatReferenceIdeal.nD Cert.InALatReferenceIdeal.τ).loc Cert.InALatReferenceIdeal.main_arg6) = m' ((c.tc : Thread Cert.InALatReferenceIdeal.nD Cert.InALatReferenceIdeal.τ).loc Cert.InALatReferenceIdeal.main_arg6)
          ∧ r.2.mem ((c.tc : Thread Cert.InALatReferenceIdeal.nD Cert.InALatReferenceIdeal.τ).loc Cert.InALatReferenceIdeal.main_arg7) = m' ((c.tc : Thread Cert.InALatReferenceIdeal.nD Cert.InALatReferenceIdeal.τ).loc Cert.InALatReferenceIdeal.main_arg7)
          ∧ r.2.mem ((c.tc : Thread Cert.InALatReferenceIdeal.nD Cert.InALatReferenceIdeal.τ).loc Cert.InALatReferenceIdeal.main_arg8) = m' ((c.tc : Thread Cert.InALatReferenceIdeal.nD Cert.InALatReferenceIdeal.τ).loc Cert.InALatReferenceIdeal.main_arg8))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v21) = v0 c
          ∧ r.2.mem ((c.tc : Thread Cert.FinalReferenceIdeal.nD Cert.FinalReferenceIdeal.τ).loc Cert.FinalReferenceIdeal.main_v43) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hSink : Cert.Sink.Facts) (hSinkIdeal : Cert.SinkIdeal.Facts) (hSinkReferenceIdeal : Cert.SinkReferenceIdeal.Facts) (hSinkReference : Cert.SinkReference.Facts) (hInB : Cert.InB.Facts) (hInBIdeal : Cert.InBIdeal.Facts) (hInBReferenceIdeal : Cert.InBReferenceIdeal.Facts) (hInC : Cert.InC.Facts) (hInCIdeal : Cert.InCIdeal.Facts) (hInCReferenceIdeal : Cert.InCReferenceIdeal.Facts) (hInA : Cert.InA.Facts) (hInAIdeal : Cert.InAIdeal.Facts) (hInAReferenceIdeal : Cert.InAReferenceIdeal.Facts) (hFirstA : Cert.FirstA.Facts) (hFirstAIdeal : Cert.FirstAIdeal.Facts) (hFirstAReferenceIdeal : Cert.FirstAReferenceIdeal.Facts) (hMod : Cert.Mod.Facts) (hModIdeal : Cert.ModIdeal.Facts) (hModReferenceIdeal : Cert.ModReferenceIdeal.Facts) (hInBLat : Cert.InBLat.Facts) (hInBLatIdeal : Cert.InBLatIdeal.Facts) (hInBLatReferenceIdeal : Cert.InBLatReferenceIdeal.Facts) (hInCLat : Cert.InCLat.Facts) (hInCLatIdeal : Cert.InCLatIdeal.Facts) (hInCLatReferenceIdeal : Cert.InCLatReferenceIdeal.Facts) (hFirstALat : Cert.FirstALat.Facts) (hFirstALatIdeal : Cert.FirstALatIdeal.Facts) (hFirstALatReferenceIdeal : Cert.FirstALatReferenceIdeal.Facts) (hInALat : Cert.InALat.Facts) (hInALatIdeal : Cert.InALatIdeal.Facts) (hInALatReferenceIdeal : Cert.InALatReferenceIdeal.Facts) (hFinal : Cert.Final.Facts) (hFinalIdeal : Cert.FinalIdeal.Facts) (hFinalReferenceIdeal : Cert.FinalReferenceIdeal.Facts) (hPre_finite_scores : Cert.Pre_finite_scores.Facts) (hPre_finite_logits : Cert.Pre_finite_logits.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Sink (hSink := hSink)
    ∧ quiescent_SinkIdeal (hSinkIdeal := hSinkIdeal)
    ∧ quiescent_SinkIdeal_pre_finite_logits (hSinkIdeal := hSinkIdeal) (hPre_finite_logits := hPre_finite_logits)
    ∧ quiescent_SinkReferenceIdeal (hSinkReferenceIdeal := hSinkReferenceIdeal)
    ∧ quiescent_SinkReferenceIdeal_pre_finite_logits (hSinkReferenceIdeal := hSinkReferenceIdeal) (hPre_finite_logits := hPre_finite_logits)
    ∧ quiescent_SinkReference (hSinkReference := hSinkReference)
    ∧ quiescent_InB (hInB := hInB)
    ∧ quiescent_InBIdeal (hInBIdeal := hInBIdeal)
    ∧ quiescent_InBReferenceIdeal (hInBReferenceIdeal := hInBReferenceIdeal)
    ∧ quiescent_InC (hInC := hInC)
    ∧ quiescent_InCIdeal (hInCIdeal := hInCIdeal)
    ∧ quiescent_InCReferenceIdeal (hInCReferenceIdeal := hInCReferenceIdeal)
    ∧ quiescent_InA (hInA := hInA)
    ∧ quiescent_InAIdeal (hInAIdeal := hInAIdeal)
    ∧ quiescent_InAReferenceIdeal (hInAReferenceIdeal := hInAReferenceIdeal)
    ∧ quiescent_FirstA (hFirstA := hFirstA)
    ∧ quiescent_FirstAIdeal (hFirstAIdeal := hFirstAIdeal)
    ∧ quiescent_FirstAReferenceIdeal (hFirstAReferenceIdeal := hFirstAReferenceIdeal)
    ∧ quiescent_Mod (hMod := hMod)
    ∧ quiescent_ModIdeal (hModIdeal := hModIdeal)
    ∧ quiescent_ModReferenceIdeal (hModReferenceIdeal := hModReferenceIdeal)
    ∧ quiescent_InBLat (hInBLat := hInBLat)
    ∧ quiescent_InBLatIdeal (hInBLatIdeal := hInBLatIdeal)
    ∧ quiescent_InBLatReferenceIdeal (hInBLatReferenceIdeal := hInBLatReferenceIdeal)
    ∧ quiescent_InCLat (hInCLat := hInCLat)
    ∧ quiescent_InCLatIdeal (hInCLatIdeal := hInCLatIdeal)
    ∧ quiescent_InCLatReferenceIdeal (hInCLatReferenceIdeal := hInCLatReferenceIdeal)
    ∧ quiescent_FirstALat (hFirstALat := hFirstALat)
    ∧ quiescent_FirstALatIdeal (hFirstALatIdeal := hFirstALatIdeal)
    ∧ quiescent_FirstALatReferenceIdeal (hFirstALatReferenceIdeal := hFirstALatReferenceIdeal)
    ∧ quiescent_InALat (hInALat := hInALat)
    ∧ quiescent_InALatIdeal (hInALatIdeal := hInALatIdeal)
    ∧ quiescent_InALatReferenceIdeal (hInALatReferenceIdeal := hInALatReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Sink_SinkIdeal
    ∧ preserves_SinkReference_SinkReferenceIdeal
    ∧ algebraic_SinkIdeal_SinkReferenceIdeal_pre_finite_logits (hSinkIdeal := hSinkIdeal) (hSinkReferenceIdeal := hSinkReferenceIdeal) (hPre_finite_logits := hPre_finite_logits)
    ∧ preserves_InB_InBIdeal
    ∧ algebraic_InBIdeal_InBReferenceIdeal (hInBIdeal := hInBIdeal) (hInBReferenceIdeal := hInBReferenceIdeal)
    ∧ preserves_InC_InCIdeal
    ∧ algebraic_InCIdeal_InCReferenceIdeal (hInCIdeal := hInCIdeal) (hInCReferenceIdeal := hInCReferenceIdeal)
    ∧ preserves_InA_InAIdeal
    ∧ algebraic_InAIdeal_InAReferenceIdeal (hInAIdeal := hInAIdeal) (hInAReferenceIdeal := hInAReferenceIdeal)
    ∧ preserves_FirstA_FirstAIdeal
    ∧ algebraic_FirstAIdeal_FirstAReferenceIdeal (hFirstAIdeal := hFirstAIdeal) (hFirstAReferenceIdeal := hFirstAReferenceIdeal)
    ∧ preserves_Mod_ModIdeal
    ∧ algebraic_ModIdeal_ModReferenceIdeal (hModIdeal := hModIdeal) (hModReferenceIdeal := hModReferenceIdeal)
    ∧ preserves_InBLat_InBLatIdeal
    ∧ algebraic_InBLatIdeal_InBLatReferenceIdeal (hInBLatIdeal := hInBLatIdeal) (hInBLatReferenceIdeal := hInBLatReferenceIdeal)
    ∧ preserves_InCLat_InCLatIdeal
    ∧ algebraic_InCLatIdeal_InCLatReferenceIdeal (hInCLatIdeal := hInCLatIdeal) (hInCLatReferenceIdeal := hInCLatReferenceIdeal)
    ∧ preserves_FirstALat_FirstALatIdeal
    ∧ algebraic_FirstALatIdeal_FirstALatReferenceIdeal (hFirstALatIdeal := hFirstALatIdeal) (hFirstALatReferenceIdeal := hFirstALatReferenceIdeal)
    ∧ preserves_InALat_InALatIdeal
    ∧ algebraic_InALatIdeal_InALatReferenceIdeal (hInALatIdeal := hInALatIdeal) (hInALatReferenceIdeal := hInALatReferenceIdeal)
    ∧ preserves_Final_FinalIdeal
    ∧ algebraic_FinalIdeal_FinalReferenceIdeal (hFinalIdeal := hFinalIdeal) (hFinalReferenceIdeal := hFinalReferenceIdeal)
-- ==== Pre_finite_logits.lean ====
abbrev S16 : Shape := ⟨1, ![16]⟩
abbrev S4096x1024 : Shape := ⟨2, ![4096, 1024]⟩
abbrev S16x256x256 : Shape := ⟨3, ![16, 256, 256]⟩
abbrev S4096x256 : Shape := ⟨2, ![4096, 256]⟩
abbrev S4096x16 : Shape := ⟨2, ![4096, 16]⟩
abbrev S4096x1296 : Shape := ⟨2, ![4096, 1296]⟩
abbrev S_ : Shape := ⟨0, ![]⟩

class Facts : Prop where
  bitsLt_bf16_f32 : FTy.bits .bf16 < FTy.bits .f32
  shapeCasts_S16x256x256_S4096x256 : S16x256x256.ShapeCasts S4096x256
  bcast_S16_S4096x16_1 : S16.BroadcastsInDim S4096x16 (![1] : Fin 1 → Fin S4096x16.rank)
  concatenates_S4096x1024_S4096x256_S4096x16_S4096x1296_d1 : Shape.Concatenates [S4096x1024, S4096x256, S4096x16] S4096x1296 1
  bcast_S_S4096x1296 : S_.BroadcastsInDim S4096x1296 (![] : Fin 0 → Fin S4096x1296.rank)

variable [Facts]

def fn {F : FTy → Type} [FloatOps F] (main_arg0 : FVec F S16 .f32) (main_arg1 : FVec F S4096x1024 .bf16) (main_arg2 : FVec F S16x256x256 .f32) (main_arg3 : FVec F S16x256x256 .f32) (main_arg4 : FVec F S4096x1024 .bf16) : IVec S4096x1296 1 :=
  let main_v0 : FVec F S4096x1024 .f32 := (extf .f32 · bitsLt_bf16_f32) main_arg1
  let main_v1 : FVec F S4096x256 .f32 := shapeCast S4096x256 main_arg2 shapeCasts_S16x256x256_S4096x256
  let main_v2 : FVec F S4096x16 .f32 := broadcastInDim S4096x16 ![1] bcast_S16_S4096x16_1 main_arg0
  let main_v3 : FVec F S4096x1296 .f32 := concatenate S4096x1296 1 [⟨S4096x1024, main_v0⟩, ⟨S4096x256, main_v1⟩, ⟨S4096x16, main_v2⟩] concatenates_S4096x1024_S4096x256_S4096x16_S4096x1296_d1
  let main_v4 : FVec F S4096x1296 .f32 := Host.absf main_v3
  let main_cst : FVec F S_ .f32 := constant S_ .f32 0x7F800000#32
  let main_v5 : FVec F S4096x1296 .f32 := broadcastInDim S4096x1296 ![] bcast_S_S4096x1296 main_cst
  let main_v6 : IVec S4096x1296 1 := cmpf .olt main_v4 main_v5
  main_v6
-- ==== Pre_finite_scores.lean ====
abbrev S64 : Shape := ⟨1, ![64]⟩
abbrev S128 : Shape := ⟨1, ![128]⟩
abbrev S4096x1024 : Shape := ⟨2, ![4096, 1024]⟩
abbrev S16x1024x256 : Shape := ⟨3, ![16, 1024, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  shapeCasts_S16x1024x256_S4096x1024 : S16x1024x256.ShapeCasts S4096x1024

variable [Facts]

def fn {F : FTy → Type} [FloatOps F] (main_arg0 : FVec F S64 .f32) (main_arg1 : FVec F S64 .f32) (main_arg2 : FVec F S64 .f32) (main_arg3 : FVec F S64 .f32) (main_arg4 : FVec F S128 .f32) (main_arg5 : FVec F S4096x1024 .bf16) (main_arg6 : FVec F S16x1024x256 .f32) (main_arg7 : FVec F S4096x1024 .f32) (main_arg8 : FVec F S4096x1024 .bf16) : IVec S4096x1024 1 :=
  let main_v0 : FVec F S4096x1024 .f32 := (extf .f32 · bitsLt_bf16_f32) main_arg5
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := shapeCast S4096x1024 main_arg6 shapeCasts_S16x1024x256_S4096x1024
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v3 main_v7
  main_v8
-- ==== Kernel.lean ====
abbrev S64 : Shape := ⟨1, ![64]⟩
abbrev S128 : Shape := ⟨1, ![128]⟩
abbrev S4096x1024 : Shape := ⟨2, ![4096, 1024]⟩
abbrev S16x1024x256 : Shape := ⟨3, ![16, 1024, 256]⟩
abbrev S1x64 : Shape := ⟨2, ![1, 64]⟩
abbrev S1x128 : Shape := ⟨2, ![1, 128]⟩
abbrev S256x1024 : Shape := ⟨2, ![256, 1024]⟩
abbrev S1x1024x256 : Shape := ⟨3, ![1, 1024, 256]⟩
abbrev S2x512x128 : Shape := ⟨3, ![2, 512, 128]⟩
abbrev S2x512x256 : Shape := ⟨3, ![2, 512, 256]⟩
abbrev S2x256x256 : Shape := ⟨3, ![2, 256, 256]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S4096x1024, .bf16⟩
  | .hbm, ⟨6, _⟩ => ⟨S16x1024x256, .f32⟩
  | .hbm, ⟨7, _⟩ => ⟨S4096x1024, .f32⟩
  | .hbm, ⟨8, _⟩ => ⟨S4096x1024, .bf16⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x128, .f32⟩
  | .hbm, ⟨14, _⟩ => ⟨S4096x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S1x1024x256, .f32⟩
  | .local _ .vmem, ⟨8, _⟩ => ⟨S1x1024x256, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S2x512x128, .bf16⟩
  | .local _ .vmem, ⟨16, _⟩ => ⟨S2x512x256, .f32⟩
  | .local _ .vmem, ⟨17, _⟩ => ⟨S2x256x256, .bf16⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference.lean ====
abbrev S64 : Shape := ⟨1, ![64]⟩
abbrev S128 : Shape := ⟨1, ![128]⟩
abbrev S4096x1024 : Shape := ⟨2, ![4096, 1024]⟩
abbrev S16x1024x256 : Shape := ⟨3, ![16, 1024, 256]⟩
abbrev S16x256x8x2x64 : Shape := ⟨5, ![16, 256, 8, 2, 64]⟩
abbrev S16x8x2x64x256 : Shape := ⟨5, ![16, 8, 2, 64, 256]⟩
abbrev S16x256x8x128 : Shape := ⟨4, ![16, 256, 8, 128]⟩
abbrev S_ : Shape := ⟨0, ![]⟩
abbrev S16x8x2x256x256 : Shape := ⟨5, ![16, 8, 2, 256, 256]⟩
abbrev S16x8x2x256 : Shape := ⟨4, ![16, 8, 2, 256]⟩
abbrev S16x8x2x256x1 : Shape := ⟨5, ![16, 8, 2, 256, 1]⟩
abbrev S16x8x1x256x256 : Shape := ⟨5, ![16, 8, 1, 256, 256]⟩
abbrev S16x8x256x256 : Shape := ⟨4, ![16, 8, 256, 256]⟩
abbrev S16x8x128x256 : Shape := ⟨4, ![16, 8, 128, 256]⟩
abbrev S16x256x8 : Shape := ⟨3, ![16, 256, 8]⟩
abbrev S16x256x8x1 : Shape := ⟨4, ![16, 256, 8, 1]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S4096x1024, .bf16⟩
  | .hbm, ⟨6, _⟩ => ⟨S16x1024x256, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S16x256x8x2x64, .f32⟩
  | .hbm, ⟨11, _⟩ => ⟨S16x8x2x64x256, .f32⟩
  | .hbm, ⟨12, _⟩ => ⟨S16x256x8x2x64, .f32⟩
  | .hbm, ⟨13, _⟩ => ⟨S16x256x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x8x2x256x256, .f32⟩
  | .hbm, ⟨26, _⟩ => ⟨S_, .f32⟩
  | .hbm, ⟨27, _⟩ => ⟨S_, .f32⟩
  | .hbm, ⟨28, _⟩ => ⟨S16x8x2x256x256, .f32⟩
  | .hbm, ⟨29, _⟩ => ⟨S16x8x2x256x256, .f32⟩
  | .hbm, ⟨30, _⟩ => ⟨S_, .f32⟩
  | .hbm, ⟨31, _⟩ => ⟨S16x8x2x256, .f32⟩
  | .hbm, ⟨32, _⟩ => ⟨S16x8x2x256x1, .f32⟩
  | .hbm, ⟨33, _⟩ => ⟨S16x8x2x256x256, .f32⟩
  | .hbm, ⟨34, _⟩ => ⟨S16x8x2x256x256, .f32⟩
  | .hbm, ⟨35, _⟩ => ⟨S16x8x2x256x256, .f32⟩
  | .hbm, ⟨36, _⟩ => ⟨S_, .f32⟩
  | .hbm, ⟨37, _⟩ => ⟨S16x8x2x256, .f32⟩
  | .hbm, ⟨38, _⟩ => ⟨S16x8x2x256x1, .f32⟩
  | .hbm, ⟨39, _⟩ => ⟨S16x8x2x256x256, .f32⟩
  | .hbm, ⟨40, _⟩ => ⟨S16x8x2x256x256, .f32⟩
  | .hbm, ⟨41, _⟩ => ⟨S16x8x1x256x256, .f32⟩
  | .hbm, ⟨42, _⟩ => ⟨S16x8x256x256, .f32⟩
  | .hbm, ⟨43, _⟩ => ⟨S16x8x1x256x256, .f32⟩
  | .hbm, ⟨44, _⟩ => ⟨S16x8x256x256, .f32⟩
  | .hbm, ⟨45, _⟩ => ⟨S16x8x256x256, .f32⟩
  | .hbm, ⟨46, _⟩ => ⟨S16x8x256x256, .f32⟩
  | .hbm, ⟨47, _⟩ => ⟨S16x8x256x256, .f32⟩
  | .hbm, ⟨48, _⟩ => ⟨S16x8x128x256, .f32⟩
  | .hbm, ⟨49, _⟩ => ⟨S16x256x8x128, .f32⟩
  | .hbm, ⟨50, _⟩ => ⟨S16x256x8x128, .f32⟩
  | .hbm, ⟨51, _⟩ => ⟨S_, .f32⟩
  | .hbm, ⟨52, _⟩ => ⟨S16x256x8, .f32⟩
  | .hbm, ⟨53, _⟩ => ⟨S16x256x8x1, .f32⟩
  | .hbm, ⟨54, _⟩ => ⟨S_, .f32⟩
  | .hbm, ⟨55, _⟩ => ⟨S16x256x8x1, .f32⟩
  | .hbm, ⟨56, _⟩ => ⟨S16x256x8x1, .f32⟩
  | .hbm, ⟨57, _⟩ => ⟨S_, .f32⟩
  | .hbm, ⟨58, _⟩ => ⟨S16x256x8x1, .f32⟩
  | .hbm, ⟨59, _⟩ => ⟨S16x256x8x1, .f32⟩
  | .hbm, ⟨60, _⟩ => ⟨S16x256x8x1, .f32⟩
  | .hbm, ⟨61, _⟩ => ⟨S16x256x8x128, .f32⟩
  | .hbm, ⟨62, _⟩ => ⟨S16x256x8x128, .f32⟩
  | .hbm, ⟨63, _⟩ => ⟨S1x1x1x128, .f32⟩
  | .hbm, ⟨64, _⟩ => ⟨S16x256x8x128, .f32⟩
  | .hbm, ⟨65, _⟩ => ⟨S16x256x8x128, .f32⟩
  | .hbm, ⟨66, _⟩ => ⟨S_, .f32⟩
  | .hbm, ⟨67, _⟩ => ⟨S16x256x8x128, .f32⟩
  | .hbm, ⟨68, _⟩ => ⟨S16x256x8x128, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Sink.lean ====
abbrev S16 : Shape := ⟨1, ![16]⟩
abbrev S4096x1024 : Shape := ⟨2, ![4096, 1024]⟩
abbrev S16x256x256 : Shape := ⟨3, ![16, 256, 256]⟩
abbrev S256x1024 : Shape := ⟨2, ![256, 1024]⟩
abbrev S1x256x256 : Shape := ⟨3, ![1, 256, 256]⟩
abbrev S2x2048x128 : Shape := ⟨3, ![2, 2048, 128]⟩
abbrev S2x2048x256 : Shape := ⟨3, ![2, 2048, 256]⟩
abbrev S1x128 : Shape := ⟨2, ![1, 128]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S1x2048x128 : Shape := ⟨3, ![1, 2048, 128]⟩
abbrev S2048x128 : Shape := ⟨2, ![2048, 128]⟩
abbrev S2048x256 : Shape := ⟨2, ![2048, 256]⟩
abbrev S1x2048x256 : Shape := ⟨3, ![1, 2048, 256]⟩
abbrev S1 : Shape := ⟨1, ![1]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 13
  | .smem => 1
  | _ => 0

abbrev bufTy : (tb : Table) → Fin (tcTables nBuf tb) → BufTy
  | .hbm, ⟨0, _⟩ => ⟨S16, .f32⟩
  | .hbm, ⟨1, _⟩ => ⟨S4096x1024, .bf16⟩
  | .hbm, ⟨2, _⟩ => ⟨S16x256x256, .f32⟩
  | .hbm, ⟨3, _⟩ => ⟨S16x256x256, .f32⟩
  | .hbm, ⟨4, _⟩ => ⟨S4096x1024, .bf16⟩
  | .hbm, ⟨5, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S2x2048x128, .bf16⟩
  | .local _ .vmem, ⟨11, _⟩ => ⟨S2x2048x256, .f32⟩
  | .local _ .vmem, ⟨12, _⟩ => ⟨S2x2048x256, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SinkIdeal.lean ====
variable {F : FTy → Type} [FloatOps F] [Named F]
def κ : String → Option EReal := fun
  | "log2e" => some (((Real.log 2)⁻¹ : ℝ) : EReal)
  | _ => none
-- ==== SinkReference.lean ====
abbrev S16 : Shape := ⟨1, ![16]⟩
abbrev S4096x1024 : Shape := ⟨2, ![4096, 1024]⟩
abbrev S16x256x256 : Shape := ⟨3, ![16, 256, 256]⟩
abbrev S16x256x2x4x2x64 : Shape := ⟨6, ![16, 256, 2, 4, 2, 64]⟩
abbrev S16x2x2x64x256 : Shape := ⟨5, ![16, 2, 2, 64, 256]⟩
abbrev S16x256x2x2x64 : Shape := ⟨5, ![16, 256, 2, 2, 64]⟩
abbrev S1x2x4x2x1x1 : Shape := ⟨6, ![1, 2, 4, 2, 1, 1]⟩
abbrev S16x2x2x256x256x4 : Shape := ⟨6, ![16, 2, 2, 256, 256, 4]⟩
abbrev S16x2x4x2x256x256 : Shape := ⟨6, ![16, 2, 4, 2, 256, 256]⟩
abbrev S_ : Shape := ⟨0, ![]⟩
abbrev S16x2x4x2x256 : Shape := ⟨5, ![16, 2, 4, 2, 256]⟩
abbrev S16x2x4x2x256x1 : Shape := ⟨6, ![16, 2, 4, 2, 256, 1]⟩
abbrev S16x2x2x64x4x256 : Shape := ⟨6, ![16, 2, 2, 64, 4, 256]⟩

abbrev nBuf : Space → Nat
  | .hbm => 50
  | .vmem => 0
  | .smem => 0
  | _ => 0

abbrev bufTy : (tb : Table) → Fin (tcTables nBuf tb) → BufTy
  | .hbm, ⟨0, _⟩ => ⟨S16, .f32⟩
  | .hbm, ⟨1, _⟩ => ⟨S4096x1024, .bf16⟩
  | .hbm, ⟨2, _⟩ => ⟨S16x256x256, .f32⟩
  | .hbm, ⟨3, _⟩ => ⟨S16x256x256, .f32⟩
  | .hbm, ⟨4, _⟩ => ⟨S4096x1024, .bf16⟩
  | .hbm, ⟨5, _⟩ => ⟨S4096x1024, .f32⟩
  | .hbm, ⟨6, _⟩ => ⟨S16x256x2x4x2x64, .f32⟩
  | .hbm, ⟨7, _⟩ => ⟨S16x2x2x64x256, .f32⟩
  | .hbm, ⟨8, _⟩ => ⟨S16x256x2x2x64, .f32⟩
  | .hbm, ⟨9, _⟩ => ⟨S16x2x2x64x256, .f32⟩
  | .hbm, ⟨10, _⟩ => ⟨S16x256x2x2x64, .f32⟩
  | .hbm, ⟨11, _⟩ => ⟨S1x2x4x2x1x1, .f32⟩
  | .hbm, ⟨12, _⟩ => ⟨S16x2x2x256x256x4, .f32⟩
  | .hbm, ⟨13, _⟩ => ⟨S16x2x4x2x256x256, .f32⟩
  | .hbm, ⟨14, _⟩ => ⟨S_, .f32⟩
  | .hbm, ⟨15, _⟩ => ⟨S_, .f32⟩
  | .hbm, ⟨16, _⟩ => ⟨S16x2x4x2x256x256, .f32⟩
  | .hbm, ⟨17, _⟩ => ⟨S16x2x4x2x256x256, .f32⟩
  | .hbm, ⟨18, _⟩ => ⟨S_, .f32⟩
  | .hbm, ⟨19, _⟩ => ⟨S16x2x4x2x256, .f32⟩
  | .hbm, ⟨20, _⟩ => ⟨S16x2x4x2x256x1, .f32⟩
  | .hbm, ⟨21, _⟩ => ⟨S16x2x4x2x256x1, .f32⟩
  | .hbm, ⟨22, _⟩ => ⟨S16x2x4x2x256x1, .f32⟩
  | .hbm, ⟨23, _⟩ => ⟨S16x2x4x2x256x256, .f32⟩
  | .hbm, ⟨24, _⟩ => ⟨S16x2x4x2x256x256, .f32⟩
  | .hbm, ⟨25, _⟩ => ⟨S16x2x4x2x256x256, .f32⟩
  | .hbm, ⟨26, _⟩ => ⟨S_, .f32⟩
  | .hbm, ⟨27, _⟩ => ⟨S16x2x4x2x256, .f32⟩
  | .hbm, ⟨28, _⟩ => ⟨S16x2x4x2x256x1, .f32⟩
  | .hbm, ⟨29, _⟩ => ⟨S16x2x4x2x256x1, .f32⟩
  | .hbm, ⟨30, _⟩ => ⟨S16x2x4x2x256x1, .f32⟩
  | .hbm, ⟨31, _⟩ => ⟨S16x2x4x2x256x1, .f32⟩
  | .hbm, ⟨32, _⟩ => ⟨S16x2x4x2x256x1, .f32⟩
  | .hbm, ⟨33, _⟩ => ⟨S16x2x4x2x256x256, .f32⟩
  | .hbm, ⟨34, _⟩ => ⟨S16x2x4x2x256x256, .f32⟩
  | .hbm, ⟨35, _⟩ => ⟨S16x2x2x64x4x256, .f32⟩
  | .hbm, ⟨36, _⟩ => ⟨S16x256x2x4x2x64, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== InB.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4096 : Shape := ⟨2, ![1024, 4096]⟩
abbrev S1x1024 : Shape := ⟨2, ![1, 1024]⟩
abbrev S16x1024x256 : Shape := ⟨3, ![16, 1024, 256]⟩
abbrev S512x1024 : Shape := ⟨2, ![512, 1024]⟩
abbrev S1x1x3072 : Shape := ⟨3, ![1, 1, 3072]⟩
abbrev S2x1024x256 : Shape := ⟨3, ![2, 1024, 256]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4096, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S16x1024x256, .f32⟩
  | .hbm, ⟨11, _⟩ => ⟨S4096x1024, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1x3072, .f32⟩
  | .local _ .vmem, ⟨8, _⟩ => ⟨S1024x4096, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2x1024x256, .f32⟩
  | .local _ .vmem, ⟨14, _⟩ => ⟨S2x1024x256, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InBReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4096 : Shape := ⟨2, ![1024, 4096]⟩
abbrev S1x1x3072 : Shape := ⟨3, ![1, 1, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S16x256x1024 : Shape := ⟨3, ![16, 256, 1024]⟩
abbrev S16x1024x256 : Shape := ⟨3, ![16, 1024, 256]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4096, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1x1x3072, .f32⟩
  | .hbm, ⟨11, _⟩ => ⟨S1x3072, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1x3072, .f32⟩
  | .hbm, ⟨17, _⟩ => ⟨S1x3072, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S16x256x1024, .f32⟩
  | .hbm, ⟨55, _⟩ => ⟨S16x1024x256, .f32⟩
  | .hbm, ⟨56, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== InC.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4128 : Shape := ⟨2, ![1024, 4128]⟩
abbrev S1024x128 : Shape := ⟨2, ![1024, 128]⟩
abbrev S1x128 : Shape := ⟨2, ![1, 128]⟩
abbrev S1x1024 : Shape := ⟨2, ![1, 1024]⟩
abbrev S4096x3072 : Shape := ⟨2, ![4096, 3072]⟩
abbrev S4096x128 : Shape := ⟨2, ![4096, 128]⟩
abbrev S512x1024 : Shape := ⟨2, ![512, 1024]⟩
abbrev S1x1x3072 : Shape := ⟨3, ![1, 1, 3072]⟩
abbrev S512x3072 : Shape := ⟨2, ![512, 3072]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4128, .bf16⟩
  | .hbm, ⟨7, _⟩ => ⟨S1024x128, .bf16⟩
  | .hbm, ⟨8, _⟩ => ⟨S1x128, .f32⟩
  | .hbm, ⟨9, _⟩ => ⟨S1x128, .f32⟩
  | .hbm, ⟨10, _⟩ => ⟨S1x1024, .f32⟩
  | .hbm, ⟨11, _⟩ => ⟨S4096x1024, .f32⟩
  | .hbm, ⟨12, _⟩ => ⟨S4096x3072, .bf16⟩
  | .hbm, ⟨13, _⟩ => ⟨S4096x1024, .bf16⟩
  | .hbm, ⟨14, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1x3072, .f32⟩
  | .local _ .vmem, ⟨8, _⟩ => ⟨S1024x4128, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InCReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4128 : Shape := ⟨2, ![1024, 4128]⟩
abbrev S1024x128 : Shape := ⟨2, ![1024, 128]⟩
abbrev S1x128 : Shape := ⟨2, ![1, 128]⟩
abbrev S1x1x3072 : Shape := ⟨3, ![1, 1, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4128 : Shape := ⟨2, ![4096, 4128]⟩
abbrev S4096x128 : Shape := ⟨2, ![4096, 128]⟩
abbrev S4096x16 : Shape := ⟨2, ![4096, 16]⟩
abbrev S4096x112 : Shape := ⟨2, ![4096, 112]⟩
abbrev S4096x3072 : Shape := ⟨2, ![4096, 3072]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4128, .bf16⟩
  | .hbm, ⟨7, _⟩ => ⟨S1024x128, .bf16⟩
  | .hbm, ⟨8, _⟩ => ⟨S1x128, .f32⟩
  | .hbm, ⟨9, _⟩ => ⟨S1x128, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S1x1x3072, .f32⟩
  | .hbm, ⟨14, _⟩ => ⟨S1x3072, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1x3072, .f32⟩
  | .hbm, ⟨20, _⟩ => ⟨S1x3072, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x4128, .f32⟩
  | .hbm, ⟨48, _⟩ => ⟨S4096x4128, .f32⟩
  | .hbm, ⟨49, _⟩ => ⟨S1024x128, .f32⟩
  | .hbm, ⟨50, _⟩ => ⟨S4096x128, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S4096x16, .f32⟩
  | .hbm, ⟨56, _⟩ => ⟨S4096x16, .f32⟩
  | .hbm, ⟨57, _⟩ => ⟨S_, .f32⟩
  | .hbm, ⟨58, _⟩ => ⟨S4096x16, .f32⟩
  | .hbm, ⟨59, _⟩ => ⟨S4096x16, .f32⟩
  | .hbm, ⟨60, _⟩ => ⟨S1x128, .f32⟩
  | .hbm, ⟨61, _⟩ => ⟨S1x128, .f32⟩
  | .hbm, ⟨62, _⟩ => ⟨S4096x128, .f32⟩
  | .hbm, ⟨63, _⟩ => ⟨S4096x128, .f32⟩
  | .hbm, ⟨64, _⟩ => ⟨S_, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x128, .i1⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S4096x112, .f32⟩
  | .hbm, ⟨81, _⟩ => ⟨S4096x128, .f32⟩
  | .hbm, ⟨82, _⟩ => ⟨S4096x3072, .f32⟩
  | .hbm, ⟨83, _⟩ => ⟨S4096x3072, .bf16⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== InA.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x2560 : Shape := ⟨2, ![1024, 2560]⟩
abbrev S1x1024 : Shape := ⟨2, ![1, 1024]⟩
abbrev S16x256x256 : Shape := ⟨3, ![16, 256, 256]⟩
abbrev S512x1024 : Shape := ⟨2, ![512, 1024]⟩
abbrev S1x1x3072 : Shape := ⟨3, ![1, 1, 3072]⟩
abbrev S2x256x256 : Shape := ⟨3, ![2, 256, 256]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x2560, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S16x256x256, .f32⟩
  | .hbm, ⟨11, _⟩ => ⟨S16x256x256, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1x3072, .f32⟩
  | .local _ .vmem, ⟨8, _⟩ => ⟨S1024x2560, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2x256x256, .f32⟩
  | .local _ .vmem, ⟨14, _⟩ => ⟨S2x256x256, .f32⟩
  | .local _ .vmem, ⟨15, _⟩ => ⟨S2x256x256, .f32⟩
  | .local _ .vmem, ⟨16, _⟩ => ⟨S2x256x256, .f32⟩
  | .local _ .vmem, ⟨17, _⟩ => ⟨S512x1024, .bf16⟩
  | .local _ .vmem, ⟨18, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InAReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x2560 : Shape := ⟨2, ![1024, 2560]⟩
abbrev S1x1x3072 : Shape := ⟨3, ![1, 1, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S4096x256 : Shape := ⟨2, ![4096, 256]⟩
abbrev S16x256x256 : Shape := ⟨3, ![16, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x2560, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1x1x3072, .f32⟩
  | .hbm, ⟨11, _⟩ => ⟨S1x3072, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1x3072, .f32⟩
  | .hbm, ⟨17, _⟩ => ⟨S1x3072, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x2560, .f32⟩
  | .hbm, ⟨45, _⟩ => ⟨S4096x2560, .f32⟩
  | .hbm, ⟨46, _⟩ => ⟨S4096x1024, .f32⟩
  | .hbm, ⟨47, _⟩ => ⟨S4096x256, .f32⟩
  | .hbm, ⟨48, _⟩ => ⟨S4096x256, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S16x256x256, .f32⟩
  | .hbm, ⟨55, _⟩ => ⟨S16x256x256, .f32⟩
  | .hbm, ⟨56, _⟩ => ⟨S16x256x256, .f32⟩
  | .hbm, ⟨57, _⟩ => ⟨S16x256x256, .f32⟩
  | .hbm, ⟨58, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== FirstA.lean ====
abbrev S4096x1024 : Shape := ⟨2, ![4096, 1024]⟩
abbrev S1024 : Shape := ⟨1, ![1024]⟩
abbrev S8x1x3072 : Shape := ⟨3, ![8, 1, 3072]⟩
abbrev S1024x2560 : Shape := ⟨2, ![1024, 2560]⟩
abbrev S1x1024 : Shape := ⟨2, ![1, 1024]⟩
abbrev S16x256x256 : Shape := ⟨3, ![16, 256, 256]⟩
abbrev S512x1024 : Shape := ⟨2, ![512, 1024]⟩
abbrev S1x1x3072 : Shape := ⟨3, ![1, 1, 3072]⟩
abbrev S2x256x256 : Shape := ⟨3, ![2, 256, 256]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x3072, .f32⟩
  | .hbm, ⟨3, _⟩ => ⟨S1024x2560, .bf16⟩
  | .hbm, ⟨4, _⟩ => ⟨S1x1024, .f32⟩
  | .hbm, ⟨5, _⟩ => ⟨S4096x1024, .bf16⟩
  | .hbm, ⟨6, _⟩ => ⟨S16x256x256, .f32⟩
  | .hbm, ⟨7, _⟩ => ⟨S16x256x256, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x3072, .f32⟩
  | .local _ .vmem, ⟨4, _⟩ => ⟨S1024x2560, .bf16⟩
  | .local _ .vmem, ⟨5, _⟩ => ⟨S512x1024, .bf16⟩
  | .local _ .vmem, ⟨6, _⟩ => ⟨S512x1024, .bf16⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FirstAReferenceIdeal.lean ====
abbrev S4096x1024 : Shape := ⟨2, ![4096, 1024]⟩
abbrev S1024 : Shape := ⟨1, ![1024]⟩
abbrev S8x1x3072 : Shape := ⟨3, ![8, 1, 3072]⟩
abbrev S1024x2560 : Shape := ⟨2, ![1024, 2560]⟩
abbrev S1x1x3072 : Shape := ⟨3, ![1, 1, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S4096x256 : Shape := ⟨2, ![4096, 256]⟩
abbrev S16x256x256 : Shape := ⟨3, ![16, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x3072, .f32⟩
  | .hbm, ⟨3, _⟩ => ⟨S1024x2560, .bf16⟩
  | .hbm, ⟨4, _⟩ => ⟨S1x1x3072, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x2560, .f32⟩
  | .hbm, ⟨33, _⟩ => ⟨S4096x2560, .f32⟩
  | .hbm, ⟨34, _⟩ => ⟨S4096x1024, .f32⟩
  | .hbm, ⟨35, _⟩ => ⟨S4096x256, .f32⟩
  | .hbm, ⟨36, _⟩ => ⟨S4096x256, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S16x256x256, .f32⟩
  | .hbm, ⟨43, _⟩ => ⟨S16x256x256, .f32⟩
  | .hbm, ⟨44, _⟩ => ⟨S16x256x256, .f32⟩
  | .hbm, ⟨45, _⟩ => ⟨S16x256x256, .f32⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Mod.lean ====
abbrev S8x1024 : Shape := ⟨2, ![8, 1024]⟩
abbrev S1024x3072 : Shape := ⟨2, ![1024, 3072]⟩
abbrev S3072 : Shape := ⟨1, ![3072]⟩
abbrev S1x3072 : Shape := ⟨2, ![1, 3072]⟩
abbrev S8x3072 : Shape := ⟨2, ![8, 3072]⟩
abbrev S1024x512 : Shape := ⟨2, ![1024, 512]⟩
abbrev S1x512 : Shape := ⟨2, ![1, 512]⟩
abbrev S8x512 : Shape := ⟨2, ![8, 512]⟩

abbrev nBuf : Space → Nat
  | .hbm => 17
  | .vmem => 25
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S1x3072, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S8x3072, .f32⟩
  | .hbm, ⟨14, _⟩ => ⟨S8x3072, .f32⟩
  | .hbm, ⟨15, _⟩ => ⟨S8x3072, .f32⟩
  | .hbm, ⟨16, _⟩ => ⟨S8x3072, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ModReferenceIdeal.lean ====
abbrev S8x1024 : Shape := ⟨2, ![8, 1024]⟩
abbrev S1024x3072 : Shape := ⟨2, ![1024, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x3072, .f32⟩
  | .hbm, ⟨19, _⟩ => ⟨S1x3072, .f32⟩
  | .hbm, ⟨20, _⟩ => ⟨S8x3072, .f32⟩
  | .hbm, ⟨21, _⟩ => ⟨S8x3072, .f32⟩
  | .hbm, ⟨22, _⟩ => ⟨S8x3072, .f32⟩
  | .hbm, ⟨23, _⟩ => ⟨S1x3072, .f32⟩
  | .hbm, ⟨24, _⟩ => ⟨S8x3072, .f32⟩
  | .hbm, ⟨25, _⟩ => ⟨S8x3072, .f32⟩
  | .hbm, ⟨26, _⟩ => ⟨S8x3072, .f32⟩
  | .hbm, ⟨27, _⟩ => ⟨S1x3072, .f32⟩
  | .hbm, ⟨28, _⟩ => ⟨S8x3072, .f32⟩
  | .hbm, ⟨29, _⟩ => ⟨S8x3072, .f32⟩
  | .hbm, ⟨30, _⟩ => ⟨S8x3072, .f32⟩
  | .hbm, ⟨31, _⟩ => ⟨S1x3072, .f32⟩
  | .hbm, ⟨32, _⟩ => ⟨S8x3072, .f32⟩
  | .hbm, ⟨33, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== InBLat.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4096 : Shape := ⟨2, ![1024, 4096]⟩
abbrev S1024x128 : Shape := ⟨2, ![1024, 128]⟩
abbrev S1x1024 : Shape := ⟨2, ![1, 1024]⟩
abbrev S512x1024 : Shape := ⟨2, ![512, 1024]⟩
abbrev S1x1x3072 : Shape := ⟨3, ![1, 1, 3072]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4096, .bf16⟩
  | .hbm, ⟨7, _⟩ => ⟨S1024x128, .f32⟩
  | .hbm, ⟨8, _⟩ => ⟨S1024x128, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S1x1x3072, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x3072, .f32⟩
  | .local _ .vmem, ⟨9, _⟩ => ⟨S1x1x3072, .f32⟩
  | .local _ .vmem, ⟨10, _⟩ => ⟨S1024x4096, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InBLatReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4096 : Shape := ⟨2, ![1024, 4096]⟩
abbrev S1024x128 : Shape := ⟨2, ![1024, 128]⟩
abbrev S4x1x3072 : Shape := ⟨3, ![4, 1, 3072]⟩
abbrev S4x1024x3072 : Shape := ⟨3, ![4, 1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4096x32x2x16 : Shape := ⟨4, ![4096, 32, 2, 16]⟩
abbrev S1x1024x1x128 : Shape := ⟨4, ![1, 1024, 1, 128]⟩
abbrev S4x1024x8x128 : Shape := ⟨4, ![4, 1024, 8, 128]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4096, .bf16⟩
  | .hbm, ⟨7, _⟩ => ⟨S1024x128, .f32⟩
  | .hbm, ⟨8, _⟩ => ⟨S1024x128, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4x1x3072, .f32⟩
  | .hbm, ⟨13, _⟩ => ⟨S4x1024x3072, .f32⟩
  | .hbm, ⟨14, _⟩ => ⟨S4096x3072, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1x3072, .f32⟩
  | .hbm, ⟨19, _⟩ => ⟨S4x1024x3072, .f32⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1024x4096, .f32⟩
  | .hbm, ⟨46, _⟩ => ⟨S4096x4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x32x2x16, .f32⟩
  | .hbm, ⟨52, _⟩ => ⟨S4096x32x2x16, .f32⟩
  | .hbm, ⟨53, _⟩ => ⟨S4096x1024, .f32⟩
  | .hbm, ⟨54, _⟩ => ⟨S1x1024x1x128, .f32⟩
  | .hbm, ⟨55, _⟩ => ⟨S4x1024x8x128, .f32⟩
  | .hbm, ⟨56, _⟩ => ⟨S4096x1024, .f32⟩
  | .hbm, ⟨57, _⟩ => ⟨S4096x1024, .f32⟩
  | .hbm, ⟨58, _⟩ => ⟨S1x1024x1x128, .f32⟩
  | .hbm, ⟨59, _⟩ => ⟨S4x1024x8x128, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x32x2x16, .f32⟩
  | .hbm, ⟨64, _⟩ => ⟨S4096x32x2x16, .f32⟩
  | .hbm, ⟨65, _⟩ => ⟨S4096x1024, .f32⟩
  | .hbm, ⟨66, _⟩ => ⟨S1x1024x1x128, .f32⟩
  | .hbm, ⟨67, _⟩ => ⟨S4x1024x8x128, .f32⟩
  | .hbm, ⟨68, _⟩ => ⟨S4096x1024, .f32⟩
  | .hbm, ⟨69, _⟩ => ⟨S4096x1024, .f32⟩
  | .hbm, ⟨70, _⟩ => ⟨S1x1024x1x128, .f32⟩
  | .hbm, ⟨71, _⟩ => ⟨S4x1024x8x128, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S4096x1024, .bf16⟩
  | .hbm, ⟨80, _⟩ => ⟨S4096x1024, .bf16⟩
  | .hbm, ⟨81, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== InCLat.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4128 : Shape := ⟨2, ![1024, 4128]⟩
abbrev S1024x128 : Shape := ⟨2, ![1024, 128]⟩
abbrev S1x128 : Shape := ⟨2, ![1, 128]⟩
abbrev S1x1024 : Shape := ⟨2, ![1, 1024]⟩
abbrev S4096x3072 : Shape := ⟨2, ![4096, 3072]⟩
abbrev S4096x128 : Shape := ⟨2, ![4096, 128]⟩
abbrev S512x1024 : Shape := ⟨2, ![512, 1024]⟩
abbrev S1x1x3072 : Shape := ⟨3, ![1, 1, 3072]⟩
abbrev S512x3072 : Shape := ⟨2, ![512, 3072]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4128, .bf16⟩
  | .hbm, ⟨7, _⟩ => ⟨S1024x128, .bf16⟩
  | .hbm, ⟨8, _⟩ => ⟨S1x128, .f32⟩
  | .hbm, ⟨9, _⟩ => ⟨S1x128, .f32⟩
  | .hbm, ⟨10, _⟩ => ⟨S1x1024, .f32⟩
  | .hbm, ⟨11, _⟩ => ⟨S4096x1024, .f32⟩
  | .hbm, ⟨12, _⟩ => ⟨S4096x3072, .bf16⟩
  | .hbm, ⟨13, _⟩ => ⟨S4096x1024, .bf16⟩
  | .hbm, ⟨14, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S1x1x3072, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x3072, .f32⟩
  | .local _ .vmem, ⟨9, _⟩ => ⟨S1x1x3072, .f32⟩
  | .local _ .vmem, ⟨10, _⟩ => ⟨S1024x4128, .bf16⟩
  | .local _ .vmem, ⟨11, _⟩ => ⟨S1024x128, .bf16⟩
  | .local _ .vmem, ⟨12, _⟩ => ⟨S1x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x3072, .bf16⟩
  | .local _ .vmem, ⟨17, _⟩ => ⟨S512x3072, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InCLatReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x4128 : Shape := ⟨2, ![1024, 4128]⟩
abbrev S1024x128 : Shape := ⟨2, ![1024, 128]⟩
abbrev S1x128 : Shape := ⟨2, ![1, 128]⟩
abbrev S4x1x3072 : Shape := ⟨3, ![4, 1, 3072]⟩
abbrev S4x1024x3072 : Shape := ⟨3, ![4, 1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4128 : Shape := ⟨2, ![4096, 4128]⟩
abbrev S4096x128 : Shape := ⟨2, ![4096, 128]⟩
abbrev S4096x16 : Shape := ⟨2, ![4096, 16]⟩
abbrev S4096x112 : Shape := ⟨2, ![4096, 112]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x4128, .bf16⟩
  | .hbm, ⟨7, _⟩ => ⟨S1024x128, .bf16⟩
  | .hbm, ⟨8, _⟩ => ⟨S1x128, .f32⟩
  | .hbm, ⟨9, _⟩ => ⟨S1x128, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4x1x3072, .f32⟩
  | .hbm, ⟨14, _⟩ => ⟨S4x1024x3072, .f32⟩
  | .hbm, ⟨15, _⟩ => ⟨S4096x3072, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4x1x3072, .f32⟩
  | .hbm, ⟨20, _⟩ => ⟨S4x1024x3072, .f32⟩
  | .hbm, ⟨21, _⟩ => ⟨S4096x3072, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1024x4128, .f32⟩
  | .hbm, ⟨47, _⟩ => ⟨S4096x4128, .f32⟩
  | .hbm, ⟨48, _⟩ => ⟨S1024x128, .f32⟩
  | .hbm, ⟨49, _⟩ => ⟨S4096x128, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S_, .f32⟩
  | .hbm, ⟨54, _⟩ => ⟨S4096x16, .f32⟩
  | .hbm, ⟨55, _⟩ => ⟨S4096x16, .f32⟩
  | .hbm, ⟨56, _⟩ => ⟨S_, .f32⟩
  | .hbm, ⟨57, _⟩ => ⟨S4096x16, .f32⟩
  | .hbm, ⟨58, _⟩ => ⟨S4096x16, .f32⟩
  | .hbm, ⟨59, _⟩ => ⟨S1x128, .f32⟩
  | .hbm, ⟨60, _⟩ => ⟨S1x128, .f32⟩
  | .hbm, ⟨61, _⟩ => ⟨S4096x128, .f32⟩
  | .hbm, ⟨62, _⟩ => ⟨S4096x128, .f32⟩
  | .hbm, ⟨63, _⟩ => ⟨S_, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .i1⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S4096x112, .f32⟩
  | .hbm, ⟨80, _⟩ => ⟨S4096x128, .f32⟩
  | .hbm, ⟨81, _⟩ => ⟨S4096x3072, .f32⟩
  | .hbm, ⟨82, _⟩ => ⟨S4096x3072, .bf16⟩
  | .hbm, ⟨83, _⟩ => ⟨S4096x1024, .f32⟩
  | .hbm, ⟨84, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== FirstALat.lean ====
abbrev S4096x1024 : Shape := ⟨2, ![4096, 1024]⟩
abbrev S1024 : Shape := ⟨1, ![1024]⟩
abbrev S8x1x3072 : Shape := ⟨3, ![8, 1, 3072]⟩
abbrev S1024x2560 : Shape := ⟨2, ![1024, 2560]⟩
abbrev S1024x128 : Shape := ⟨2, ![1024, 128]⟩
abbrev S1x1024 : Shape := ⟨2, ![1, 1024]⟩
abbrev S4096x256 : Shape := ⟨2, ![4096, 256]⟩
abbrev S512x1024 : Shape := ⟨2, ![512, 1024]⟩
abbrev S1x1x3072 : Shape := ⟨3, ![1, 1, 3072]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x3072, .f32⟩
  | .hbm, ⟨3, _⟩ => ⟨S1024x2560, .bf16⟩
  | .hbm, ⟨4, _⟩ => ⟨S1024x128, .f32⟩
  | .hbm, ⟨5, _⟩ => ⟨S1024x128, .f32⟩
  | .hbm, ⟨6, _⟩ => ⟨S1x1024, .f32⟩
  | .hbm, ⟨7, _⟩ => ⟨S4096x1024, .bf16⟩
  | .hbm, ⟨8, _⟩ => ⟨S4096x256, .bf16⟩
  | .hbm, ⟨9, _⟩ => ⟨S4096x256, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x3072, .f32⟩
  | .local _ .vmem, ⟨4, _⟩ => ⟨S1x1x3072, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FirstALatReferenceIdeal.lean ====
abbrev S4096x1024 : Shape := ⟨2, ![4096, 1024]⟩
abbrev S1024 : Shape := ⟨1, ![1024]⟩
abbrev S8x1x3072 : Shape := ⟨3, ![8, 1, 3072]⟩
abbrev S1024x2560 : Shape := ⟨2, ![1024, 2560]⟩
abbrev S1024x128 : Shape := ⟨2, ![1024, 128]⟩
abbrev S4x1x3072 : Shape := ⟨3, ![4, 1, 3072]⟩
abbrev S4x1024x3072 : Shape := ⟨3, ![4, 1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x256 : Shape := ⟨2, ![4096, 256]⟩
abbrev S4096x32x2x16 : Shape := ⟨4, ![4096, 32, 2, 16]⟩
abbrev S1x1024x1x128 : Shape := ⟨4, ![1, 1024, 1, 128]⟩
abbrev S4x1024x8x128 : Shape := ⟨4, ![4, 1024, 8, 128]⟩
abbrev S4096x8x2x16 : Shape := ⟨4, ![4096, 8, 2, 16]⟩
abbrev S4x1024x2x128 : Shape := ⟨4, ![4, 1024, 2, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x3072, .f32⟩
  | .hbm, ⟨3, _⟩ => ⟨S1024x2560, .bf16⟩
  | .hbm, ⟨4, _⟩ => ⟨S1024x128, .f32⟩
  | .hbm, ⟨5, _⟩ => ⟨S1024x128, .f32⟩
  | .hbm, ⟨6, _⟩ => ⟨S4x1x3072, .f32⟩
  | .hbm, ⟨7, _⟩ => ⟨S4x1024x3072, .f32⟩
  | .hbm, ⟨8, _⟩ => ⟨S4096x3072, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x2560, .f32⟩
  | .hbm, ⟨34, _⟩ => ⟨S4096x2560, .f32⟩
  | .hbm, ⟨35, _⟩ => ⟨S4096x1024, .f32⟩
  | .hbm, ⟨36, _⟩ => ⟨S4096x256, .f32⟩
  | .hbm, ⟨37, _⟩ => ⟨S4096x256, .f32⟩
  | .hbm, ⟨38, _⟩ => ⟨S4096x1024, .f32⟩
  | .hbm, ⟨39, _⟩ => ⟨S4096x32x2x16, .f32⟩
  | .hbm, ⟨40, _⟩ => ⟨S4096x32x2x16, .f32⟩
  | .hbm, ⟨41, _⟩ => ⟨S4096x1024, .f32⟩
  | .hbm, ⟨42, _⟩ => ⟨S1x1024x1x128, .f32⟩
  | .hbm, ⟨43, _⟩ => ⟨S4x1024x8x128, .f32⟩
  | .hbm, ⟨44, _⟩ => ⟨S4096x1024, .f32⟩
  | .hbm, ⟨45, _⟩ => ⟨S4096x1024, .f32⟩
  | .hbm, ⟨46, _⟩ => ⟨S1x1024x1x128, .f32⟩
  | .hbm, ⟨47, _⟩ => ⟨S4x1024x8x128, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x8x2x16, .f32⟩
  | .hbm, ⟨52, _⟩ => ⟨S4096x8x2x16, .f32⟩
  | .hbm, ⟨53, _⟩ => ⟨S4096x256, .f32⟩
  | .hbm, ⟨54, _⟩ => ⟨S1x1024x1x128, .f32⟩
  | .hbm, ⟨55, _⟩ => ⟨S4x1024x2x128, .f32⟩
  | .hbm, ⟨56, _⟩ => ⟨S4096x256, .f32⟩
  | .hbm, ⟨57, _⟩ => ⟨S4096x256, .f32⟩
  | .hbm, ⟨58, _⟩ => ⟨S1x1024x1x128, .f32⟩
  | .hbm, ⟨59, _⟩ => ⟨S4x1024x2x128, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S4096x256, .bf16⟩
  | .hbm, ⟨68, _⟩ => ⟨S4096x256, .bf16⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== InALat.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x2560 : Shape := ⟨2, ![1024, 2560]⟩
abbrev S1024x128 : Shape := ⟨2, ![1024, 128]⟩
abbrev S1x1024 : Shape := ⟨2, ![1, 1024]⟩
abbrev S4096x256 : Shape := ⟨2, ![4096, 256]⟩
abbrev S512x1024 : Shape := ⟨2, ![512, 1024]⟩
abbrev S1x1x3072 : Shape := ⟨3, ![1, 1, 3072]⟩
abbrev S512x128 : Shape := ⟨2, ![512, 128]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x2560, .bf16⟩
  | .hbm, ⟨7, _⟩ => ⟨S1024x128, .f32⟩
  | .hbm, ⟨8, _⟩ => ⟨S1024x128, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x256, .bf16⟩
  | .hbm, ⟨13, _⟩ => ⟨S4096x256, .bf16⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1x3072, .f32⟩
  | .local _ .vmem, ⟨4, _⟩ => ⟨S1x1x3072, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x3072, .f32⟩
  | .local _ .vmem, ⟨9, _⟩ => ⟨S1x1x3072, .f32⟩
  | .local _ .vmem, ⟨10, _⟩ => ⟨S1024x2560, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x1024, .bf16⟩
  | .local _ .vmem, ⟨24, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InALatReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1024x2560 : Shape := ⟨2, ![1024, 2560]⟩
abbrev S1024x128 : Shape := ⟨2, ![1024, 128]⟩
abbrev S4x1x3072 : Shape := ⟨3, ![4, 1, 3072]⟩
abbrev S4x1024x3072 : Shape := ⟨3, ![4, 1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x256 : Shape := ⟨2, ![4096, 256]⟩
abbrev S4096x32x2x16 : Shape := ⟨4, ![4096, 32, 2, 16]⟩
abbrev S1x1024x1x128 : Shape := ⟨4, ![1, 1024, 1, 128]⟩
abbrev S4x1024x8x128 : Shape := ⟨4, ![4, 1024, 8, 128]⟩
abbrev S4096x8x2x16 : Shape := ⟨4, ![4096, 8, 2, 16]⟩
abbrev S4x1024x2x128 : Shape := ⟨4, ![4, 1024, 2, 128]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x1x3072, .f32⟩
  | .hbm, ⟨3, _⟩ => ⟨S4096x1024, .f32⟩
  | .hbm, ⟨4, _⟩ => ⟨S1024, .f32⟩
  | .hbm, ⟨5, _⟩ => ⟨S8x1x3072, .f32⟩
  | .hbm, ⟨6, _⟩ => ⟨S1024x2560, .bf16⟩
  | .hbm, ⟨7, _⟩ => ⟨S1024x128, .f32⟩
  | .hbm, ⟨8, _⟩ => ⟨S1024x128, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4x1x3072, .f32⟩
  | .hbm, ⟨13, _⟩ => ⟨S4x1024x3072, .f32⟩
  | .hbm, ⟨14, _⟩ => ⟨S4096x3072, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1x3072, .f32⟩
  | .hbm, ⟨19, _⟩ => ⟨S4x1024x3072, .f32⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1024x2560, .f32⟩
  | .hbm, ⟨46, _⟩ => ⟨S4096x2560, .f32⟩
  | .hbm, ⟨47, _⟩ => ⟨S4096x1024, .f32⟩
  | .hbm, ⟨48, _⟩ => ⟨S4096x256, .f32⟩
  | .hbm, ⟨49, _⟩ => ⟨S4096x256, .f32⟩
  | .hbm, ⟨50, _⟩ => ⟨S4096x1024, .f32⟩
  | .hbm, ⟨51, _⟩ => ⟨S4096x32x2x16, .f32⟩
  | .hbm, ⟨52, _⟩ => ⟨S4096x32x2x16, .f32⟩
  | .hbm, ⟨53, _⟩ => ⟨S4096x1024, .f32⟩
  | .hbm, ⟨54, _⟩ => ⟨S1x1024x1x128, .f32⟩
  | .hbm, ⟨55, _⟩ => ⟨S4x1024x8x128, .f32⟩
  | .hbm, ⟨56, _⟩ => ⟨S4096x1024, .f32⟩
  | .hbm, ⟨57, _⟩ => ⟨S4096x1024, .f32⟩
  | .hbm, ⟨58, _⟩ => ⟨S1x1024x1x128, .f32⟩
  | .hbm, ⟨59, _⟩ => ⟨S4x1024x8x128, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x8x2x16, .f32⟩
  | .hbm, ⟨64, _⟩ => ⟨S4096x8x2x16, .f32⟩
  | .hbm, ⟨65, _⟩ => ⟨S4096x256, .f32⟩
  | .hbm, ⟨66, _⟩ => ⟨S1x1024x1x128, .f32⟩
  | .hbm, ⟨67, _⟩ => ⟨S4x1024x2x128, .f32⟩
  | .hbm, ⟨68, _⟩ => ⟨S4096x256, .f32⟩
  | .hbm, ⟨69, _⟩ => ⟨S4096x256, .f32⟩
  | .hbm, ⟨70, _⟩ => ⟨S1x1024x1x128, .f32⟩
  | .hbm, ⟨71, _⟩ => ⟨S4x1024x2x128, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S4096x256, .bf16⟩
  | .hbm, ⟨80, _⟩ => ⟨S4096x256, .bf16⟩
  | .hbm, ⟨81, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Final.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1x1024 : Shape := ⟨2, ![1, 1024]⟩
abbrev S512x1024 : Shape := ⟨2, ![512, 1024]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | .hbm, ⟨5, _⟩ => ⟨S8x1x3072, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x3072, .f32⟩
  | .local _ .vmem, ⟨10, _⟩ => ⟨S1x1x3072, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinalReferenceIdeal.lean ====
abbrev S4096x1024 : Shape := ⟨2, ![4096, 1024]⟩
abbrev S1024x1024 : Shape := ⟨2, ![1024, 1024]⟩
abbrev S8x1x3072 : Shape := ⟨3, ![8, 1, 3072]⟩
abbrev S1024 : Shape := ⟨1, ![1024]⟩
abbrev S1x1x3072 : Shape := ⟨3, ![1, 1, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x1x3072 : Shape := ⟨3, ![4, 1, 3072]⟩
abbrev S4x1024x3072 : Shape := ⟨3, ![4, 1024, 3072]⟩
abbrev S4096x3072 : Shape := ⟨2, ![4096, 3072]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | .hbm, ⟨5, _⟩ => ⟨S8x1x3072, .f32⟩
  | .hbm, ⟨6, _⟩ => ⟨S1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1x1x3072, .f32⟩
  | .hbm, ⟨11, _⟩ => ⟨S1x3072, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4x1x3072, .f32⟩
  | .hbm, ⟨36, _⟩ => ⟨S4x1024x3072, .f32⟩
  | .hbm, ⟨37, _⟩ => ⟨S4096x3072, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.PureOps.Ideal.Laws

@[expose] public section

noncomputable section

open Idealize.ShloMosaic

/-! The arithmetic that the projection calls share, row by row over the extended reals. -/

namespace Cert.Rows

/-- The modulated root-mean-square normalisation is a function of its row, weight, scale and shift. -/
theorem norm_congr {n : Nat} {a b o : EReal} {x y : Fin n → EReal} {p q w w' s s' u u' : EReal}
    (hx : ∀ k, x k = y k) (hp : p = q) (hw : w = w') (hs : s = s') (hu : u = u') :
    p * Ideal.rsqrt (Ideal.div (∑ k, x k * x k) a + b) * w * (o + s) + u
      = q * Ideal.rsqrt (Ideal.div (∑ k, y k * y k) a + b) * w' * (o + s') + u' := by
  obtain rfl : x = y := funext hx
  rw [hp, hw, hs, hu]

/-- A contraction is a function of its two rows. -/
theorem dot_congr {n : Nat} {x y w v : Fin n → EReal} (hx : ∀ k, x k = y k) (hw : ∀ k, w k = v k) :
    ∑ k, x k * w k = ∑ k, y k * v k :=
  Finset.sum_congr rfl fun k _ => by rw [hx, hw]

/-- A contraction times a constant is a function of its two rows. -/
theorem dot_mul_congr {n : Nat} {s : EReal} {x y w v : Fin n → EReal} (hx : ∀ k, x k = y k) (hw : ∀ k, w k = v k) :
    (∑ k, x k * w k) * s = (∑ k, y k * v k) * s := by
  rw [dot_congr hx hw]

/-- Choosing by lane number is a case distinction. -/
theorem select_lane {α : Type} (l : Nat) (b : BitVec 32) (hl : l < 2 ^ 31) (hb : b.toNat < 2 ^ 31) (x y : α) :
    Scalar.select (IntOp.cmpi CmpIPredicate.slt (BitVec.ofNat 32 l) b) x y = if l < b.toNat then x else y := by
  have h : (BitVec.ofNat 32 l).slt b = decide (l < b.toNat) := by
    have h1 : (BitVec.ofNat 32 l).toNat = l := by
      rw [BitVec.toNat_ofNat]; omega
    have h2 : (BitVec.ofNat 32 l).toInt = (l : Int) := by
      rw [BitVec.toInt_eq_toNat_of_lt (by rw [h1]; omega), h1]
    have h3 : b.toInt = (b.toNat : Int) := BitVec.toInt_eq_toNat_of_lt (by omega)
    simp [BitVec.slt, h2, h3]
  by_cases hlt : l < b.toNat <;> simp [Scalar.select, IntOp.cmpi, h, hlt]

/-- Choosing by the half of a group of 32 lanes that a lane lies in. -/
theorem select_half {α : Type} (l : Nat) (hl : l < 2 ^ 31) {x y z : α} (hx : l % 32 < 16 → x = z) (hy : 16 ≤ l % 32 → y = z) :
    Scalar.select (IntOp.cmpi CmpIPredicate.slt (IntOp.andi (BitVec.ofNat 32 l) 31#32) 16#32) x y = z := by
  have h : IntOp.andi (BitVec.ofNat 32 l) 31#32 = BitVec.ofNat 32 (l % 32) := by
    apply BitVec.eq_of_toNat_eq
    have h31 : l &&& 31 = l % 32 := Nat.and_two_pow_sub_one_eq_mod l 5
    simp only [IntOp.andi, BitVec.toNat_and, BitVec.toNat_ofNat]
    rw [Nat.mod_eq_of_lt (by omega : l < 2 ^ 32), Nat.mod_eq_of_lt (by omega : 31 < 2 ^ 32), h31]
    omega
  rw [h, select_lane _ _ (by omega) (by decide)]
  by_cases hlt : l % 32 < 16
  · exact (if_pos hlt).trans (hx hlt)
  · exact (if_neg hlt).trans (hy (by omega))

/-- Two copies of 128 lanes side by side. -/
theorem tile2 {f : Fin 128 → EReal} {l : Nat} (hl : l < 256) {z : EReal} (hz : f ⟨l % 128, by omega⟩ = z) :
    (if h : l < 128 then f ⟨l, h⟩ else f ⟨l - 128, by omega⟩) = z := by
  subst hz
  split_ifs <;> exact congrArg f (Fin.ext (by simp only; omega))

/-- Four copies of 128 lanes side by side. -/
theorem tile4 {f : Fin 128 → EReal} {l : Nat} (hl : l < 512) {z : EReal} (hz : f ⟨l % 128, by omega⟩ = z) :
    (if h : l < 128 then f ⟨l, h⟩ else if h : l - 128 < 128 then f ⟨l - 128, h⟩
      else if h : l - 128 - 128 < 128 then f ⟨l - 128 - 128, h⟩ else f ⟨l - 128 - 128 - 128, by omega⟩) = z := by
  subst hz
  split_ifs <;> exact congrArg f (Fin.ext (by simp only; omega))

/-- A choice by lane number beside the concatenation of two arrays along the lanes. -/
theorem concat_lane {l k n : Nat} (b : BitVec 32) (hl : l < 2 ^ 31) (hb : b.toNat < 2 ^ 31) (hn : b.toNat = n) (hk : k = l)
    {x y : EReal} {p : k < n → EReal} {q : ¬ k < n → EReal} (hp : ∀ h, x = p h) (hq : ∀ h, y = q h) :
    Scalar.select (IntOp.cmpi CmpIPredicate.slt (BitVec.ofNat 32 l) b) x y = if h : k < n then p h else q h := by
  subst hk hn
  rw [select_lane _ _ hl hb]
  by_cases h : k < b.toNat
  · rw [if_pos h, dif_pos h, hp h]
  · rw [if_neg h, dif_neg h, hq h]

/-- The logistic function is a function of its argument; `0 - x` is `-x`. -/
theorem sigmoid_congr {o s s' : EReal} (hs : s = s') :
    Ideal.div o (o + Ideal.exp (0 - s)) = Ideal.div o (o + Ideal.exp (-s')) := by
  rw [hs, zero_sub]

/-- So is the logistic-weighted argument. -/
theorem silu_congr {o s s' : EReal} (hs : s = s') :
    s * Ideal.div o (o + Ideal.exp (0 - s)) = s' * Ideal.div o (o + Ideal.exp (-s')) := by
  rw [hs, zero_sub]

/-- The decay of a gate: the softplus as the larger of the argument and 0 and a logarithm, on either side. -/
theorem softplus_congr {a a' s s' : EReal} (ha : a = a') (hs : s = s') :
    (0 - Ideal.exp a) * (max s 0 + Ideal.log1p (Ideal.exp (0 - FloatOps.absf (F := Ideal) (φ := .f32) s)))
      = -Ideal.exp a' * if s' ≠ s' then s' else
          max s' 0 + Ideal.log1p (Ideal.exp (-FloatOps.absf (F := Ideal) (φ := .f32) s')) := by
  rw [ha, hs, zero_sub, zero_sub, if_neg (not_not.mpr rfl)]

end Cert.Rows
-- ==== Proof.InBValue.lean ====
module
public import proofs.«01_k».proof.Proof.Gen.InBIdeal.Frame
public import proofs.«01_k».proof.Proof.Gen.InBReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 0 and begins layer 1, on the context rows, point by point. -/

namespace Cert.InBIdeal.Value
open Cert.InBIdeal Cert.InBIdeal.Gen Cert.InBReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![4, 0, 0]
    ∧ win0_3.index t = ![t.val, 0] ∧ win0_4.index t = ![0, 0] ∧ win0_5.index t = ![4, 0, 0]
    ∧ win0_6.index t = ![0, 0] ∧ win0_7.index t = ![t.val, 0] ∧ win0_8.index t = ![t.val, 0]
    ∧ win0_9.index t = ![t.val, 0, 0] ∧ win0_10.index t = ![t.val, 0] ∧ win0_11.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay7 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay7, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay16 (F := Ideal) (iblk m c 0 t) (iblk m c 1 t) (iblk m c 2 t) (iblk m c 3 t) (iblk m c 4 t) (iblk m c 5 t) (iblk m c 6 t) i
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay16, k0_pay8, val_main_v9, val_main_v10, val_main_v11, val_main_v12, val_main_v13, val_main_v14, val_main_cst,
      val_main_v15, val_main_v16, val_main_cst_0, val_main_v17, val_main_v18, val_main_cst_1,
      val_main_v19, val_main_v20, val_main_v21, val_main_v22, val_main_v23, val_main_v24,
      val_main_v25, val_main_v26, val_main_cst_2, val_main_v27, val_main_v28, val_main_v29,
      val_main_v30, val_main_v31, val_main_v32]
  refine Rows.norm_congr (fun k => x_core m c t (ix2 (i 0) k) (ix2 (j 0) k) h0 rfl) (x_core m c t i j h0 h1) ?_ ?_ ?_
    <;> blk_point [iblk, V, idx t]

theorem final7 (c : Dev nD) : (dats m 0 c).arrAt 7 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  canon_tiles x h
  refine x_core m c t x _ ?_ ?_ <;> (blk_simp [idx t] <;> try omega)

theorem point8 (c : Dev nD) (t : Fin cfg0.N) (y) :
    out0_8 (F := Ideal) (iblk m c 0 t) (iblk m c 1 t) (iblk m c 2 t) (iblk m c 3 t) (iblk m c 4 t) (iblk m c 5 t) (iblk m c 6 t) y
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  unfold out0_8
  canon_tiles x h
  all_goals (
    pointwise [k0_pay1, k0_pay2, k0_pay3, k0_pay4, k0_pay5, k0_pay6, k0_pay9, k0_pay10, k0_pay11, k0_pay12,
      k0_pay13, k0_pay14, k0_pay15, k0_pay17, val_main_v33, val_main_v34, val_main_v35, val_main_v36,
      val_main_v37, val_main_v38, val_main_cst_3, val_main_v39, val_main_v40, val_main_v41]
    refine Rows.dot_mul_congr (fun k => h_core m c t _ _ ?_ ?_) (fun k => ?_)
    · blk_simp [idx t] <;> (try dsimp only) <;> omega
    · rfl
    · blk_point [iblk, V, idx t])

theorem final8 (c : Dev nD) : (dats m 0 c).arrAt 8 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact point8 m c t y

theorem point9 (c : Dev nD) (t : Fin cfg0.N) (y) :
    out0_9 (F := Ideal) (iblk m c 0 t) (iblk m c 1 t) (iblk m c 2 t) (iblk m c 3 t) (iblk m c 4 t) (iblk m c 5 t) (iblk m c 6 t) y
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  unfold out0_9
  canon_tiles x h
  all_goals (
    pointwise [k0_pay1, k0_pay2, k0_pay3, k0_pay4, k0_pay5, k0_pay6, k0_pay9, k0_pay10, k0_pay11, k0_pay12,
      k0_pay13, k0_pay14, k0_pay15, k0_pay17, val_main_v33, val_main_v34, val_main_v35, val_main_v36,
      val_main_v37, val_main_v38, val_main_cst_3, val_main_v39, val_main_v40, val_main_v41,
      val_main_v42, val_main_v43]
    refine Rows.dot_congr (fun k => h_core m c t _ _ ?_ ?_) (fun k => ?_)
    · blk_simp [idx t] <;> (try dsimp only) <;> omega
    · rfl
    · blk_point [iblk, V, idx t])

theorem final9 (c : Dev nD) : (dats m 0 c).arrAt 9 (cfgs 0).N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  exact point9 m c t y

theorem point10 (c : Dev nD) (t : Fin cfg0.N) (y) :
    out0_10 (F := Ideal) (iblk m c 0 t) (iblk m c 1 t) (iblk m c 2 t) (iblk m c 3 t) (iblk m c 4 t) (iblk m c 5 t) (iblk m c 6 t) y
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  unfold out0_10
  canon_tiles x h
  all_goals (
    pointwise [k0_pay1, k0_pay2, k0_pay3, k0_pay4, k0_pay5, k0_pay6, k0_pay9, k0_pay10, k0_pay11, k0_pay12,
      k0_pay13, k0_pay14, k0_pay15, k0_pay17, val_main_v33, val_main_v34, val_main_v35, val_main_v36,
      val_main_v37]
    refine Rows.dot_congr (fun k => h_core m c t _ _ ?_ ?_) (fun k => ?_)
    · blk_simp [idx t] <;> (try dsimp only) <;> omega
    · rfl
    · blk_point [iblk, V, idx t])

theorem final10 (c : Dev nD) : (dats m 0 c).arrAt 10 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  exact point10 m c t y

theorem point11 (c : Dev nD) (t : Fin cfg0.N) (y) :
    out0_11 (F := Ideal) (iblk m c 0 t) (iblk m c 1 t) (iblk m c 2 t) (iblk m c 3 t) (iblk m c 4 t) (iblk m c 5 t) (iblk m c 6 t) y
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  unfold out0_11
  canon_tiles x h
  all_goals (
    pointwise [k0_pay1, k0_pay2, k0_pay3, k0_pay4, k0_pay5, k0_pay6, k0_pay9, k0_pay10, k0_pay11, k0_pay12,
      k0_pay13, k0_pay14, k0_pay15, k0_pay17, val_main_v33, val_main_v34, val_main_v35, val_main_v36,
      val_main_v37, val_main_v38, val_main_cst_3, val_main_v39, val_main_v40, val_main_v41,
      val_main_v42, val_main_v43, val_main_v44]
    refine Rows.dot_congr (fun k => h_core m c t _ _ ?_ ?_) (fun k => ?_)
    · blk_simp [idx t] <;> (try dsimp only) <;> omega
    · rfl
    · blk_point [iblk, V, idx t])

theorem final11 (c : Dev nD) : (dats m 0 c).arrAt 11 (cfgs 0).N
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  exact point11 m c t y

end Cert.InBIdeal.Value
-- ==== Proof.InBClaims.lean ====
module
public import proofs.«01_k».proof.Defs
public import proofs.«01_k».proof.Proof.InBValue
public import proofs.«01_k».proof.Proof.Gen.InB
public import proofs.«01_k».proof.Proof.Gen.InB.Frame
public import proofs.«01_k».proof.Proof.Gen.InBIdeal.Value
public import proofs.«01_k».proof.Proof.Gen.InBReferenceIdeal.Run
public import Idealize.ShloMosaic.Adequacy

@[expose] public section

noncomputable section

open Idealize.ShloMosaic Idealize.SL.Sem

/-! The claims about the call that ends layer 0 and begins layer 1 on the context rows. -/

namespace Cert.InB.Claims

theorem frame : Cert.quiescent_InB := fun m ρ _ => Cert.InB.Gen.frame m ρ

theorem frame_ideal : Cert.quiescent_InBIdeal := fun m ρ _ => Cert.InBIdeal.Gen.frame m ρ

/-- The reference is a list of host operations: it writes no argument and owns no semaphore. -/
theorem frame_reference : Cert.quiescent_InBReferenceIdeal := fun m g _ =>
  (θ_run Cert.InBReferenceIdeal.defs _ _).mono
    (fun r h => ⟨fun c => (h c).2.2.2.2.2, sem_eq_zero_of_no_sems (by decide) r.2⟩)
    (Cert.InBReferenceIdeal.Value.run (F := Ideal) m g)

set_option maxHeartbeats 2000000 in
/-- Each result array of the call is the reference's. -/
theorem algebraic : Cert.algebraic_InBIdeal_InBReferenceIdeal := by
  pair_intro
  · run_from Cert.InBIdeal.Value.run_blocks m g
  · run_from Cert.InBReferenceIdeal.Value.run m' g'
    · exact (Cert.InBReferenceIdeal.Read.val_main_v8_eq ..).trans (Cert.InBIdeal.Value.final7 m c).symm
    · exact (Cert.InBReferenceIdeal.Read.val_main_v41_eq ..).trans (Cert.InBIdeal.Value.final8 m c).symm
    · exact (Cert.InBReferenceIdeal.Read.val_main_v43_eq ..).trans (Cert.InBIdeal.Value.final9 m c).symm
    · exact (Cert.InBReferenceIdeal.Read.val_main_v37_eq ..).trans (Cert.InBIdeal.Value.final10 m c).symm
    · exact (Cert.InBReferenceIdeal.Read.val_main_v44_eq ..).trans (Cert.InBIdeal.Value.final11 m c).symm

end Cert.InB.Claims

end
-- ==== Proof.InCValue.lean ====
module
public import proofs.«01_k».proof.Proof.Gen.InCIdeal.Frame
public import proofs.«01_k».proof.Proof.Gen.InCReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 1 and begins layer 2, on the context rows, point by point. -/

namespace Cert.InCIdeal.Value
open Cert.InCIdeal Cert.InCIdeal.Gen Cert.InCReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![4, 0, 0]
    ∧ win0_3.index t = ![t.val, 0] ∧ win0_4.index t = ![0, 0] ∧ win0_5.index t = ![4, 0, 0]
    ∧ win0_6.index t = ![0, 0] ∧ win0_7.index t = ![0, 0] ∧ win0_8.index t = ![0, 0]
    ∧ win0_9.index t = ![0, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay2 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay2, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) i
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay18, k0_pay3, val_main_v9, val_main_v10, val_main_v11, val_main_v12, val_main_v13, val_main_v14, val_main_cst,
      val_main_v15, val_main_v16, val_main_cst_0, val_main_v17, val_main_v18, val_main_cst_1,
      val_main_v19, val_main_v20, val_main_v21, val_main_v22, val_main_v23, val_main_v24,
      val_main_v25, val_main_v26, val_main_cst_2, val_main_v27, val_main_v28, val_main_v29,
      val_main_v30, val_main_v31, val_main_v32]
  refine Rows.norm_congr (fun k => x_core m c t (ix2 (i 0) k) (ix2 (j 0) k) h0 rfl) (x_core m c t i j h0 h1) ?_ ?_ ?_
    <;> blk_point [iblk, V, idx t]

theorem final10 (c : Dev nD) : (dats m 0 c).arrAt 10 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  unfold out0_10
  canon_tiles x h
  refine x_core m c t x _ ?_ ?_ <;> (blk_simp [idx t] <;> try omega)

theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  unfold out0_11
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v33, val_main_v34,
      val_main_v35, val_main_v36, val_main_v37, val_main_v38, val_main_v39, val_main_cst_3,
      val_main_v40, val_main_v41, val_main_cst_4, val_main_v42, val_main_v43, val_main_v44,
      val_main_v45, val_main_v46, val_main_v47, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v48, val_main_v49, val_main_v50, val_main_v51, val_main_v52,
      val_main_v53, val_main_v54]
    refine Rows.dot_congr (fun k => h_core m c t _ _ ?_ ?_) (fun k => ?_)
    · blk_simp [idx t] <;> (try dsimp only) <;> omega
    · rfl
    · blk_point [iblk, V, idx t])

theorem final11 (c : Dev nD) : (dats m 0 c).arrAt 11 (cfgs 0).N
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  exact point11 m c t y

theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  unfold out0_12
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v33, val_main_v34,
      val_main_v35, val_main_v36, val_main_v37, val_main_v38, val_main_v39, val_main_cst_3,
      val_main_v40, val_main_v41, val_main_cst_4, val_main_v42, val_main_v43, val_main_v44,
      val_main_v45, val_main_v46, val_main_v47, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v48, val_main_v49, val_main_v50, val_main_v51, val_main_v52,
      val_main_v53, val_main_v54, val_main_v55, val_main_v56]
    refine Rows.dot_congr (fun k => h_core m c t _ _ ?_ ?_) (fun k => ?_)
    · blk_simp [idx t] <;> (try dsimp only) <;> omega
    · rfl
    · blk_point [iblk, V, idx t])

theorem final12 (c : Dev nD) : (dats m 0 c).arrAt 12 (cfgs 0).N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  exact point12 m c t y

theorem point13 (c : Dev nD) (t : Fin cfg0.N) (y) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (((cfg0.win 13).blk t).view.emb y) := by
  unfold out0_13
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v33, val_main_v34,
      val_main_v35, val_main_v36, val_main_v37, val_main_v38, val_main_v39, val_main_cst_3,
      val_main_v40, val_main_v41, val_main_cst_4, val_main_v42, val_main_v43, val_main_v44,
      val_main_v45, val_main_v46, val_main_v47, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v48, val_main_v49, val_main_v50, val_main_v51, val_main_v52]
    refine Rows.concat_lane _ (by omega) (by decide) (by decide) ?_ (fun hl => ?_) (fun hl => ?_)
    · blk_simp [idx t] <;> (try dsimp only) <;> omega
    · refine Rows.sigmoid_congr (Rows.dot_congr (fun k => h_core m c t _ _ ?_ ?_) (fun k => ?_))
      · blk_simp [idx t] <;> (try dsimp only) <;> omega
      · rfl
      · blk_point [iblk, V, idx t]
    · have h16 : 16 ≤ (y 1 : ℕ) := by
        blk_simp [idx t] at hl
        omega
      refine Rows.softplus_congr ?_ (congrArg₂ (· + ·) (Rows.dot_congr (fun k => h_core m c t _ _ ?_ ?_) (fun k => ?_)) ?_)
      · blk_point [iblk, V, idx t]
      · blk_simp [idx t] <;> (try dsimp only) <;> omega
      · rfl
      · blk_point [iblk, V, idx t]
      · blk_point [iblk, V, idx t])

theorem final13 (c : Dev nD) : (dats m 0 c).arrAt 13 (cfgs 0).N
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) := by
  refine (dats m 0 c).arrAt_eq_of_covers 13 _ (by decide +kernel) fun t _ y => ?_
  blk_simp
  rw [after0_13]
  exact point13 m c t y

end Cert.InCIdeal.Value
-- ==== Proof.InCClaims.lean ====
module
public import proofs.«01_k».proof.Defs
public import proofs.«01_k».proof.Proof.InCValue
public import proofs.«01_k».proof.Proof.Gen.InC
public import proofs.«01_k».proof.Proof.Gen.InC.Frame
public import proofs.«01_k».proof.Proof.Gen.InCIdeal.Value
public import proofs.«01_k».proof.Proof.Gen.InCReferenceIdeal.Run
public import Idealize.ShloMosaic.Adequacy

@[expose] public section

noncomputable section

open Idealize.ShloMosaic Idealize.SL.Sem

/-! The claims about the call that ends layer 1 and begins layer 2 on the context rows. -/

namespace Cert.InC.Claims

theorem frame : Cert.quiescent_InC := fun m ρ _ => Cert.InC.Gen.frame m ρ

theorem frame_ideal : Cert.quiescent_InCIdeal := fun m ρ _ => Cert.InCIdeal.Gen.frame m ρ

/-- The reference is a list of host operations: it writes no argument and owns no semaphore. -/
theorem frame_reference : Cert.quiescent_InCReferenceIdeal := fun m g _ =>
  (θ_run Cert.InCReferenceIdeal.defs _ _).mono
    (fun r h => ⟨fun c => (h c).2.2.2.2, sem_eq_zero_of_no_sems (by decide) r.2⟩)
    (Cert.InCReferenceIdeal.Value.run (F := Ideal) m g)

set_option maxHeartbeats 2000000 in
/-- Each result array of the call is the reference's. -/
theorem algebraic : Cert.algebraic_InCIdeal_InCReferenceIdeal := by
  pair_intro
  · run_from Cert.InCIdeal.Value.run_blocks m g
  · run_from Cert.InCReferenceIdeal.Value.run m' g'
    · exact (Cert.InCReferenceIdeal.Read.val_main_v8_eq ..).trans (Cert.InCIdeal.Value.final10 m c).symm
    · exact (Cert.InCReferenceIdeal.Read.val_main_v54_eq ..).trans (Cert.InCIdeal.Value.final11 m c).symm
    · exact (Cert.InCReferenceIdeal.Read.val_main_v56_eq ..).trans (Cert.InCIdeal.Value.final12 m c).symm
    · obtain ⟨h0, h1, h2, h3, h4, h5, h6, h7, h8, h9⟩ := hagree c
      refine (Cert.InCReferenceIdeal.Read.val_main_v52_eq m' c).trans (Eq.trans ?_ (Cert.InCIdeal.Value.final13 m c).symm)
      rw [h0, h1, h2, h3, h4, h5, h7, h8, h9]

end Cert.InC.Claims

end
-- ==== Proof.InAValue.lean ====
module
public import proofs.«01_k».proof.Proof.Gen.InAIdeal.Frame
public import proofs.«01_k».proof.Proof.Gen.InAReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 2 and begins layer 3, on the context rows, point by point. -/

namespace Cert.InAIdeal.Value
open Cert.InAIdeal Cert.InAIdeal.Gen Cert.InAReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![4, 0, 0]
    ∧ win0_3.index t = ![t.val, 0] ∧ win0_4.index t = ![0, 0] ∧ win0_5.index t = ![4, 0, 0]
    ∧ win0_6.index t = ![0, 0] ∧ win0_7.index t = ![t.val, 0] ∧ win0_8.index t = ![t.val, 0]
    ∧ win0_9.index t = ![t.val, 0, 0] ∧ win0_10.index t = ![t.val, 0, 0] ∧ win0_11.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay4 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay4, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay15 (F := Ideal) (iblk m c 0 t) (iblk m c 1 t) (iblk m c 2 t) (iblk m c 3 t) (iblk m c 4 t) (iblk m c 5 t) (iblk m c 6 t) i
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay15, k0_pay5, val_main_v9, val_main_v10, val_main_v11, val_main_v12, val_main_v13, val_main_v14, val_main_cst,
      val_main_v15, val_main_v16, val_main_cst_0, val_main_v17, val_main_v18, val_main_cst_1,
      val_main_v19, val_main_v20, val_main_v21, val_main_v22, val_main_v23, val_main_v24,
      val_main_v25, val_main_v26, val_main_cst_2, val_main_v27, val_main_v28, val_main_v29,
      val_main_v30, val_main_v31, val_main_v32]
  refine Rows.norm_congr (fun k => x_core m c t (ix2 (i 0) k) (ix2 (j 0) k) h0 rfl) (x_core m c t i j h0 h1) ?_ ?_ ?_
    <;> blk_point [iblk, V, idx t]

theorem final7 (c : Dev nD) : (dats m 0 c).arrAt 7 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  canon_tiles x h
  refine x_core m c t x _ ?_ ?_ <;> (blk_simp [idx t] <;> try omega)

theorem point8 (c : Dev nD) (t : Fin cfg0.N) (y) :
    out0_8 (F := Ideal) (iblk m c 0 t) (iblk m c 1 t) (iblk m c 2 t) (iblk m c 3 t) (iblk m c 4 t) (iblk m c 5 t) (iblk m c 6 t) y
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  unfold out0_8
  canon_tiles x h
  all_goals (
    pointwise [k0_pay1, k0_pay2, k0_pay3, k0_pay6, k0_pay7, k0_pay8, k0_pay9, k0_pay10, k0_pay11, k0_pay12,
      k0_pay13, k0_pay14, k0_pay16, val_main_v33, val_main_v34, val_main_v35, val_main_v36,
      val_main_v37, val_main_v38, val_main_cst_3, val_main_v39, val_main_v40, val_main_v41]
    refine Rows.dot_mul_congr (fun k => h_core m c t _ _ ?_ ?_) (fun k => ?_)
    · blk_simp [idx t] <;> (try dsimp only) <;> omega
    · rfl
    · blk_point [iblk, V, idx t])

theorem final8 (c : Dev nD) : (dats m 0 c).arrAt 8 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact point8 m c t y

theorem point9 (c : Dev nD) (t : Fin cfg0.N) (y) :
    out0_9 (F := Ideal) (iblk m c 0 t) (iblk m c 1 t) (iblk m c 2 t) (iblk m c 3 t) (iblk m c 4 t) (iblk m c 5 t) (iblk m c 6 t) y
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  unfold out0_9
  canon_tiles x h
  all_goals (
    pointwise [k0_pay1, k0_pay2, k0_pay3, k0_pay6, k0_pay7, k0_pay8, k0_pay9, k0_pay10, k0_pay11, k0_pay12,
      k0_pay13, k0_pay14, k0_pay16, val_main_v33, val_main_v34, val_main_v35, val_main_v36,
      val_main_v37, val_main_v38, val_main_cst_3, val_main_v39, val_main_v40, val_main_v41,
      val_main_v42, val_main_v43]
    refine Rows.dot_congr (fun k => h_core m c t _ _ ?_ ?_) (fun k => ?_)
    · blk_simp [idx t] <;> (try dsimp only) <;> omega
    · rfl
    · blk_point [iblk, V, idx t])

theorem final9 (c : Dev nD) : (dats m 0 c).arrAt 9 (cfgs 0).N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  exact point9 m c t y

theorem point10 (c : Dev nD) (t : Fin cfg0.N) (y) :
    out0_10 (F := Ideal) (iblk m c 0 t) (iblk m c 1 t) (iblk m c 2 t) (iblk m c 3 t) (iblk m c 4 t) (iblk m c 5 t) (iblk m c 6 t) y
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  unfold out0_10
  canon_tiles x h
  all_goals (
    pointwise [k0_pay1, k0_pay2, k0_pay3, k0_pay6, k0_pay7, k0_pay8, k0_pay9, k0_pay10, k0_pay11, k0_pay12,
      k0_pay13, k0_pay14, k0_pay16, val_main_v33, val_main_v34, val_main_v35, val_main_v36,
      val_main_v37, val_main_v38, val_main_cst_3, val_main_v39, val_main_v40, val_main_v41,
      val_main_v42, val_main_v43, val_main_v44, val_main_v45]
    refine Rows.dot_congr (fun k => h_core m c t _ _ ?_ ?_) (fun k => ?_)
    · blk_simp [idx t] <;> (try dsimp only) <;> omega
    · rfl
    · blk_point [iblk, V, idx t])

theorem final10 (c : Dev nD) : (dats m 0 c).arrAt 10 (cfgs 0).N
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  exact point10 m c t y

theorem point11 (c : Dev nD) (t : Fin cfg0.N) (y) :
    out0_11 (F := Ideal) (iblk m c 0 t) (iblk m c 1 t) (iblk m c 2 t) (iblk m c 3 t) (iblk m c 4 t) (iblk m c 5 t) (iblk m c 6 t) y
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  unfold out0_11
  canon_tiles x h
  all_goals (
    pointwise [k0_pay1, k0_pay2, k0_pay3, k0_pay6, k0_pay7, k0_pay8, k0_pay9, k0_pay10, k0_pay11, k0_pay12,
      k0_pay13, k0_pay14, k0_pay16, val_main_v33, val_main_v34, val_main_v35, val_main_v36,
      val_main_v37, val_main_v38, val_main_cst_3, val_main_v39, val_main_v40, val_main_v41,
      val_main_v42, val_main_v43, val_main_v44, val_main_v45, val_main_v46]
    refine Rows.dot_congr (fun k => h_core m c t _ _ ?_ ?_) (fun k => ?_)
    · blk_simp [idx t] <;> (try dsimp only) <;> omega
    · rfl
    · blk_point [iblk, V, idx t])

theorem final11 (c : Dev nD) : (dats m 0 c).arrAt 11 (cfgs 0).N
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  exact point11 m c t y

end Cert.InAIdeal.Value
-- ==== Proof.InAClaims.lean ====
module
public import proofs.«01_k».proof.Defs
public import proofs.«01_k».proof.Proof.InAValue
public import proofs.«01_k».proof.Proof.Gen.InA
public import proofs.«01_k».proof.Proof.Gen.InA.Frame
public import proofs.«01_k».proof.Proof.Gen.InAIdeal.Value
public import proofs.«01_k».proof.Proof.Gen.InAReferenceIdeal.Run
public import Idealize.ShloMosaic.Adequacy

@[expose] public section

noncomputable section

open Idealize.ShloMosaic Idealize.SL.Sem

/-! The claims about the call that ends layer 2 and begins layer 3 on the context rows. -/

namespace Cert.InA.Claims

theorem frame : Cert.quiescent_InA := fun m ρ _ => Cert.InA.Gen.frame m ρ

theorem frame_ideal : Cert.quiescent_InAIdeal := fun m ρ _ => Cert.InAIdeal.Gen.frame m ρ

/-- The reference is a list of host operations: it writes no argument and owns no semaphore. -/
theorem frame_reference : Cert.quiescent_InAReferenceIdeal := fun m g _ =>
  (θ_run Cert.InAReferenceIdeal.defs _ _).mono
    (fun r h => ⟨fun c => (h c).2.2.2.2.2, sem_eq_zero_of_no_sems (by decide) r.2⟩)
    (Cert.InAReferenceIdeal.Value.run (F := Ideal) m g)

set_option maxHeartbeats 2000000 in
/-- Each result array of the call is the reference's. -/
theorem algebraic : Cert.algebraic_InAIdeal_InAReferenceIdeal := by
  pair_intro
  · run_from Cert.InAIdeal.Value.run_blocks m g
  · run_from Cert.InAReferenceIdeal.Value.run m' g'
    · exact (Cert.InAReferenceIdeal.Read.val_main_v8_eq ..).trans (Cert.InAIdeal.Value.final7 m c).symm
    · exact (Cert.InAReferenceIdeal.Read.val_main_v41_eq ..).trans (Cert.InAIdeal.Value.final8 m c).symm
    · exact (Cert.InAReferenceIdeal.Read.val_main_v43_eq ..).trans (Cert.InAIdeal.Value.final9 m c).symm
    · exact (Cert.InAReferenceIdeal.Read.val_main_v45_eq ..).trans (Cert.InAIdeal.Value.final10 m c).symm
    · exact (Cert.InAReferenceIdeal.Read.val_main_v46_eq ..).trans (Cert.InAIdeal.Value.final11 m c).symm

end Cert.InA.Claims

end
-- ==== Proof.FirstAValue.lean ====
module
public import proofs.«01_k».proof.Proof.Gen.FirstAIdeal.Frame
public import proofs.«01_k».proof.Proof.Gen.FirstAReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that begins layer 0, on the context rows, point by point. -/

namespace Cert.FirstAIdeal.Value
open Cert.FirstAIdeal Cert.FirstAIdeal.Gen Cert.FirstAReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![4, 0, 0]
    ∧ win0_3.index t = ![0, 0] ∧ win0_4.index t = ![t.val, 0] ∧ win0_5.index t = ![t.val, 0, 0]
    ∧ win0_6.index t = ![t.val, 0, 0] ∧ win0_7.index t = ![t.val, 0] :=
  (by decide +kernel : ∀ t : Fin grid0.N, _)

/-- The modulated normalisation of the block of rows. -/
theorem h_core (c : Dev nD) (t : Fin cfg0.N) (i : S512x1024.Idx) (j : S4096x1024.Idx)
    (h0 : (j 0 : ℕ) = 512 * t.val + i 0) (h1 : (j 1 : ℕ) = i 1) :
    k0_pay2 (F := Ideal) (View.ld (iblk m c 0 t) r0_0) (View.ld (iblk m c 1 t) r0_1) (View.ld (iblk m c 2 t) r0_2) (View.ld (iblk m c 2 t) r0_3) i
    = val_main_v23 (F := Ideal) (m ((c : Thread nD τ).loc main_arg0)) (m ((c : Thread nD τ).loc main_arg1)) (m ((c : Thread nD τ).loc main_arg2)) j := by
  pointwise [k0_pay2, val_main_v0, val_main_v1, val_main_v2, val_main_v3, val_main_v4, val_main_v5, val_main_cst,
      val_main_v6, val_main_v7, val_main_cst_0, val_main_v8, val_main_v9, val_main_cst_1,
      val_main_v10, val_main_v11, val_main_v12, val_main_v13, val_main_v14, val_main_v15,
      val_main_v16, val_main_v17, val_main_cst_2, val_main_v18, val_main_v19, val_main_v20,
      val_main_v21, val_main_v22, val_main_v23]
  refine Rows.norm_congr (fun k => ?_) ?_ ?_ ?_ ?_ <;> blk_point [iblk, V, idx t]

theorem point4 (c : Dev nD) (t : Fin cfg0.N) (y) :
    out0_4 (F := Ideal) (iblk m c 0 t) (iblk m c 1 t) (iblk m c 2 t) (iblk m c 3 t) y
    = val_main_v32 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  unfold out0_4
  canon_tiles x h
  all_goals (
    pointwise [k0_pay1, k0_pay3, k0_pay4, k0_pay5, k0_pay6, k0_pay7, k0_pay8, k0_pay9, k0_pay10, k0_pay11,
      k0_pay12, k0_pay13, k0_pay14, val_main_v24, val_main_v25, val_main_v26, val_main_v27,
      val_main_v28, val_main_v29, val_main_cst_3, val_main_v30, val_main_v31, val_main_v32]
    refine Rows.dot_mul_congr (fun k => h_core m c t _ _ ?_ ?_) (fun k => ?_)
    · blk_simp [idx t] <;> (try dsimp only) <;> omega
    · rfl
    · blk_point [iblk, V, idx t])

theorem final4 (c : Dev nD) : (dats m 0 c).arrAt 4 (cfgs 0).N
    = val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point4 m c t y

theorem point5 (c : Dev nD) (t : Fin cfg0.N) (y) :
    out0_5 (F := Ideal) (iblk m c 0 t) (iblk m c 1 t) (iblk m c 2 t) (iblk m c 3 t) y
    = val_main_v34 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  canon_tiles x h
  all_goals (
    pointwise [k0_pay1, k0_pay3, k0_pay4, k0_pay5, k0_pay6, k0_pay7, k0_pay8, k0_pay9, k0_pay10, k0_pay11,
      k0_pay12, k0_pay13, k0_pay14, val_main_v24, val_main_v25, val_main_v26, val_main_v27,
      val_main_v28, val_main_v29, val_main_cst_3, val_main_v30, val_main_v31, val_main_v32,
      val_main_v33, val_main_v34]
    refine Rows.dot_congr (fun k => h_core m c t _ _ ?_ ?_) (fun k => ?_)
    · blk_simp [idx t] <;> (try dsimp only) <;> omega
    · rfl
    · blk_point [iblk, V, idx t])

theorem final5 (c : Dev nD) : (dats m 0 c).arrAt 5 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

theorem point6 (c : Dev nD) (t : Fin cfg0.N) (y) :
    out0_6 (F := Ideal) (iblk m c 0 t) (iblk m c 1 t) (iblk m c 2 t) (iblk m c 3 t) y
    = val_main_v36 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  unfold out0_6
  canon_tiles x h
  all_goals (
    pointwise [k0_pay1, k0_pay3, k0_pay4, k0_pay5, k0_pay6, k0_pay7, k0_pay8, k0_pay9, k0_pay10, k0_pay11,
      k0_pay12, k0_pay13, k0_pay14, val_main_v24, val_main_v25, val_main_v26, val_main_v27,
      val_main_v28, val_main_v29, val_main_cst_3, val_main_v30, val_main_v31, val_main_v32,
      val_main_v33, val_main_v34, val_main_v35, val_main_v36]
    refine Rows.dot_congr (fun k => h_core m c t _ _ ?_ ?_) (fun k => ?_)
    · blk_simp [idx t] <;> (try dsimp only) <;> omega
    · rfl
    · blk_point [iblk, V, idx t])

theorem final6 (c : Dev nD) : (dats m 0 c).arrAt 6 (cfgs 0).N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point6 m c t y

theorem point7 (c : Dev nD) (t : Fin cfg0.N) (y) :
    out0_7 (F := Ideal) (iblk m c 0 t) (iblk m c 1 t) (iblk m c 2 t) (iblk m c 3 t) y
    = val_main_v37 (F := Ideal) (m ((c : Thread nD τ).loc main_arg0)) (m ((c : Thread nD τ).loc main_arg1)) (m ((c : Thread nD τ).loc main_arg2)) (m ((c : Thread nD τ).loc main_arg3)) (((cfg0.win 7).blk t).view.emb y) := by
  unfold out0_7
  canon_tiles x h
  all_goals (
    pointwise [k0_pay1, k0_pay3, k0_pay4, k0_pay5, k0_pay6, k0_pay7, k0_pay8, k0_pay9, k0_pay10, k0_pay11,
      k0_pay12, k0_pay13, k0_pay14, val_main_v24, val_main_v25, val_main_v26, val_main_v27,
      val_main_v28, val_main_v29, val_main_cst_3, val_main_v30, val_main_v31, val_main_v32,
      val_main_v33, val_main_v34, val_main_v35, val_main_v36, val_main_v37]
    refine Rows.dot_congr (fun k => h_core m c t _ _ ?_ ?_) (fun k => ?_)
    · blk_simp [idx t] <;> (try dsimp only) <;> omega
    · rfl
    · blk_point [iblk, V, idx t])

theorem final7 (c : Dev nD) : (dats m 0 c).arrAt 7 (cfgs 0).N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  exact point7 m c t y

end Cert.FirstAIdeal.Value
-- ==== Proof.FirstAClaims.lean ====
module
public import proofs.«01_k».proof.Defs
public import proofs.«01_k».proof.Proof.FirstAValue
public import proofs.«01_k».proof.Proof.Gen.FirstA
public import proofs.«01_k».proof.Proof.Gen.FirstA.Frame
public import proofs.«01_k».proof.Proof.Gen.FirstAIdeal.Value
public import proofs.«01_k».proof.Proof.Gen.FirstAReferenceIdeal.Run
public import Idealize.ShloMosaic.Adequacy

@[expose] public section

noncomputable section

open Idealize.ShloMosaic Idealize.SL.Sem

/-! The claims about the call that begins layer 0. -/

namespace Cert.FirstA.Claims

theorem frame : Cert.quiescent_FirstA := fun m ρ _ => Cert.FirstA.Gen.frame m ρ

theorem frame_ideal : Cert.quiescent_FirstAIdeal := fun m ρ _ => Cert.FirstAIdeal.Gen.frame m ρ

/-- The reference is a list of host operations: it writes no argument and owns no semaphore. -/
theorem frame_reference : Cert.quiescent_FirstAReferenceIdeal := fun m g _ =>
  (θ_run Cert.FirstAReferenceIdeal.defs _ _).mono
    (fun r h => ⟨fun c => (h c).2.2.2.2, sem_eq_zero_of_no_sems (by decide) r.2⟩)
    (Cert.FirstAReferenceIdeal.Value.run (F := Ideal) m g)

set_option maxHeartbeats 2000000 in
/-- Each result array of the call is the reference's. -/
theorem algebraic : Cert.algebraic_FirstAIdeal_FirstAReferenceIdeal := by
  pair_intro
  · run_from Cert.FirstAIdeal.Value.run_blocks m g
  · run_from Cert.FirstAReferenceIdeal.Value.run m' g'
    · exact (Cert.FirstAReferenceIdeal.Read.val_main_v32_eq ..).trans (Cert.FirstAIdeal.Value.final4 m c).symm
    · exact (Cert.FirstAReferenceIdeal.Read.val_main_v34_eq ..).trans (Cert.FirstAIdeal.Value.final5 m c).symm
    · exact (Cert.FirstAReferenceIdeal.Read.val_main_v36_eq ..).trans (Cert.FirstAIdeal.Value.final6 m c).symm
    · exact (Cert.FirstAReferenceIdeal.Read.val_main_v37_eq ..).trans (Cert.FirstAIdeal.Value.final7 m c).symm

end Cert.FirstA.Claims

end
-- ==== Proof.ModValue.lean ====
module
public import proofs.«01_k».proof.Proof.Gen.ModIdeal.Frame
public import proofs.«01_k».proof.Proof.Gen.ModReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that computes the modulation of the four layers, point by point. -/

namespace Cert.ModIdeal.Value
open Cert.ModIdeal Cert.ModIdeal.Gen Cert.ModReferenceIdeal.Read
variable (m : (ℓ : Loc nD τ sig) → Buf (Elt Ideal) ℓ)

/-- The block that each window reads or writes at a grid point. -/
theorem idx : ∀ t : Fin cfg0.N, win0_0.index t = ![0, 0] ∧
    win0_1.index t = ![0, t.val] ∧ win0_2.index t = ![0, t.val] ∧ win0_3.index t = ![0, t.val] ∧ win0_4.index t = ![0, t.val] ∧
    win0_5.index t = ![0, t.val] ∧ win0_6.index t = ![0, t.val] ∧ win0_7.index t = ![0, t.val] ∧ win0_8.index t = ![0, t.val] ∧
    win0_9.index t = ![0, t.val] ∧ win0_10.index t = ![0, t.val] ∧ win0_11.index t = ![0, t.val] ∧ win0_12.index t = ![0, t.val] :=
  (by decide +kernel : ∀ t : Fin grid0.N, _)

theorem point9 (c : Dev nD) (t : Fin cfg0.N) (y) :
    out0_9 (F := Ideal) (iblk m c 0 t) (iblk m c 1 t) (iblk m c 2 t) (iblk m c 3 t) (iblk m c 4 t) (iblk m c 5 t) (iblk m c 6 t) (iblk m c 7 t) (iblk m c 8 t) y
    = val_main_v4 (F := Ideal) (m ((c : Thread nD τ).loc main_arg0)) (m ((c : Thread nD τ).loc main_arg1)) (m ((c : Thread nD τ).loc main_arg5)) (((cfg0.win 9).blk t).view.emb y) := by
  unfold out0_9
  canon_tiles x h
  pointwise [k0_pay1, k0_pay2, k0_pay3, k0_pay4, k0_pay5, val_main_call0_v0, val_main_call0_v1,
      val_main_call0_cst, val_main_call0_v2, val_main_call0_v3, val_main_call0_cst_0,
      val_main_call0_v4, val_main_call0_v5, val_main_v0, val_main_v1, val_main_v2, val_main_v3,
      val_main_v4]
  refine congrArg₂ (· + ·) (Rows.dot_congr (fun k => Rows.silu_congr ?_) (fun k => ?_)) ?_ <;> blk_point [iblk, V, idx t]

theorem final9 (c : Dev nD) : (dats m 0 c).arrAt 9 (cfgs 0).N
    = val_main_v4 (F := Ideal) (m ((c : Thread nD τ).loc main_arg0)) (m ((c : Thread nD τ).loc main_arg1)) (m ((c : Thread nD τ).loc main_arg5)) := by
  refine (dats m 0 c).arrAt_eq_of_covers 9 _ (by decide +kernel) fun t _ y => ?_
  blk_simp
  rw [after0_9]
  exact point9 m c t y

theorem point10 (c : Dev nD) (t : Fin cfg0.N) (y) :
    out0_10 (F := Ideal) (iblk m c 0 t) (iblk m c 1 t) (iblk m c 2 t) (iblk m c 3 t) (iblk m c 4 t) (iblk m c 5 t) (iblk m c 6 t) (iblk m c 7 t) (iblk m c 8 t) y
    = val_main_v8 (F := Ideal) (m ((c : Thread nD τ).loc main_arg0)) (m ((c : Thread nD τ).loc main_arg2)) (m ((c : Thread nD τ).loc main_arg6)) (((cfg0.win 10).blk t).view.emb y) := by
  unfold out0_10
  canon_tiles x h
  pointwise [k0_pay1, k0_pay2, k0_pay3, k0_pay4, k0_pay5, val_main_call0_v0, val_main_call0_v1,
      val_main_call0_cst, val_main_call0_v2, val_main_call0_v3, val_main_call0_cst_0,
      val_main_call0_v4, val_main_call0_v5, val_main_v0, val_main_v5, val_main_v6, val_main_v7,
      val_main_v8]
  refine congrArg₂ (· + ·) (Rows.dot_congr (fun k => Rows.silu_congr ?_) (fun k => ?_)) ?_ <;> blk_point [iblk, V, idx t]

theorem final10 (c : Dev nD) : (dats m 0 c).arrAt 10 (cfgs 0).N
    = val_main_v8 (F := Ideal) (m ((c : Thread nD τ).loc main_arg0)) (m ((c : Thread nD τ).loc main_arg2)) (m ((c : Thread nD τ).loc main_arg6)) := by
  refine (dats m 0 c).arrAt_eq_of_covers 10 _ (by decide +kernel) fun t _ y => ?_
  blk_simp
  rw [after0_10]
  exact point10 m c t y

theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) (iblk m c 8 t) y
    = val_main_v12 (F := Ideal) (m ((c : Thread nD τ).loc main_arg0)) (m ((c : Thread nD τ).loc main_arg3)) (m ((c : Thread nD τ).loc main_arg7)) (((cfg0.win 11).blk t).view.emb y) := by
  unfold out0_11
  canon_tiles x h
  pointwise [k0_pay1, k0_pay2, k0_pay3, k0_pay4, k0_pay5, val_main_call0_v0, val_main_call0_v1,
      val_main_call0_cst, val_main_call0_v2, val_main_call0_v3, val_main_call0_cst_0,
      val_main_call0_v4, val_main_call0_v5, val_main_v0, val_main_v9, val_main_v10, val_main_v11,
      val_main_v12]
  refine congrArg₂ (· + ·) (Rows.dot_congr (fun k => Rows.silu_congr ?_) (fun k => ?_)) ?_ <;> blk_point [iblk, V, idx t]

theorem final11 (c : Dev nD) : (dats m 0 c).arrAt 11 (cfgs 0).N
    = val_main_v12 (F := Ideal) (m ((c : Thread nD τ).loc main_arg0)) (m ((c : Thread nD τ).loc main_arg3)) (m ((c : Thread nD τ).loc main_arg7)) := by
  refine (dats m 0 c).arrAt_eq_of_covers 11 _ (by decide +kernel) fun t _ y => ?_
  blk_simp
  rw [after0_11]
  exact point11 m c t y

theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) (iblk m c 8 t) y
    = val_main_v16 (F := Ideal) (m ((c : Thread nD τ).loc main_arg0)) (m ((c : Thread nD τ).loc main_arg4)) (m ((c : Thread nD τ).loc main_arg8)) (((cfg0.win 12).blk t).view.emb y) := by
  unfold out0_12
  canon_tiles x h
  pointwise [k0_pay1, k0_pay2, k0_pay3, k0_pay4, k0_pay5, val_main_call0_v0, val_main_call0_v1,
      val_main_call0_cst, val_main_call0_v2, val_main_call0_v3, val_main_call0_cst_0,
      val_main_call0_v4, val_main_call0_v5, val_main_v0, val_main_v13, val_main_v14, val_main_v15,
      val_main_v16]
  refine congrArg₂ (· + ·) (Rows.dot_congr (fun k => Rows.silu_congr ?_) (fun k => ?_)) ?_ <;> blk_point [iblk, V, idx t]

theorem final12 (c : Dev nD) : (dats m 0 c).arrAt 12 (cfgs 0).N
    = val_main_v16 (F := Ideal) (m ((c : Thread nD τ).loc main_arg0)) (m ((c : Thread nD τ).loc main_arg4)) (m ((c : Thread nD τ).loc main_arg8)) := by
  refine (dats m 0 c).arrAt_eq_of_covers 12 _ (by decide +kernel) fun t _ y => ?_
  blk_simp
  rw [after0_12]
  exact point12 m c t y

end Cert.ModIdeal.Value
-- ==== Proof.ModClaims.lean ====
module
public import proofs.«01_k».proof.Defs
public import proofs.«01_k».proof.Proof.ModValue
public import proofs.«01_k».proof.Proof.Gen.Mod
public import proofs.«01_k».proof.Proof.Gen.Mod.Frame
public import proofs.«01_k».proof.Proof.Gen.ModIdeal.Value
public import proofs.«01_k».proof.Proof.Gen.ModReferenceIdeal.Run
public import Idealize.ShloMosaic.Adequacy

@[expose] public section

noncomputable section

open Idealize.ShloMosaic Idealize.SL.Sem

/-! The claims about the call that computes the modulation. -/

namespace Cert.Mod.Claims

theorem frame : Cert.quiescent_Mod := fun m ρ _ => Cert.Mod.Gen.frame m ρ

theorem frame_ideal : Cert.quiescent_ModIdeal := fun m ρ _ => Cert.ModIdeal.Gen.frame m ρ

/-- The reference is a list of host operations: it writes no argument and owns no semaphore. -/
theorem frame_reference : Cert.quiescent_ModReferenceIdeal := fun m g _ =>
  (θ_run Cert.ModReferenceIdeal.defs _ _).mono
    (fun r h => ⟨fun c => (h c).2.2.2.2, sem_eq_zero_of_no_sems (by decide) r.2⟩)
    (Cert.ModReferenceIdeal.Value.run (F := Ideal) m g)

set_option maxHeartbeats 2000000 in
/-- Each result array of the call is the reference's. -/
theorem algebraic : Cert.algebraic_ModIdeal_ModReferenceIdeal := by
  pair_intro
  · run_from Cert.ModIdeal.Value.run_blocks m g
  · run_from Cert.ModReferenceIdeal.Value.run m' g'
    · exact (Cert.ModReferenceIdeal.Read.val_main_v4_eq ..).trans (Cert.ModIdeal.Value.final9 m c).symm
    · exact (Cert.ModReferenceIdeal.Read.val_main_v8_eq ..).trans (Cert.ModIdeal.Value.final10 m c).symm
    · exact (Cert.ModReferenceIdeal.Read.val_main_v12_eq ..).trans (Cert.ModIdeal.Value.final11 m c).symm
    · exact (Cert.ModReferenceIdeal.Read.val_main_v16_eq ..).trans (Cert.ModIdeal.Value.final12 m c).symm

end Cert.Mod.Claims

end
-- ==== Proof.InBLatValue.lean ====
module
public import proofs.«01_k».proof.Proof.Gen.InBLatIdeal.Frame
public import proofs.«01_k».proof.Proof.Gen.InBLatReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 0 and begins layer 1, on the latent rows, point by point. -/

namespace Cert.InBLatIdeal.Value
open Cert.InBLatIdeal Cert.InBLatIdeal.Gen Cert.InBLatReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![t.val / 2, 0, 0]
    ∧ win0_3.index t = ![t.val, 0] ∧ win0_4.index t = ![0, 0] ∧ win0_5.index t = ![t.val / 2, 0, 0]
    ∧ win0_6.index t = ![0, 0] ∧ win0_7.index t = ![t.val % 2, 0] ∧ win0_8.index t = ![t.val % 2, 0]
    ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay1 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay1, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay18 (F := Ideal) (iblk m c 0 t) (iblk m c 1 t) (iblk m c 2 t) (iblk m c 3 t) (iblk m c 4 t) (iblk m c 5 t) (iblk m c 6 t) (iblk m c 7 t) (iblk m c 8 t) i
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay18, k0_pay2, val_main_v9, val_main_v10, val_main_v11, val_main_v12, val_main_v13, val_main_v14, val_main_v15,
      val_main_cst, val_main_v16, val_main_v17, val_main_cst_0, val_main_v18, val_main_v19,
      val_main_cst_1, val_main_v20, val_main_v21, val_main_v22, val_main_v23, val_main_v24,
      val_main_v25, val_main_v26, val_main_v27, val_main_cst_2, val_main_v28, val_main_v29,
      val_main_v30, val_main_v31]
  refine Rows.norm_congr (fun k => x_core m c t (ix2 (i 0) k) (ix2 (j 0) k) h0 rfl) (x_core m c t i j h0 h1) ?_ ?_ ?_
    <;> blk_point [iblk, V, idx t]

theorem final9 (c : Dev nD) : (dats m 0 c).arrAt 9 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  unfold out0_9
  canon_tiles x h
  refine x_core m c t x _ ?_ ?_ <;> (blk_simp [idx t] <;> try omega)

/-- The rows of the two rotation tables that a block of rows reads. -/
theorem table (c : Dev nD) (t : Fin cfg0.N) (r : Fin 512) (l : Fin 128) (r' : Fin 1024) (l' : Fin 128)
    (hr : (r' : ℕ) = 512 * (t.val % 2) + r) (hl : (l' : ℕ) = l) :
    iblk m c 7 t (ix2 r l) = (m ((c : Thread nD τ).loc main_arg7)) (ix2 r' l')
      ∧ iblk m c 8 t (ix2 r l) = (m ((c : Thread nD τ).loc main_arg8)) (ix2 r' l') := by
  constructor <;> blk_point [iblk, V, idx t]

/-- The weight's block is the whole weight. -/
theorem w_core (c : Dev nD) (t : Fin cfg0.N) (k : Fin 1024) (l l' : Fin 4096) (h : (l' : ℕ) = l) :
    iblk m c 6 t (ix2 k l) = (m ((c : Thread nD τ).loc main_arg6)) (ix2 k l') := by
  blk_point [iblk, V, idx t]

set_option maxHeartbeats 1000000 in
theorem point10 (c : Dev nD) (t : Fin cfg0.N) (y) :
    out0_10 (F := Ideal) (iblk m c 0 t) (iblk m c 1 t) (iblk m c 2 t) (iblk m c 3 t) (iblk m c 4 t) (iblk m c 5 t) (iblk m c 6 t) (iblk m c 7 t) (iblk m c 8 t) y
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  unfold out0_10
  canon_tiles x h
  all_goals (
    pointwise [k0_pay3, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_v53, val_main_v54, val_main_v55, val_main_v56, val_main_v57,
      val_main_v58, val_main_v59, val_main_v60, val_main_v61, val_main_cst_3, val_main_v62,
      val_main_v63, val_main_v64]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· * ·) (congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)) rfl
    · blk_simp [idx t] <;> (try dsimp only) <;> omega
    · rfl
    · blk_point [iblk, V, idx t]
    · exact Rows.tile4 (f := fun l => iblk m c 7 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile4 (f := fun l => iblk m c 8 t (ix2 (x 0) l)) x1_lt (table m c t _ _ _ _
        (by blk_simp [idx t] <;> (try dsimp only) <;> omega) (by blk_simp [idx t] <;> (try dsimp only) <;> omega)).2)

theorem final10 (c : Dev nD) : (dats m 0 c).arrAt 10 (cfgs 0).N
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  exact point10 m c t y

set_option maxHeartbeats 1000000 in
theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) (iblk m c 8 t) y
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y) := by
  unfold out0_11
  canon_tiles x h
  all_goals (
    pointwise [k0_pay3, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_v53, val_main_v54, val_main_v55, val_main_v56, val_main_v57,
      val_main_v58, val_main_v59, val_main_v60, val_main_v61, val_main_cst_3, val_main_v62,
      val_main_v63, val_main_v64, val_main_v65]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)
    · blk_simp [idx t] <;> (try dsimp only) <;> omega
    · rfl
    · blk_point [iblk, V, idx t]
    · exact Rows.tile4 (f := fun l => iblk m c 7 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile4 (f := fun l => iblk m c 8 t (ix2 (x 0) l)) x1_lt (table m c t _ _ _ _
        (by blk_simp [idx t] <;> (try dsimp only) <;> omega) (by blk_simp [idx t] <;> (try dsimp only) <;> omega)).2)

theorem final11 (c : Dev nD) : (dats m 0 c).arrAt 11 (cfgs 0).N
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  exact point11 m c t y

theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) (iblk m c 8 t) y
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  unfold out0_12
  canon_tiles x h
  all_goals (
    pointwise [k0_pay3, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_v53, val_main_v54, val_main_v55, val_main_v56, val_main_v57,
      val_main_v58, val_main_v59, val_main_v60, val_main_v61, val_main_cst_3, val_main_v62,
      val_main_v63, val_main_v64, val_main_v65, val_main_v66]
    refine Rows.dot_congr (fun k => h_core m c t _ _ ?_ ?_) (fun k => ?_)
    · blk_simp [idx t] <;> (try dsimp only) <;> omega
    · rfl
    · blk_point [iblk, V, idx t])

theorem final12 (c : Dev nD) : (dats m 0 c).arrAt 12 (cfgs 0).N
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  exact point12 m c t y

theorem point13 (c : Dev nD) (t : Fin cfg0.N) (y) :
    out0_13 (F := Ideal) (iblk m c 0 t) (iblk m c 1 t) (iblk m c 2 t) (iblk m c 3 t) (iblk m c 4 t) (iblk m c 5 t) (iblk m c 6 t) (iblk m c 7 t) (iblk m c 8 t) y
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 13).blk t).view.emb y) := by
  unfold out0_13
  canon_tiles x h
  all_goals (
    pointwise [k0_pay3, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_v53, val_main_v54, val_main_v55, val_main_v56, val_main_v57,
      val_main_v58, val_main_v59, val_main_v60, val_main_v61, val_main_cst_3, val_main_v62,
      val_main_v63, val_main_v64, val_main_v65, val_main_v66, val_main_v67]
    refine Rows.dot_congr (fun k => h_core m c t _ _ ?_ ?_) (fun k => ?_)
    · blk_simp [idx t] <;> (try dsimp only) <;> omega
    · rfl
    · blk_point [iblk, V, idx t])

theorem final13 (c : Dev nD) : (dats m 0 c).arrAt 13 (cfgs 0).N
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t _ y => ?_
  blk_simp
  rw [after0_13]
  exact point13 m c t y

end Cert.InBLatIdeal.Value
-- ==== Proof.InBLatClaims.lean ====
module
public import proofs.«01_k».proof.Defs
public import proofs.«01_k».proof.Proof.InBLatValue
public import proofs.«01_k».proof.Proof.Gen.InBLat
public import proofs.«01_k».proof.Proof.Gen.InBLat.Frame
public import proofs.«01_k».proof.Proof.Gen.InBLatIdeal.Value
public import proofs.«01_k».proof.Proof.Gen.InBLatReferenceIdeal.Run
public import Idealize.ShloMosaic.Adequacy

@[expose] public section

noncomputable section

open Idealize.ShloMosaic Idealize.SL.Sem

/-! The claims about the call that ends layer 0 and begins layer 1 on the latent rows. -/

namespace Cert.InBLat.Claims

theorem frame : Cert.quiescent_InBLat := fun m ρ _ => Cert.InBLat.Gen.frame m ρ

theorem frame_ideal : Cert.quiescent_InBLatIdeal := fun m ρ _ => Cert.InBLatIdeal.Gen.frame m ρ

/-- The reference is a list of host operations: it writes no argument and owns no semaphore. -/
theorem frame_reference : Cert.quiescent_InBLatReferenceIdeal := fun m g _ =>
  (θ_run Cert.InBLatReferenceIdeal.defs _ _).mono
    (fun r h => ⟨fun c => (h c).2.2.2.2.2, sem_eq_zero_of_no_sems (by decide) r.2⟩)
    (Cert.InBLatReferenceIdeal.Value.run (F := Ideal) m g)

set_option maxHeartbeats 2000000 in
/-- Each result array of the call is the reference's. -/
theorem algebraic : Cert.algebraic_InBLatIdeal_InBLatReferenceIdeal := by
  pair_intro
  · run_from Cert.InBLatIdeal.Value.run_blocks m g
  · run_from Cert.InBLatReferenceIdeal.Value.run m' g'
    · exact (Cert.InBLatReferenceIdeal.Read.val_main_v8_eq ..).trans (Cert.InBLatIdeal.Value.final9 m c).symm
    · obtain ⟨h0, h1, h2, h3, h4, h5, h6, h7, h8⟩ := hagree c
      refine (Cert.InBLatReferenceIdeal.Read.val_main_v64_eq m' c).trans (Eq.trans ?_ (Cert.InBLatIdeal.Value.final10 m c).symm)
      rw [h0, h1, h2, h3, h4, h5, h6, h7, h8]
    · obtain ⟨h0, h1, h2, h3, h4, h5, h6, h7, h8⟩ := hagree c
      refine (Cert.InBLatReferenceIdeal.Read.val_main_v65_eq m' c).trans (Eq.trans ?_ (Cert.InBLatIdeal.Value.final11 m c).symm)
      rw [h0, h1, h2, h3, h4, h5, h6, h7, h8]
    · exact (Cert.InBLatReferenceIdeal.Read.val_main_v66_eq ..).trans (Cert.InBLatIdeal.Value.final12 m c).symm
    · exact (Cert.InBLatReferenceIdeal.Read.val_main_v67_eq ..).trans (Cert.InBLatIdeal.Value.final13 m c).symm

end Cert.InBLat.Claims

end
-- ==== Proof.InCLatValue.lean ====
module
public import proofs.«01_k».proof.Proof.Gen.InCLatIdeal.Frame
public import proofs.«01_k».proof.Proof.Gen.InCLatReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 1 and begins layer 2, on the latent rows, point by point. -/

namespace Cert.InCLatIdeal.Value
open Cert.InCLatIdeal Cert.InCLatIdeal.Gen Cert.InCLatReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![t.val / 2, 0, 0]
    ∧ win0_3.index t = ![t.val, 0] ∧ win0_4.index t = ![0, 0] ∧ win0_5.index t = ![t.val / 2, 0, 0]
    ∧ win0_6.index t = ![0, 0] ∧ win0_7.index t = ![0, 0] ∧ win0_8.index t = ![0, 0]
    ∧ win0_9.index t = ![0, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay2 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay2, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) i
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay18, k0_pay3, val_main_v9, val_main_v10, val_main_v11, val_main_v12, val_main_v13, val_main_v14, val_main_v15,
      val_main_cst, val_main_v16, val_main_v17, val_main_cst_0, val_main_v18, val_main_v19,
      val_main_cst_1, val_main_v20, val_main_v21, val_main_v22, val_main_v23, val_main_v24,
      val_main_v25, val_main_v26, val_main_v27, val_main_cst_2, val_main_v28, val_main_v29,
      val_main_v30, val_main_v31]
  refine Rows.norm_congr (fun k => x_core m c t (ix2 (i 0) k) (ix2 (j 0) k) h0 rfl) (x_core m c t i j h0 h1) ?_ ?_ ?_
    <;> blk_point [iblk, V, idx t]

theorem final10 (c : Dev nD) : (dats m 0 c).arrAt 10 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  unfold out0_10
  canon_tiles x h
  refine x_core m c t x _ ?_ ?_ <;> (blk_simp [idx t] <;> try omega)

theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  unfold out0_11
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_cst_3,
      val_main_v39, val_main_v40, val_main_cst_4, val_main_v41, val_main_v42, val_main_v43,
      val_main_v44, val_main_v45, val_main_v46, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v47, val_main_v48, val_main_v49, val_main_v50, val_main_v51,
      val_main_v52, val_main_v53]
    refine Rows.dot_congr (fun k => h_core m c t _ _ ?_ ?_) (fun k => ?_)
    · blk_simp [idx t] <;> (try dsimp only) <;> omega
    · rfl
    · blk_point [iblk, V, idx t])

theorem final11 (c : Dev nD) : (dats m 0 c).arrAt 11 (cfgs 0).N
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  exact point11 m c t y

theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  unfold out0_12
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_cst_3,
      val_main_v39, val_main_v40, val_main_cst_4, val_main_v41, val_main_v42, val_main_v43,
      val_main_v44, val_main_v45, val_main_v46, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v47, val_main_v48, val_main_v49, val_main_v50, val_main_v51,
      val_main_v52, val_main_v53, val_main_v54, val_main_v55]
    refine Rows.dot_congr (fun k => h_core m c t _ _ ?_ ?_) (fun k => ?_)
    · blk_simp [idx t] <;> (try dsimp only) <;> omega
    · rfl
    · blk_point [iblk, V, idx t])

theorem final12 (c : Dev nD) : (dats m 0 c).arrAt 12 (cfgs 0).N
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  exact point12 m c t y

theorem point13 (c : Dev nD) (t : Fin cfg0.N) (y) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) y
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (((cfg0.win 13).blk t).view.emb y) := by
  unfold out0_13
  canon_tiles x h
  all_goals (
    pointwise [k0_pay1, k0_pay4, k0_pay5, k0_pay6, k0_pay7, k0_pay8, k0_pay9, k0_pay10, k0_pay11, k0_pay12,
      k0_pay13, k0_pay14, k0_pay15, k0_pay16, k0_pay17, k0_pay19, val_main_v32, val_main_v33,
      val_main_v34, val_main_v35, val_main_v36, val_main_v37, val_main_v38, val_main_cst_3,
      val_main_v39, val_main_v40, val_main_cst_4, val_main_v41, val_main_v42, val_main_v43,
      val_main_v44, val_main_v45, val_main_v46, val_main_call0_cst, val_main_call0_v0,
      val_main_call0_v1, val_main_call0_v2, val_main_call0_v3, val_main_call0_v4, val_main_call0_v5,
      val_main_call0_v6, val_main_call0_v7, val_main_call0_v8, val_main_call0_v9, val_main_call0_v10,
      val_main_call0_v11, val_main_v47, val_main_v48, val_main_v49, val_main_v50, val_main_v51]
    refine Rows.concat_lane _ (by omega) (by decide) (by decide) ?_ (fun hl => ?_) (fun hl => ?_)
    · blk_simp [idx t] <;> (try dsimp only) <;> omega
    · refine Rows.sigmoid_congr (Rows.dot_congr (fun k => h_core m c t _ _ ?_ ?_) (fun k => ?_))
      · blk_simp [idx t] <;> (try dsimp only) <;> omega
      · rfl
      · blk_point [iblk, V, idx t]
    · have h16 : 16 ≤ (y 1 : ℕ) := by
        blk_simp [idx t] at hl
        omega
      refine Rows.softplus_congr ?_ (congrArg₂ (· + ·) (Rows.dot_congr (fun k => h_core m c t _ _ ?_ ?_) (fun k => ?_)) ?_)
      · blk_point [iblk, V, idx t]
      · blk_simp [idx t] <;> (try dsimp only) <;> omega
      · rfl
      · blk_point [iblk, V, idx t]
      · blk_point [iblk, V, idx t])

theorem final13 (c : Dev nD) : (dats m 0 c).arrAt 13 (cfgs 0).N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) := by
  refine (dats m 0 c).arrAt_eq_of_covers 13 _ (by decide +kernel) fun t _ y => ?_
  blk_simp
  rw [after0_13]
  exact point13 m c t y

end Cert.InCLatIdeal.Value
-- ==== Proof.InCLatClaims.lean ====
module
public import proofs.«01_k».proof.Defs
public import proofs.«01_k».proof.Proof.InCLatValue
public import proofs.«01_k».proof.Proof.Gen.InCLat
public import proofs.«01_k».proof.Proof.Gen.InCLat.Frame
public import proofs.«01_k».proof.Proof.Gen.InCLatIdeal.Value
public import proofs.«01_k».proof.Proof.Gen.InCLatReferenceIdeal.Run
public import Idealize.ShloMosaic.Adequacy

@[expose] public section

noncomputable section

open Idealize.ShloMosaic Idealize.SL.Sem

/-! The claims about the call that ends layer 1 and begins layer 2 on the latent rows. -/

namespace Cert.InCLat.Claims

theorem frame : Cert.quiescent_InCLat := fun m ρ _ => Cert.InCLat.Gen.frame m ρ

theorem frame_ideal : Cert.quiescent_InCLatIdeal := fun m ρ _ => Cert.InCLatIdeal.Gen.frame m ρ

/-- The reference is a list of host operations: it writes no argument and owns no semaphore. -/
theorem frame_reference : Cert.quiescent_InCLatReferenceIdeal := fun m g _ =>
  (θ_run Cert.InCLatReferenceIdeal.defs _ _).mono
    (fun r h => ⟨fun c => (h c).2.2.2.2, sem_eq_zero_of_no_sems (by decide) r.2⟩)
    (Cert.InCLatReferenceIdeal.Value.run (F := Ideal) m g)

set_option maxHeartbeats 2000000 in
/-- Each result array of the call is the reference's. -/
theorem algebraic : Cert.algebraic_InCLatIdeal_InCLatReferenceIdeal := by
  pair_intro
  · run_from Cert.InCLatIdeal.Value.run_blocks m g
  · run_from Cert.InCLatReferenceIdeal.Value.run m' g'
    · exact (Cert.InCLatReferenceIdeal.Read.val_main_v8_eq ..).trans (Cert.InCLatIdeal.Value.final10 m c).symm
    · exact (Cert.InCLatReferenceIdeal.Read.val_main_v53_eq ..).trans (Cert.InCLatIdeal.Value.final11 m c).symm
    · exact (Cert.InCLatReferenceIdeal.Read.val_main_v55_eq ..).trans (Cert.InCLatIdeal.Value.final12 m c).symm
    · obtain ⟨h0, h1, h2, h3, h4, h5, h6, h7, h8, h9⟩ := hagree c
      refine (Cert.InCLatReferenceIdeal.Read.val_main_v51_eq m' c).trans (Eq.trans ?_ (Cert.InCLatIdeal.Value.final13 m c).symm)
      rw [h0, h1, h2, h3, h4, h5, h7, h8, h9]

end Cert.InCLat.Claims

end
-- ==== Proof.InALatValue.lean ====
module
public import proofs.«01_k».proof.Proof.Gen.InALatIdeal.Frame
public import proofs.«01_k».proof.Proof.Gen.InALatReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 2 and begins layer 3, on the latent rows, point by point. -/

namespace Cert.InALatIdeal.Value
open Cert.InALatIdeal Cert.InALatIdeal.Gen Cert.InALatReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![t.val / 2, 0, 0]
    ∧ win0_3.index t = ![t.val, 0] ∧ win0_4.index t = ![0, 0] ∧ win0_5.index t = ![t.val / 2, 0, 0]
    ∧ win0_6.index t = ![0, 0] ∧ win0_7.index t = ![t.val % 2, 0] ∧ win0_8.index t = ![t.val % 2, 0]
    ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The residual: the block of rows that the output projection ends in. -/
theorem x_core (c : Dev nD) (t : Fin cfg0.N) (i : S512x1024.Idx) (j : S4096x1024.Idx)
    (h0 : (j 0 : ℕ) = 512 * t.val + i 0) (h1 : (j 1 : ℕ) = i 1) :
    k0_pay2 (F := Ideal) (View.ld (iblk m c 0 t) r0_0) (View.ld (iblk m c 1 t) r0_1) (View.ld (iblk m c 3 t) r0_0) (View.ld (iblk m c 2 t) r0_2) i
    = val_main_v8 (F := Ideal) (m ((c : Thread nD τ).loc main_arg0)) (m ((c : Thread nD τ).loc main_arg1)) (m ((c : Thread nD τ).loc main_arg2)) (m ((c : Thread nD τ).loc main_arg3)) j := by
  pointwise [k0_pay2, val_main_v0, val_main_v1, val_main_v2, val_main_v3, val_main_v4, val_main_v5, val_main_v6,
      val_main_v7, val_main_v8]
  blk_point [iblk, V, idx t]

/-- The modulated normalisation of those rows. -/
theorem h_core (c : Dev nD) (t : Fin cfg0.N) (i : S512x1024.Idx) (j : S4096x1024.Idx)
    (h0 : (j 0 : ℕ) = 512 * t.val + i 0) (h1 : (j 1 : ℕ) = i 1) :
    k0_pay14 (F := Ideal) (iblk m c 0 t) (iblk m c 1 t) (iblk m c 2 t) (iblk m c 3 t) (iblk m c 4 t) (iblk m c 5 t) (iblk m c 6 t) (iblk m c 7 t) (iblk m c 8 t) i
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [k0_pay14, k0_pay3, val_main_v9, val_main_v10, val_main_v11, val_main_v12, val_main_v13, val_main_v14, val_main_v15,
      val_main_cst, val_main_v16, val_main_v17, val_main_cst_0, val_main_v18, val_main_v19,
      val_main_cst_1, val_main_v20, val_main_v21, val_main_v22, val_main_v23, val_main_v24,
      val_main_v25, val_main_v26, val_main_v27, val_main_cst_2, val_main_v28, val_main_v29,
      val_main_v30, val_main_v31]
  refine Rows.norm_congr (fun k => x_core m c t (ix2 (i 0) k) (ix2 (j 0) k) h0 rfl) (x_core m c t i j h0 h1) ?_ ?_ ?_
    <;> blk_point [iblk, V, idx t]

theorem final9 (c : Dev nD) : (dats m 0 c).arrAt 9 (cfgs 0).N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  unfold out0_9
  canon_tiles x h
  refine x_core m c t x _ ?_ ?_ <;> (blk_simp [idx t] <;> try omega)

/-- The rows of the two rotation tables that a block of rows reads. -/
theorem table (c : Dev nD) (t : Fin cfg0.N) (r : Fin 512) (l : Fin 128) (r' : Fin 1024) (l' : Fin 128)
    (hr : (r' : ℕ) = 512 * (t.val % 2) + r) (hl : (l' : ℕ) = l) :
    iblk m c 7 t (ix2 r l) = (m ((c : Thread nD τ).loc main_arg7)) (ix2 r' l')
      ∧ iblk m c 8 t (ix2 r l) = (m ((c : Thread nD τ).loc main_arg8)) (ix2 r' l') := by
  constructor <;> blk_point [iblk, V, idx t]

/-- The weight's block is the whole weight. -/
theorem w_core (c : Dev nD) (t : Fin cfg0.N) (k : Fin 1024) (l l' : Fin 2560) (h : (l' : ℕ) = l) :
    iblk m c 6 t (ix2 k l) = (m ((c : Thread nD τ).loc main_arg6)) (ix2 k l') := by
  blk_point [iblk, V, idx t]

set_option maxHeartbeats 1000000 in
theorem point10 (c : Dev nD) (t : Fin cfg0.N) (y) :
    out0_10 (F := Ideal) (iblk m c 0 t) (iblk m c 1 t) (iblk m c 2 t) (iblk m c 3 t) (iblk m c 4 t) (iblk m c 5 t) (iblk m c 6 t) (iblk m c 7 t) (iblk m c 8 t) y
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  unfold out0_10
  canon_tiles x h
  all_goals (
    pointwise [k0_pay1, k0_pay4, k0_pay5, k0_pay6, k0_pay7, k0_pay8, k0_pay9, k0_pay10, k0_pay11, k0_pay12,
      k0_pay13, k0_pay15, val_main_v32, val_main_v33, val_main_v34, val_main_v35, val_main_v36,
      val_main_v37, val_main_v38, val_main_v39, val_main_v40, val_main_v41, val_main_v42,
      val_main_v43, val_main_v44, val_main_v45, val_main_v46, val_main_v47, val_main_v48,
      val_main_v49, val_main_v50, val_main_v51, val_main_v52, val_main_v53, val_main_v54,
      val_main_v55, val_main_v56, val_main_v57, val_main_v58, val_main_v59, val_main_v60,
      val_main_v61, val_main_cst_3, val_main_v62, val_main_v63, val_main_v64]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· * ·) (congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)) rfl
    · blk_simp [idx t] <;> (try dsimp only) <;> omega
    · rfl
    · blk_point [iblk, V, idx t]
    · exact Rows.tile4 (f := fun l => iblk m c 7 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile4 (f := fun l => iblk m c 8 t (ix2 (x 0) l)) x1_lt (table m c t _ _ _ _
        (by blk_simp [idx t] <;> (try dsimp only) <;> omega) (by blk_simp [idx t] <;> (try dsimp only) <;> omega)).2)

theorem final10 (c : Dev nD) : (dats m 0 c).arrAt 10 (cfgs 0).N
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  exact point10 m c t y

set_option maxHeartbeats 1000000 in
theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) (iblk m c 8 t) y
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y) := by
  unfold out0_11
  canon_tiles x h
  all_goals (
    pointwise [k0_pay1, k0_pay4, k0_pay5, k0_pay6, k0_pay7, k0_pay8, k0_pay9, k0_pay10, k0_pay11, k0_pay12,
      k0_pay13, k0_pay15, val_main_v32, val_main_v33, val_main_v34, val_main_v35, val_main_v36,
      val_main_v37, val_main_v38, val_main_v39, val_main_v40, val_main_v41, val_main_v42,
      val_main_v43, val_main_v44, val_main_v45, val_main_v46, val_main_v47, val_main_v48,
      val_main_v49, val_main_v50, val_main_v51, val_main_v52, val_main_v53, val_main_v54,
      val_main_v55, val_main_v56, val_main_v57, val_main_v58, val_main_v59, val_main_v60,
      val_main_v61, val_main_cst_3, val_main_v62, val_main_v63, val_main_v64, val_main_v65]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)
    · blk_simp [idx t] <;> (try dsimp only) <;> omega
    · rfl
    · blk_point [iblk, V, idx t]
    · exact Rows.tile2 (f := fun l => iblk m c 7 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile2 (f := fun l => iblk m c 8 t (ix2 (x 0) l)) x1_lt (table m c t _ _ _ _
        (by blk_simp [idx t] <;> (try dsimp only) <;> omega) (by blk_simp [idx t] <;> (try dsimp only) <;> omega)).2)

theorem final11 (c : Dev nD) : (dats m 0 c).arrAt 11 (cfgs 0).N
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  exact point11 m c t y

theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) (iblk m c 8 t) y
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  unfold out0_12
  canon_tiles x h
  all_goals (
    pointwise [k0_pay1, k0_pay4, k0_pay5, k0_pay6, k0_pay7, k0_pay8, k0_pay9, k0_pay10, k0_pay11, k0_pay12,
      k0_pay13, k0_pay15, val_main_v32, val_main_v33, val_main_v34, val_main_v35, val_main_v36,
      val_main_v37, val_main_v38, val_main_v39, val_main_v40, val_main_v41, val_main_v42,
      val_main_v43, val_main_v44, val_main_v45, val_main_v46, val_main_v47, val_main_v48,
      val_main_v49, val_main_v50, val_main_v51, val_main_v52, val_main_v53, val_main_v54,
      val_main_v55, val_main_v56, val_main_v57, val_main_v58, val_main_v59, val_main_v60,
      val_main_v61, val_main_cst_3, val_main_v62, val_main_v63, val_main_v64, val_main_v65,
      val_main_v66]
    refine Rows.dot_congr (fun k => h_core m c t _ _ ?_ ?_) (fun k => ?_)
    · blk_simp [idx t] <;> (try dsimp only) <;> omega
    · rfl
    · blk_point [iblk, V, idx t])

theorem final12 (c : Dev nD) : (dats m 0 c).arrAt 12 (cfgs 0).N
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  exact point12 m c t y

theorem point13 (c : Dev nD) (t : Fin cfg0.N) (y) :
    out0_13 (F := Ideal) (iblk m c 0 t) (iblk m c 1 t) (iblk m c 2 t) (iblk m c 3 t) (iblk m c 4 t) (iblk m c 5 t) (iblk m c 6 t) (iblk m c 7 t) (iblk m c 8 t) y
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 13).blk t).view.emb y) := by
  unfold out0_13
  canon_tiles x h
  all_goals (
    pointwise [k0_pay1, k0_pay4, k0_pay5, k0_pay6, k0_pay7, k0_pay8, k0_pay9, k0_pay10, k0_pay11, k0_pay12,
      k0_pay13, k0_pay15, val_main_v32, val_main_v33, val_main_v34, val_main_v35, val_main_v36,
      val_main_v37, val_main_v38, val_main_v39, val_main_v40, val_main_v41, val_main_v42,
      val_main_v43, val_main_v44, val_main_v45, val_main_v46, val_main_v47, val_main_v48,
      val_main_v49, val_main_v50, val_main_v51, val_main_v52, val_main_v53, val_main_v54,
      val_main_v55, val_main_v56, val_main_v57, val_main_v58, val_main_v59, val_main_v60,
      val_main_v61, val_main_cst_3, val_main_v62, val_main_v63, val_main_v64, val_main_v65,
      val_main_v66, val_main_v67]
    refine Rows.dot_congr (fun k => h_core m c t _ _ ?_ ?_) (fun k => ?_)
    · blk_simp [idx t] <;> (try dsimp only) <;> omega
    · rfl
    · blk_point [iblk, V, idx t])

theorem final13 (c : Dev nD) : (dats m 0 c).arrAt 13 (cfgs 0).N
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t _ y => ?_
  blk_simp
  rw [after0_13]
  exact point13 m c t y

end Cert.InALatIdeal.Value
-- ==== Proof.InALatClaims.lean ====
module
public import proofs.«01_k».proof.Defs
public import proofs.«01_k».proof.Proof.InALatValue
public import proofs.«01_k».proof.Proof.Gen.InALat
public import proofs.«01_k».proof.Proof.Gen.InALat.Frame
public import proofs.«01_k».proof.Proof.Gen.InALatIdeal.Value
public import proofs.«01_k».proof.Proof.Gen.InALatReferenceIdeal.Run
public import Idealize.ShloMosaic.Adequacy

@[expose] public section

noncomputable section

open Idealize.ShloMosaic Idealize.SL.Sem

/-! The claims about the call that ends layer 2 and begins layer 3 on the latent rows. -/

namespace Cert.InALat.Claims

theorem frame : Cert.quiescent_InALat := fun m ρ _ => Cert.InALat.Gen.frame m ρ

theorem frame_ideal : Cert.quiescent_InALatIdeal := fun m ρ _ => Cert.InALatIdeal.Gen.frame m ρ

/-- The reference is a list of host operations: it writes no argument and owns no semaphore. -/
theorem frame_reference : Cert.quiescent_InALatReferenceIdeal := fun m g _ =>
  (θ_run Cert.InALatReferenceIdeal.defs _ _).mono
    (fun r h => ⟨fun c => (h c).2.2.2.2.2, sem_eq_zero_of_no_sems (by decide) r.2⟩)
    (Cert.InALatReferenceIdeal.Value.run (F := Ideal) m g)

set_option maxHeartbeats 2000000 in
/-- Each result array of the call is the reference's. -/
theorem algebraic : Cert.algebraic_InALatIdeal_InALatReferenceIdeal := by
  pair_intro
  · run_from Cert.InALatIdeal.Value.run_blocks m g
  · run_from Cert.InALatReferenceIdeal.Value.run m' g'
    · exact (Cert.InALatReferenceIdeal.Read.val_main_v8_eq ..).trans (Cert.InALatIdeal.Value.final9 m c).symm
    · obtain ⟨h0, h1, h2, h3, h4, h5, h6, h7, h8⟩ := hagree c
      refine (Cert.InALatReferenceIdeal.Read.val_main_v64_eq m' c).trans (Eq.trans ?_ (Cert.InALatIdeal.Value.final10 m c).symm)
      rw [h0, h1, h2, h3, h4, h5, h6, h7, h8]
    · obtain ⟨h0, h1, h2, h3, h4, h5, h6, h7, h8⟩ := hagree c
      refine (Cert.InALatReferenceIdeal.Read.val_main_v65_eq m' c).trans (Eq.trans ?_ (Cert.InALatIdeal.Value.final11 m c).symm)
      rw [h0, h1, h2, h3, h4, h5, h6, h7, h8]
    · exact (Cert.InALatReferenceIdeal.Read.val_main_v66_eq ..).trans (Cert.InALatIdeal.Value.final12 m c).symm
    · exact (Cert.InALatReferenceIdeal.Read.val_main_v67_eq ..).trans (Cert.InALatIdeal.Value.final13 m c).symm

end Cert.InALat.Claims

end
-- ==== Proof.FirstALatValue.lean ====
module
public import proofs.«01_k».proof.Proof.Gen.FirstALatIdeal.Frame
public import proofs.«01_k».proof.Proof.Gen.FirstALatReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that begins layer 0, on the latent rows, point by point. -/

namespace Cert.FirstALatIdeal.Value
open Cert.FirstALatIdeal Cert.FirstALatIdeal.Gen Cert.FirstALatReferenceIdeal.Read
variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![t.val / 2, 0, 0]
    ∧ win0_3.index t = ![0, 0] ∧ win0_4.index t = ![t.val % 2, 0] ∧ win0_5.index t = ![t.val % 2, 0]
    ∧ win0_6.index t = ![t.val, 0] ∧ win0_7.index t = ![t.val, 0] ∧ win0_8.index t = ![t.val, 0]
    ∧ win0_9.index t = ![t.val, 0] :=
  (by decide +kernel : ∀ t : Fin grid0.N, _)

/-- The modulated normalisation of the block of rows. -/
theorem h_core (c : Dev nD) (t : Fin cfg0.N) (i : S512x1024.Idx) (j : S4096x1024.Idx)
    (h0 : (j 0 : ℕ) = 512 * t.val + i 0) (h1 : (j 1 : ℕ) = i 1) :
    k0_pay5 (F := Ideal) (View.ld (iblk m c 0 t) r0_0) (View.ld (iblk m c 1 t) r0_1) (View.ld (iblk m c 2 t) r0_2) (View.ld (iblk m c 2 t) r0_3) i
    = val_main_v22 (F := Ideal) (m ((c : Thread nD τ).loc main_arg0)) (m ((c : Thread nD τ).loc main_arg1)) (m ((c : Thread nD τ).loc main_arg2)) j := by
  pointwise [k0_pay5, val_main_v0, val_main_v1, val_main_v2, val_main_v3, val_main_v4, val_main_v5, val_main_v6,
      val_main_cst, val_main_v7, val_main_v8, val_main_cst_0, val_main_v9, val_main_v10,
      val_main_cst_1, val_main_v11, val_main_v12, val_main_v13, val_main_v14, val_main_v15,
      val_main_v16, val_main_v17, val_main_v18, val_main_cst_2, val_main_v19, val_main_v20,
      val_main_v21, val_main_v22]
  refine Rows.norm_congr (fun k => ?_) ?_ ?_ ?_ ?_ <;> blk_point [iblk, V, idx t]

/-- The rows of the two rotation tables that a block of rows reads. -/
theorem table (c : Dev nD) (t : Fin cfg0.N) (r : Fin 512) (l : Fin 128) (r' : Fin 1024) (l' : Fin 128)
    (hr : (r' : ℕ) = 512 * (t.val % 2) + r) (hl : (l' : ℕ) = l) :
    iblk m c 4 t (ix2 r l) = (m ((c : Thread nD τ).loc main_arg4)) (ix2 r' l')
      ∧ iblk m c 5 t (ix2 r l) = (m ((c : Thread nD τ).loc main_arg5)) (ix2 r' l') := by
  constructor <;> blk_point [iblk, V, idx t]

/-- The weight's block is the whole weight. -/
theorem w_core (c : Dev nD) (t : Fin cfg0.N) (k : Fin 1024) (l l' : Fin 2560) (h : (l' : ℕ) = l) :
    iblk m c 3 t (ix2 k l) = (m ((c : Thread nD τ).loc main_arg3)) (ix2 k l') := by
  blk_point [iblk, V, idx t]

set_option maxHeartbeats 1000000 in
theorem point6 (c : Dev nD) (t : Fin cfg0.N) (y) :
    out0_6 (F := Ideal) (iblk m c 0 t) (iblk m c 1 t) (iblk m c 2 t) (iblk m c 3 t) (iblk m c 4 t) (iblk m c 5 t) y
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  unfold out0_6
  canon_tiles x h
  all_goals (
    pointwise [k0_pay1, k0_pay2, k0_pay3, k0_pay4, k0_pay6, k0_pay7, k0_pay8, k0_pay9, k0_pay10, k0_pay11, k0_pay12, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_cst_3, val_main_v53, val_main_v54, val_main_v55]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· * ·) (congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)) rfl
    · blk_simp [idx t] <;> (try dsimp only) <;> omega
    · rfl
    · blk_point [iblk, V, idx t]
    · exact Rows.tile4 (f := fun l => iblk m c 4 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile4 (f := fun l => iblk m c 5 t (ix2 (x 0) l)) x1_lt (table m c t _ _ _ _
        (by blk_simp [idx t] <;> (try dsimp only) <;> omega) (by blk_simp [idx t] <;> (try dsimp only) <;> omega)).2)

theorem final6 (c : Dev nD) : (dats m 0 c).arrAt 6 (cfgs 0).N
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point6 m c t y

set_option maxHeartbeats 1000000 in
theorem point7 (c : Dev nD) (t : Fin cfg0.N) (y) :
    out0_7 (F := Ideal) (iblk m c 0 t) (iblk m c 1 t) (iblk m c 2 t) (iblk m c 3 t) (iblk m c 4 t) (iblk m c 5 t) y
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  unfold out0_7
  canon_tiles x h
  all_goals (
    pointwise [k0_pay1, k0_pay2, k0_pay3, k0_pay4, k0_pay6, k0_pay7, k0_pay8, k0_pay9, k0_pay10, k0_pay11, k0_pay12, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_cst_3, val_main_v53, val_main_v54, val_main_v55, val_main_v56]
    have e0 : ((0 : Fin 4) ∈ [(2 : Fin 4)]) = False := by simp
    have e1 : ((1 : Fin 4) ∈ [(2 : Fin 4)]) = False := by simp
    have e2 : ((2 : Fin 4) ∈ [(2 : Fin 4)]) = True := by simp
    have e3 : ((3 : Fin 4) ∈ [(2 : Fin 4)]) = False := by simp
    refine congrArg₂ (· + ·) (congrArg₂ (· * ·) (Rows.dot_congr (fun k => h_core m c t _ _ ?_ ?_) (fun k => ?_)) ?_)
      (congrArg₂ (· * ·) (Rows.select_half _ (by omega)
        (fun hl => Rows.dot_congr (fun k => h_core m c t _ _ ?_ ?_) (fun k => ?_))
        (fun hl => Rows.dot_congr (fun k => h_core m c t _ _ ?_ ?_) (fun k => ?_))) ?_)
    · blk_simp [idx t] <;> (try dsimp only) <;> omega
    · rfl
    · blk_point [iblk, V, idx t]
    · exact Rows.tile2 (f := fun l => iblk m c 4 t (ix2 (x 0) l)) x1_lt (table m c t _ _ _ _
        (by blk_simp [idx t] <;> (try dsimp only) <;> omega) (by blk_simp [idx t] <;> (try dsimp only) <;> omega)).1
    · blk_simp [idx t, e0, ↓reduceIte]
      omega
    · rfl
    · refine w_core m c t _ _ _ ?_
      blk_simp [idx t, e1, e2, e3, ↓reduceIte, Fin.val_rev]
      dsimp only
      omega
    · blk_simp [idx t, e0, ↓reduceIte]
      omega
    · rfl
    · refine w_core m c t _ _ _ ?_
      blk_simp [idx t, e1, e2, e3, ↓reduceIte, Fin.val_rev]
      dsimp only
      omega
    · exact Rows.tile2 (f := fun l => iblk m c 5 t (ix2 (x 0) l)) x1_lt (table m c t _ _ _ _
        (by blk_simp [idx t] <;> (try dsimp only) <;> omega) (by blk_simp [idx t] <;> (try dsimp only) <;> omega)).2)

theorem final7 (c : Dev nD) : (dats m 0 c).arrAt 7 (cfgs 0).N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point7 m c t y

theorem point8 (c : Dev nD) (t : Fin cfg0.N) (y) :
    out0_8 (F := Ideal) (iblk m c 0 t) (iblk m c 1 t) (iblk m c 2 t) (iblk m c 3 t) (iblk m c 4 t) (iblk m c 5 t) y
    = val_main_v57 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  unfold out0_8
  canon_tiles x h
  all_goals (
    pointwise [k0_pay1, k0_pay2, k0_pay3, k0_pay4, k0_pay6, k0_pay7, k0_pay8, k0_pay9, k0_pay10, k0_pay11, k0_pay12, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_cst_3, val_main_v53, val_main_v54, val_main_v55, val_main_v56,
      val_main_v57]
    refine Rows.dot_congr (fun k => h_core m c t _ _ ?_ ?_) (fun k => ?_)
    · blk_simp [idx t] <;> (try dsimp only) <;> omega
    · rfl
    · blk_point [iblk, V, idx t])

theorem final8 (c : Dev nD) : (dats m 0 c).arrAt 8 (cfgs 0).N
    = val_main_v57 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  exact point8 m c t y

theorem point9 (c : Dev nD) (t : Fin cfg0.N) (y) :
    out0_9 (F := Ideal) (iblk m c 0 t) (iblk m c 1 t) (iblk m c 2 t) (iblk m c 3 t) (iblk m c 4 t) (iblk m c 5 t) y
    = val_main_v58 (F := Ideal) (m ((c : Thread nD τ).loc main_arg0)) (m ((c : Thread nD τ).loc main_arg1)) (m ((c : Thread nD τ).loc main_arg2)) (m ((c : Thread nD τ).loc main_arg3)) (((cfg0.win 9).blk t).view.emb y) := by
  unfold out0_9
  canon_tiles x h
  all_goals (
    pointwise [k0_pay1, k0_pay2, k0_pay3, k0_pay4, k0_pay6, k0_pay7, k0_pay8, k0_pay9, k0_pay10, k0_pay11, k0_pay12, val_main_v23, val_main_v24, val_main_v25, val_main_v26, val_main_v27,
      val_main_v28, val_main_v29, val_main_v30, val_main_v31, val_main_v32, val_main_v33,
      val_main_v34, val_main_v35, val_main_v36, val_main_v37, val_main_v38, val_main_v39,
      val_main_v40, val_main_v41, val_main_v42, val_main_v43, val_main_v44, val_main_v45,
      val_main_v46, val_main_v47, val_main_v48, val_main_v49, val_main_v50, val_main_v51,
      val_main_v52, val_main_cst_3, val_main_v53, val_main_v54, val_main_v55, val_main_v56,
      val_main_v57, val_main_v58]
    refine Rows.dot_congr (fun k => h_core m c t _ _ ?_ ?_) (fun k => ?_)
    · blk_simp [idx t] <;> (try dsimp only) <;> omega
    · rfl
    · blk_point [iblk, V, idx t])

theorem final9 (c : Dev nD) : (dats m 0 c).arrAt 9 (cfgs 0).N
    = val_main_v58 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  exact point9 m c t y

end Cert.FirstALatIdeal.Value
-- ==== Proof.FirstALatClaims.lean ====
module
public import proofs.«01_k».proof.Defs
public import proofs.«01_k».proof.Proof.FirstALatValue
public import proofs.«01_k».proof.Proof.Gen.FirstALat
public import proofs.«01_k».proof.Proof.Gen.FirstALat.Frame
public import proofs.«01_k».proof.Proof.Gen.FirstALatIdeal.Value
public import proofs.«01_k».proof.Proof.Gen.FirstALatReferenceIdeal.Run
public import Idealize.ShloMosaic.Adequacy

@[expose] public section

noncomputable section

open Idealize.ShloMosaic Idealize.SL.Sem

/-! The claims about the call that begins layer 0, on the latent rows. -/

namespace Cert.FirstALat.Claims

theorem frame : Cert.quiescent_FirstALat := fun m ρ _ => Cert.FirstALat.Gen.frame m ρ

theorem frame_ideal : Cert.quiescent_FirstALatIdeal := fun m ρ _ => Cert.FirstALatIdeal.Gen.frame m ρ

/-- The reference is a list of host operations: it writes no argument and owns no semaphore. -/
theorem frame_reference : Cert.quiescent_FirstALatReferenceIdeal := fun m g _ =>
  (θ_run Cert.FirstALatReferenceIdeal.defs _ _).mono
    (fun r h => ⟨fun c => (h c).2.2.2.2, sem_eq_zero_of_no_sems (by decide) r.2⟩)
    (Cert.FirstALatReferenceIdeal.Value.run (F := Ideal) m g)

set_option maxHeartbeats 2000000 in
/-- Each result array of the call is the reference's. -/
theorem algebraic : Cert.algebraic_FirstALatIdeal_FirstALatReferenceIdeal := by
  pair_intro
  · run_from Cert.FirstALatIdeal.Value.run_blocks m g
  · run_from Cert.FirstALatReferenceIdeal.Value.run m' g'
    · obtain ⟨h0, h1, h2, h3, h4, h5⟩ := hagree c
      refine (Cert.FirstALatReferenceIdeal.Read.val_main_v55_eq m' c).trans (Eq.trans ?_ (Cert.FirstALatIdeal.Value.final6 m c).symm)
      rw [h0, h1, h2, h3, h4, h5]
    · exact (Cert.FirstALatReferenceIdeal.Read.val_main_v56_eq ..).trans (Cert.FirstALatIdeal.Value.final7 m c).symm
    · exact (Cert.FirstALatReferenceIdeal.Read.val_main_v57_eq ..).trans (Cert.FirstALatIdeal.Value.final8 m c).symm
    · exact (Cert.FirstALatReferenceIdeal.Read.val_main_v58_eq ..).trans (Cert.FirstALatIdeal.Value.final9 m c).symm

end Cert.FirstALat.Claims

end
-- ==== Proof.FinalIdealRun.lean ====
module
public import proofs.«01_k».proof.Proof.Gen.FinalIdeal.Frame
public import proofs.«01_k».proof.Proof.Gen.FinalIdeal.Skeleton
public import Idealize.ShloMosaic.Lib.Pipeline.TableIdle
public import Idealize.ShloMosaic.Lib.Claim

@[expose] public section

set_option maxRecDepth 16384

noncomputable section

/-! The run of the last call (over the extended reals).

Its grid has sixteen points. The first eight work on the context rows and store into the first output. The last eight
work on the latent rows and store into the second. So each output window stands still for half of the points, and the
last block of the first output, stored at point 7, goes back to its array only at point 15. -/

namespace Cert.FinalIdeal.Run

open Cert.FinalIdeal Cert.FinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The body -/

abbrev rRows : Rect S512x1024 := Rect.unit (s := S512x1024) ![0, 0] S512x1024.size inb_S512x1024_S512x1024_0_0
abbrev rWeight : Rect S1024x1024 := Rect.unit (s := S1024x1024) ![0, 0] S1024x1024.size inb_S1024x1024_S1024x1024_0_0
abbrev rGate : Rect S1x1x3072 := Rect.unit (s := S1x1x3072) ![0, 0, 2048] S1x1x1024.size inb_S1x1x3072_S1x1x1024_0_0_2048
abbrev rScale : Rect S1x1024 := Rect.unit (s := S1x1024) ![0, 0] S1x1024.size inb_S1x1024_S1x1024_0_0

/-- The block of context rows that the body stores, from its input blocks. -/
def outC (g : Vec F S512x1024 .bf16) (w : Vec F S1024x1024 .bf16) (x : Vec F S512x1024 .f32) (a : Vec F S1x1x3072 .f32)
    (s : Vec F S1x1024 .f32) : Vec F S512x1024 .f32 :=
  View.canon [⟨rRows, k0_pay1 (View.ld g rRows) (View.ld w rWeight) (View.ld x rRows) (View.ld a rGate) (View.ld s rScale)⟩]

/-- The block of latent rows that the body stores, from its input blocks. -/
def outL (g : Vec F S512x1024 .bf16) (w : Vec F S1024x1024 .bf16) (x : Vec F S512x1024 .f32) (a : Vec F S1x1x3072 .f32)
    (s : Vec F S1x1024 .f32) : Vec F S512x1024 .f32 :=
  View.canon [⟨rRows, k0_pay2 (View.ld g rRows) (View.ld w rWeight) (View.ld x rRows) (View.ld a rGate) (View.ld s rScale)⟩]

/-- The one store fills the block. -/
theorem cover (p : Vec F S512x1024 .f32) (y : S512x1024.Idx) :
    ∃ pc ∈ ([⟨rRows, p⟩] : List (View.Piece (Elt F) S512x1024 .f32)), y ∈ pc.1.set :=
  View.cover_of_tiled [⟨rRows, p⟩] S512x1024.size (by rfl) y

set_option maxHeartbeats 1000000 in
/-- The body at a point that stores context rows. -/
theorem kernel_context (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x3072 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole)
    (h1 : k0_cond1 i = 1#1) (h2 : ¬ k0_cond2 i = 1#1) (x0 : Vec F S512x1024 .bf16) (x2 : Vec F S1024x1024 .bf16) (x3 : Vec F S512x1024 .f32) (x5 : Vec F S1x1x3072 .f32) (x6 : Vec F S1x1024 .f32)
    (K : PUnit → sProp (MT nD τ sig Unit (Elt F) ℕ (UR sig nD τ) ℕ)) :
    iprop(owns (c : Thread nD τ) arg1 fullShare x0 ∗ owns (c : Thread nD τ) arg3 fullShare x2 ∗ owns (c : Thread nD τ) arg4 fullShare x3 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg3 fullShare x2 ∗ owns (c : Thread nD τ) arg4 fullShare x3 ∗ owns (c : Thread nD τ) arg6 fullShare x5 ∗ owns (c : Thread nD τ) arg7 fullShare x6 ∗ owns (c : Thread nD τ) arg8 fullShare (outC x0 x2 x3 x5 x6)) -∗ K ⟨⟩))
      ⊢ wp frame (wpE (defs₀ (F := F)) Variants.none c none) E (cc0_final_outproj i arg1 harg1 arg2 harg2 arg3 harg3 arg4 harg4 arg5 harg5 arg6 harg6 arg7 harg7 arg8 harg8 arg9 harg9) K := by
  simp only [cc0_final_outproj_eq_skeleton]; unfold cc0_final_outproj_skel
  rw [dif_pos h1, dif_neg h2]
  unfold owns
  iintro ⟨⟨%f0, %hf0, H0⟩, ⟨%f2, %hf2, H2⟩, ⟨%f3, %hf3, H3⟩, ⟨%f5, %hf5, H5⟩, ⟨%f6, %hf6, H6⟩, ⟨%d7, %f7, -, H7⟩, Hk⟩
  subst hf0 hf2 hf3 hf5 hf6
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover _)).trans ?_
  rfl

set_option maxHeartbeats 1000000 in
/-- The body at a point that stores latent rows. -/
theorem kernel_latent (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x3072 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole)
    (h1 : ¬ k0_cond1 i = 1#1) (h2 : k0_cond2 i = 1#1) (x1 : Vec F S512x1024 .bf16) (x2 : Vec F S1024x1024 .bf16) (x4 : Vec F S512x1024 .f32) (x5 : Vec F S1x1x3072 .f32) (x6 : Vec F S1x1024 .f32)
    (K : PUnit → sProp (MT nD τ sig Unit (Elt F) ℕ (UR sig nD τ) ℕ)) :
    iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6 ∗ owns (c : Thread nD τ) arg9 fullShare (outL x1 x2 x4 x5 x6)) -∗ K ⟨⟩))
      ⊢ wp frame (wpE (defs₀ (F := F)) Variants.none c none) E (cc0_final_outproj i arg1 harg1 arg2 harg2 arg3 harg3 arg4 harg4 arg5 harg5 arg6 harg6 arg7 harg7 arg8 harg8 arg9 harg9) K := by
  simp only [cc0_final_outproj_eq_skeleton]; unfold cc0_final_outproj_skel
  rw [dif_neg h1, dif_pos h2]
  unfold owns
  iintro ⟨⟨%f1, %hf1, H1⟩, ⟨%f2, %hf2, H2⟩, ⟨%f4, %hf4, H4⟩, ⟨%f5, %hf5, H5⟩, ⟨%f6, %hf6, H6⟩, ⟨%d8, %f8, -, H8⟩, Hk⟩
  subst hf1 hf2 hf4 hf5 hf6
  sl_exec
  sl_step
  iapply Hk
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  refine (View.read_writes_eq_canon _ _ _ (cover _)).trans ?_
  rfl

/-! ## What each buffer holds after each point -/

/-- The last point, up to `t`, that stores context rows. -/
def sat (t : Fin cfg0.N) : Fin cfg0.N := ⟨min t.val 7, Nat.lt_of_le_of_lt (Nat.min_le_left _ _) t.isLt⟩

/-- The contents of every window's buffer after each point: an input's is its block, the first output's is the block
    last stored, the second output's matters from point 8 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outC (iblk m c 0 (sat t)) (iblk m c 2 (sat t)) (iblk m c 3 (sat t)) (iblk m c 5 (sat t)) (iblk m c 6 (sat t))
    | ⟨8, _⟩ => outL (iblk m c 1 t) (iblk m c 2 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outC (iblk m c 0 (sat t)) (iblk m c 2 (sat t)) (iblk m c 3 (sat t)) (iblk m c 5 (sat t)) (iblk m c 6 (sat t)) := by dsimp only [dats]
theorem after8 (c : Dev nD) (t : Fin cfg0.N) : (dats m 0 c).after 8 t
    = outL (iblk m c 1 t) (iblk m c 2 t) (iblk m c 4 t) (iblk m c 5 t) (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The schedule -/

theorem conds : ∀ t : Fin cfg0.N, (t.val < 8 → k0_cond1 (grid0.coords t) = 1#1 ∧ ¬ k0_cond2 (grid0.coords t) = 1#1)
    ∧ (8 ≤ t.val → ¬ k0_cond1 (grid0.coords t) = 1#1 ∧ k0_cond2 (grid0.coords t) = 1#1) :=
  (by decide +kernel : ∀ t : Fin grid0.N, _)

theorem idles : ∀ t : Fin cfg0.N, cfg0.idle 7 (grid0.coords t) = decide (8 ≤ t.val)
    ∧ cfg0.idle 8 (grid0.coords t) = decide (t.val < 8) :=
  (by decide +kernel : ∀ t : Fin grid0.N, idle0 7 (grid0.coords t) = decide (8 ≤ t.val) ∧ idle0 8 (grid0.coords t) = decide (t.val < 8))

/-- At the first eight points no block of latent rows goes back. -/
theorem flush8 (t : Fin cfg0.N) (h : t.val < 8) : (cfg0.win 8).flush t = false := by
  rw [Window.flush_eq_flushF]
  exact (by decide +kernel : ∀ t : Fin grid0.N, t.val < 8 → win0_8.flushF t = false) t h

/-- No block of context rows goes back from point 7 to point 14. -/
theorem flush7 (t : Fin cfg0.N) (h : 7 ≤ t.val) (h' : t.val < 15) : (cfg0.win 7).flush t = false := by
  rw [Window.flush_eq_flushF]
  exact (by decide +kernel : ∀ t : Fin grid0.N, 7 ≤ t.val → t.val < 15 → win0_7.flushF t = false) t h h'

/-- From point 8 on the first output's buffer still holds what point 7 stored. -/
theorem fresh7 : ∀ n, 8 ≤ n → n < 16 → cfg0.fresh 7 n = false
  | 0, h, _ => absurd h (by decide)
  | n + 1, h, h' => by
    rw [Cfg.fresh_succ cfg0 7 n (show n < cfg0.N from Nat.lt_of_lt_of_eq (by omega : n < 16) N_0.symm),
      flush7 ⟨n, _⟩ (by simp only; omega) (by simp only; omega)]
    rw [Bool.false_or]
    by_cases h8 : 8 ≤ n
    · rw [fresh7 n h8 (by omega), Bool.and_false]
    · rw [show cfg0.idle 7 (cfg0.grid.coords ⟨n, _⟩) = decide (8 ≤ n) from (idles ⟨n, _⟩).1, decide_eq_false h8, Bool.false_and]

theorem lt16 (t : Fin cfg0.N) : t.val < 16 := Nat.lt_of_lt_of_eq t.isLt N_0

theorem before7 (c : Dev nD) (t : Fin cfg0.N) (h : 8 ≤ t.val) (d) : (dats m 0 c).before 7 t d = (dats m 0 c).after 7 t := by
  have carry : ∀ (t : Fin cfg0.N) (_ : 8 ≤ t.val), (dats m 0 c).after 7 t = (dats m 0 c).after 7 ⟨t.val - 1, by omega⟩ := fun t h => by
    rw [after7, after7, show sat ⟨t.val - 1, by omega⟩ = sat t from Fin.ext (by simp only [sat]; omega)]
  rw [(dats m 0 c).before_out_traj 7 rfl (fun _ _ => rfl)
    (fun t _ hi _ => carry t (of_decide_eq_true ((idles t).1.symm.trans hi))) t.val t rfl d,
    fresh7 t.val h (lt16 t), if_neg Bool.false_ne_true]
  exact (carry t h).symm

/-! ## The body's obligation -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

theorem sound_context (c : Dev nD) (t : Fin cfg0.N) (h : t.val < 8) :
    bodyPre m c t ⊢ wp frame (wpE (defs₀ (F := F)) Variants.none c none) Set.univ (bodyAt0 t) (fun _ => bodyPost m c t) := by
  have hc := (conds t).1 h
  have h7 := leaves_live m c 7 t ((idles t).1.trans (decide_eq_false (by omega)))
  have h8 := (dats m 0 c).leavesExact_idle 8 t ((idles t).2.trans (decide_eq_true h)) (flush8 t h)
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, h7, after7, show sat t = t from Fin.ext (Nat.min_eq_left (by omega)), h8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_context c Set.univ (grid0.coords t) _ _ _ _ _ _ _ _ _ _ _ _ _ _ _ _ _ _ hc.1 hc.2 (iblk m c 0 t) (iblk m c 2 t) (iblk m c 3 t) (iblk m c 5 t) (iblk m c 6 t) _)
  isplitl [H0]; · iexact H0
  isplitl [H2]; · iexact H2
  isplitl [H3]; · iexact H3
  isplitl [H5]; · iexact H5
  isplitl [H6]; · iexact H6
  isplitl [H7]; · iexists _; iexact H7
  iintro ⟨H0, H2, H3, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem sound_latent (c : Dev nD) (t : Fin cfg0.N) (h : 8 ≤ t.val) :
    bodyPre m c t ⊢ wp frame (wpE (defs₀ (F := F)) Variants.none c none) Set.univ (bodyAt0 t) (fun _ => bodyPost m c t) := by
  have hc := (conds t).2 h
  have h7 : owns (c : Thread nD τ) (st0_7 t) fullShare ((dats m 0 c).after 7 t) ⊢ (dats m 0 c).leavesExact 7 t := by
    unfold Dat.leavesExact
    cases cfg0.idle 7 (cfg0.grid.coords t)
    · exact .rfl
    · cases (cfg0.win 7).flush t
      · iintro H; iexists (dats m 0 c).after 7 t; rw [before7 m c t h]; iexact H
      · exact .rfl
  have h8 := leaves_live m c 8 t ((idles t).2.trans (decide_eq_false (by omega)))
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, h8, after8]
  simp only [before7 m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_latent c Set.univ (grid0.coords t) _ _ _ _ _ _ _ _ _ _ _ _ _ _ _ _ _ _ hc.1 hc.2 (iblk m c 1 t) (iblk m c 2 t) (iblk m c 4 t) (iblk m c 5 t) (iblk m c 6 t) _)
  isplitl [H1]; · iexact H1
  isplitl [H2]; · iexact H2
  isplitl [H4]; · iexact H4
  isplitl [H5]; · iexact H5
  isplitl [H6]; · iexact H6
  isplitl [H8]; · iexists _; iexact H8
  iintro ⟨H1, H2, H4, H5, H6, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply h7; iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rcases Nat.lt_or_ge t.val 8 with h | h
  · exact triple_restated (sound_context m c t h) rfl .rfl fun _ => .rfl
  · exact triple_restated (sound_latent m c t h) rfl .rfl fun _ => .rfl

/-! ## The run -/

set_option backward.isDefEq.respectTransparency.types false in
set_option maxHeartbeats 800000 in
/-- The run ends with the arrays as the data above says and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The arguments end as they began, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

/-- The two result arrays after the run, and the arguments kept. -/
theorem results : θ_run defs (onTc (τ := τ) (main (F := F))) ⟨m, fun _ => 0, ρ⟩ fun r => ∀ c : Dev nD,
      r.2.mem ((c : Thread nD τ).loc main_v1_0) = (dats m 0 c).arrAt 7 cfg0.N
      ∧ r.2.mem ((c : Thread nD τ).loc main_v1_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h.1 c).1 7, (h.1 c).1 8, h.2 c⟩)
    (θ_run_and (run m ρ) (frame_of m ρ (dats m) (A_eq m) (run m ρ)))

end Cert.FinalIdeal.Run

end
-- ==== Proof.FinalValue.lean ====
module
public import proofs.«01_k».proof.Proof.FinalIdealRun
public import proofs.«01_k».proof.Proof.Gen.FinalReferenceIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call that ends layer 3 and normalises, point by point. -/

namespace Cert.FinalIdeal.Final
open Cert.FinalIdeal Cert.FinalIdeal.Gen Cert.FinalIdeal.Run Cert.FinalReferenceIdeal.Read
variable (m : (ℓ : Loc nD τ sig) → Buf (Elt Ideal) ℓ)

/-- The root-mean-square normalisation is a function of its row and its weight. -/
theorem norm_congr {n : Nat} {a b : EReal} {x y : Fin n → EReal} {p q w w' : EReal}
    (hx : ∀ k, x k = y k) (hp : p = q) (hw : w = w') :
    p * Ideal.rsqrt (Ideal.div (∑ k, x k * x k) a + b) * w = q * Ideal.rsqrt (Ideal.div (∑ k, y k * y k) a + b) * w' := by
  obtain rfl : x = y := funext hx
  rw [hp, hw]

/-- The block of each window at a point that stores context rows. -/
theorem idx_context : ∀ t : Fin cfg0.N, win0_0.index (sat t) = ![min t.val 7, 0] ∧ win0_2.index (sat t) = ![0, 0]
    ∧ win0_3.index (sat t) = ![min t.val 7, 0] ∧ win0_5.index (sat t) = ![4, 0, 0] ∧ win0_6.index (sat t) = ![0, 0]
    ∧ win0_7.index t = ![min t.val 7, 0] :=
  (by decide +kernel : ∀ t : Fin grid0.N, _)

/-- The block of each window at a point that stores latent rows. -/
theorem idx_latent : ∀ t : Fin cfg0.N, 8 ≤ t.val → win0_1.index t = ![t.val - 8, 0] ∧ win0_2.index t = ![0, 0]
    ∧ win0_4.index t = ![t.val - 8, 0] ∧ win0_5.index t = ![(t.val - 8) / 2, 0, 0] ∧ win0_6.index t = ![0, 0]
    ∧ win0_8.index t = ![t.val - 8, 0] :=
  (by decide +kernel : ∀ t : Fin grid0.N, 8 ≤ t.val → _)

theorem context_core (c : Dev nD) (t : Fin cfg0.N) (i : S512x1024.Idx) (j : S4096x1024.Idx)
    (h0 : (j 0 : ℕ) = 512 * min t.val 7 + i 0) (h1 : (j 1 : ℕ) = i 1) :
    k0_pay1 (F := Ideal) (View.ld (iblk m c 0 (sat t)) rRows) (View.ld (iblk m c 2 (sat t)) rWeight) (View.ld (iblk m c 3 (sat t)) rRows)
        (View.ld (iblk m c 5 (sat t)) rGate) (View.ld (iblk m c 6 (sat t)) rScale) i
    = val_main_v21 (F := Ideal) (m ((c : Thread nD τ).loc main_arg0)) (m ((c : Thread nD τ).loc main_arg2)) (m ((c : Thread nD τ).loc main_arg3)) (m ((c : Thread nD τ).loc main_arg5)) (m ((c : Thread nD τ).loc main_arg6)) j := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1]
  refine norm_congr (fun k => ?_) ?_ ?_ <;> blk_point [iblk, V, idx_context t]

theorem latent_core (c : Dev nD) (t : Fin cfg0.N) (ht : 8 ≤ t.val) (i : S512x1024.Idx) (j : S4096x1024.Idx)
    (h0 : (j 0 : ℕ) = 512 * (t.val - 8) + i 0) (h1 : (j 1 : ℕ) = i 1) :
    k0_pay2 (F := Ideal) (View.ld (iblk m c 1 t) rRows) (View.ld (iblk m c 2 t) rWeight) (View.ld (iblk m c 4 t) rRows)
        (View.ld (iblk m c 5 t) rGate) (View.ld (iblk m c 6 t) rScale) i
    = val_main_v43 (F := Ideal) (m ((c : Thread nD τ).loc main_arg1)) (m ((c : Thread nD τ).loc main_arg2)) (m ((c : Thread nD τ).loc main_arg4)) (m ((c : Thread nD τ).loc main_arg5)) (m ((c : Thread nD τ).loc main_arg6)) j := by
  pointwise [k0_pay2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst_2, val_main_cst_3, val_main_cst_4]
  refine norm_congr (fun k => ?_) ?_ ?_ <;> blk_point [iblk, V, idx_latent t ht]

theorem final7 (c : Dev nD) : (dats m 0 c).arrAt 7 (cfgs 0).N = val_main_v21 (F := Ideal) (m ((c : Thread nD τ).loc main_arg0)) (m ((c : Thread nD τ).loc main_arg2)) (m ((c : Thread nD τ).loc main_arg3)) (m ((c : Thread nD τ).loc main_arg5)) (m ((c : Thread nD τ).loc main_arg6)) := by
  refine (dats m 0 c).arrAt_eq_of_covers 7 _ (by decide +kernel) fun t _ y => ?_
  blk_simp
  rw [after7]
  unfold outC
  canon_tiles x h
  refine context_core m c t x _ ?_ ?_ <;> (blk_simp [idx_context t] <;> try omega)

theorem final8 (c : Dev nD) : (dats m 0 c).arrAt 8 (cfgs 0).N = val_main_v43 (F := Ideal) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht : 8 ≤ t.val := Nat.le_of_not_lt fun h => Bool.false_ne_true ((flush8 t h).symm.trans hf)
  blk_simp
  rw [after8]
  unfold outL
  canon_tiles x h
  refine latent_core m c t ht x _ ?_ ?_ <;> (blk_simp [idx_latent t ht] <;> try omega)

end Cert.FinalIdeal.Final

end
-- ==== Proof.FinalClaims.lean ====
module
public import proofs.«01_k».proof.Defs
public import proofs.«01_k».proof.Proof.FinalRun
public import proofs.«01_k».proof.Proof.FinalValue
public import proofs.«01_k».proof.Proof.Gen.Final
public import proofs.«01_k».proof.Proof.Gen.FinalIdeal
public import proofs.«01_k».proof.Proof.Gen.FinalReferenceIdeal.Run
public import Idealize.ShloMosaic.Adequacy

@[expose] public section

noncomputable section

open Idealize.ShloMosaic Idealize.SL.Sem

/-! The claims about the call that ends layer 3 and normalises. -/

namespace Cert.Final.Claims

theorem frame : Cert.quiescent_Final := fun m ρ _ => Cert.Final.Run.frame m ρ

theorem frame_ideal : Cert.quiescent_FinalIdeal := fun m ρ _ => Cert.FinalIdeal.Run.frame m ρ

/-- The reference is a list of host operations: it writes no argument and owns no semaphore. -/
theorem frame_reference : Cert.quiescent_FinalReferenceIdeal := fun m g _ =>
  (θ_run Cert.FinalReferenceIdeal.defs _ _).mono
    (fun r h => ⟨fun c => (h c).2.2, sem_eq_zero_of_no_sems (by decide) r.2⟩)
    (Cert.FinalReferenceIdeal.Value.run (F := Ideal) m g)

set_option maxHeartbeats 2000000 in
/-- Each result array of the call is the reference's. -/
theorem algebraic : Cert.algebraic_FinalIdeal_FinalReferenceIdeal := by
  pair_intro
  · run_from Cert.FinalIdeal.Run.results m g
  · run_from Cert.FinalReferenceIdeal.Value.run m' g'
    · exact (Cert.FinalReferenceIdeal.Read.val_main_v21_eq ..).trans (Cert.FinalIdeal.Final.final7 m c).symm
    · exact (Cert.FinalReferenceIdeal.Read.val_main_v43_eq ..).trans (Cert.FinalIdeal.Final.final8 m c).symm

end Cert.Final.Claims

end
-- ==== Proof.KernelHeads.lean ====
module
public import proofs.«01_k».proof.Proof.Gen.KernelIdeal.Value
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The differential attention's body head by head. The heads alternate between the two halves of the scratch buffers;
what a head reads back from them is what that head stored. So every head is one function of its own blocks. -/

namespace Cert.KernelIdeal.Value
open Cert.KernelIdeal Cert.KernelIdeal.Gen Cert.KernelIdeal.Gen.kernelRun0_A

/-- The left operand of a head's scores: rows 0 to 255 are the first component's queries, the others the second's. -/
def lhs (q : Vec Ideal S256x128 .bf16) : Vec Ideal S1x512x128 .bf16 := fun i =>
  if h : (i 1 : ℕ) < 256 then k0_pay4 q (ix3 (i 0) ⟨i 1, h⟩ (i 2))
  else k0_pay6 (k0_pay5 q) (ix3 (i 0) ⟨i 1 - 256, by have := (i 1).isLt; simp at this; omega⟩ (i 2))

/-- The first component's scores. -/
def upper (s : Vec Ideal S1x512x256 .f32) : Vec Ideal S1x256x256 .f32 := fun i =>
  s (ix3 (i 0) ⟨i 1, by have := (i 1).isLt; simp at this; omega⟩ (i 2))

/-- The second component's scores. -/
def lower (s : Vec Ideal S1x512x256 .f32) : Vec Ideal S1x256x256 .f32 := fun i =>
  s (ix3 (i 0) ⟨256 + i 1, by have := (i 1).isLt; simp at this; omega⟩ (i 2))

variable {κ : Kind} {sp : Space}

/-- The two stores of a head's left operand, read back together. -/
theorem lhs_read (v : View sig κ sp S2x512x128 .bf16) (b : ℕ) (i1 i0 i2) (q : Vec Ideal S256x128 .bf16)
    (L : List (View.Piece (Elt Ideal) S2x512x128 .bf16)) :
    v.readCov (⟨Rect.unit (s := S2x512x128) ![b, 256, 0] S1x256x128.size i1, k0_pay6 (k0_pay5 q)⟩
      :: ⟨Rect.unit (s := S2x512x128) ![b, 0, 0] S1x256x128.size i0, k0_pay4 q⟩ :: L)
      (Rect.unit (s := S2x512x128) ![b, 0, 0] S1x512x128.size i2).toLoadRect = lhs q := by
  rw [View.readCov_eq_canon']
  funext j
  have hj1 : (j 1 : ℕ) < 512 := (j 1).isLt
  by_cases h : (j 1 : ℕ) < 256
  · have e : (Rect.unit (s := S2x512x128) ![b, 0, 0] S1x512x128.size i2).toLoadRect.idx j
        = (Rect.unit (s := S2x512x128) ![b, 0, 0] S1x256x128.size i0).emb (ix3 (j 0) ⟨j 1, h⟩ (j 2)) := by
      funext a; apply Fin.ext; fin_cases a <;> simp
    rw [View.canon_cons_of_not_mem, e, View.canon_cons_emb]
    · simp only [lhs, dif_pos h]
    · intro hm
      rw [Rect.mem_set_unit] at hm
      have := (hm 1).1
      simp at this
      omega
  · have e : (Rect.unit (s := S2x512x128) ![b, 0, 0] S1x512x128.size i2).toLoadRect.idx j
        = (Rect.unit (s := S2x512x128) ![b, 256, 0] S1x256x128.size i1).emb (ix3 (j 0) ⟨j 1 - 256, by omega⟩ (j 2)) := by
      funext a; apply Fin.ext; fin_cases a <;> simp
      omega
    rw [e, View.canon_cons_emb]
    simp only [lhs, dif_neg h]

/-- A head's scores, of which the upper half is read back. -/
theorem upper_read (v : View sig κ sp S2x512x256 .f32) (b : ℕ) (i0 i1) (s : Vec Ideal S1x512x256 .f32)
    (L : List (View.Piece (Elt Ideal) S2x512x256 .f32)) :
    v.readCov (⟨Rect.unit (s := S2x512x256) ![b, 0, 0] S1x512x256.size i0, s⟩ :: L)
      (Rect.unit (s := S2x512x256) ![b, 0, 0] S1x256x256.size i1).toLoadRect = upper s := by
  rw [View.readCov_eq_canon']
  funext j
  have hj1 : (j 1 : ℕ) < 256 := (j 1).isLt
  have e : (Rect.unit (s := S2x512x256) ![b, 0, 0] S1x256x256.size i1).toLoadRect.idx j
      = (Rect.unit (s := S2x512x256) ![b, 0, 0] S1x512x256.size i0).emb (ix3 (j 0) ⟨j 1, by omega⟩ (j 2)) := by
    funext a; apply Fin.ext; fin_cases a <;> simp
  rw [e, View.canon_cons_emb]
  rfl

/-- A head's scores, of which the lower half is read back. -/
theorem lower_read (v : View sig κ sp S2x512x256 .f32) (b : ℕ) (i0 i1) (s : Vec Ideal S1x512x256 .f32)
    (L : List (View.Piece (Elt Ideal) S2x512x256 .f32)) :
    v.readCov (⟨Rect.unit (s := S2x512x256) ![b, 0, 0] S1x512x256.size i0, s⟩ :: L)
      (Rect.unit (s := S2x512x256) ![b, 256, 0] S1x256x256.size i1).toLoadRect = lower s := by
  rw [View.readCov_eq_canon']
  funext j
  have hj1 : (j 1 : ℕ) < 256 := (j 1).isLt
  have e : (Rect.unit (s := S2x512x256) ![b, 256, 0] S1x256x256.size i1).toLoadRect.idx j
      = (Rect.unit (s := S2x512x256) ![b, 0, 0] S1x512x256.size i0).emb (ix3 (j 0) ⟨256 + j 1, by omega⟩ (j 2)) := by
    funext a; apply Fin.ext; fin_cases a <;> simp
  rw [e, View.canon_cons_emb]
  rfl

/-- A load of an input buffer reads the block it holds. -/
theorem load_block {s : Shape} {e : EltTy} (m : Memref sig .tc .vmem s e) (h : m.IsWhole) (X : Vec Ideal s e) (r : Rect s) :
    View.readAt (Elt Ideal) m.view r.toLoadRect (h.unread X) = View.ld X r :=
  by
  rw [View.readAt_eq_ld, Memref.IsWhole.read_unread h X]

/-- A head's scores: both components' queries against that head's keys. -/
def scores (q : Vec Ideal S256x128 .bf16) (k : Vec Ideal S1x128x256 .f32) : Vec Ideal S1x512x256 .f32 := k0_pay7 k (lhs q)

/-- A head's unnormalised weights: the first component's less the second's at the first's scale. -/
def weights (lam : FVec Ideal S1x1 .f32) (q : Vec Ideal S256x128 .bf16) (k : Vec Ideal S1x128x256 .f32) : Vec Ideal S1x256x256 .bf16 :=
  k0_pay15 lam (upper (scores q k)) (lower (scores q k))

/-- A head's rows of the result. -/
def head (lam : FVec Ideal S1x1 .f32) (g : Vec Ideal S1x128 .f32) (q : Vec Ideal S256x128 .bf16) (k : Vec Ideal S1x128x256 .f32)
    (v : Vec Ideal S256x128 .f32) (z : Vec Ideal S256x128 .bf16) : Vec Ideal S256x128 .bf16 :=
  k0_pay18 (k0_pay16 (upper (scores q k))) (k0_pay17 v) (weights lam q k) g z

variable (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x128 .f32) (harg5 : arg5.IsWhole) (arg6 : Memref sig .tc .vmem S256x1024 .bf16) (harg6 : arg6.IsWhole) (arg7 : Memref sig .tc .vmem S1x1024x256 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S2x512x128 .bf16) (harg11 : arg11.IsWhole) (arg12 : Memref sig .tc .vmem S2x512x256 .f32) (harg12 : arg12.IsWhole) (arg13 : Memref sig .tc .vmem S2x256x256 .bf16) (harg13 : arg13.IsWhole)
    (x0 : Vec Ideal S1x64 .f32) (x1 : Vec Ideal S1x64 .f32) (x2 : Vec Ideal S1x64 .f32) (x3 : Vec Ideal S1x64 .f32) (x4 : Vec Ideal S1x128 .f32) (x5 : Vec Ideal S256x1024 .bf16) (x6 : Vec Ideal S1x1024x256 .f32) (x7 : Vec Ideal S256x1024 .f32) (x8 : Vec Ideal S256x1024 .bf16)

/-- The difference of the two exponentials, with the layer's offset. -/
def lam : FVec Ideal S1x1 .f32 :=
  k0_pay2 (View.ld x0 (Rect.unit (s := S1x64) ![0, 0] S1x64.size inb_S1x64_S1x64_0_0)) (View.ld x1 (Rect.unit (s := S1x64) ![0, 0] S1x64.size inb_S1x64_S1x64_0_0)) (View.ld x2 (Rect.unit (s := S1x64) ![0, 0] S1x64.size inb_S1x64_S1x64_0_0)) (View.ld x3 (Rect.unit (s := S1x64) ![0, 0] S1x64.size inb_S1x64_S1x64_0_0))

theorem lam_eq : (sl.r c arg1 harg1 arg2 harg2 arg3 harg3 arg4 harg4 x0 x1 x2 x3) = lam x0 x1 x2 x3 := by
  unfold sl.r
  simp only [load_block]
  rfl

theorem lhs0 : sl.v40 c arg6 harg6 arg11 x5 = lhs (View.ld x5 (Rect.unit (s := S256x1024) ![0, 0] S256x128.size inb_S256x1024_S256x128_0_0)) := by
  unfold sl.v40 sl.HS0_2 sl.r_1
  simp only [load_block]
  exact lhs_read _ _ _ _ _ _ _

theorem upper0 : sl.v70 c arg6 harg6 arg7 harg7 arg11 arg12 x5 x6 = upper (scores (View.ld x5 (Rect.unit (s := S256x1024) ![0, 0] S256x128.size inb_S256x1024_S256x128_0_0)) (View.ld x6 (Rect.unit (s := S1x1024x256) ![0, 0, 0] S1x128x256.size inb_S1x1024x256_S1x128x256_0_0_0))) := by
  unfold sl.v70 sl.HS1_2
  rw [View.readCov_skip _ _ _ _ _ (by decide)]
  rw [upper_read]
  rw [lhs0]
  simp only [load_block]
  rfl

theorem lower0 : sl.v79 c arg6 harg6 arg7 harg7 arg11 arg12 x5 x6 = lower (scores (View.ld x5 (Rect.unit (s := S256x1024) ![0, 0] S256x128.size inb_S256x1024_S256x128_0_0)) (View.ld x6 (Rect.unit (s := S1x1024x256) ![0, 0, 0] S1x128x256.size inb_S1x1024x256_S1x128x256_0_0_0))) := by
  unfold sl.v79 sl.HS1_2
  rw [View.readCov_skip _ _ _ _ _ (by decide)]
  rw [lower_read]
  rw [lhs0]
  simp only [load_block]
  rfl

theorem weights0 : sl.v102 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 0] S256x128.size inb_S256x1024_S256x128_0_0)) (View.ld x6 (Rect.unit (s := S1x1024x256) ![0, 0, 0] S1x128x256.size inb_S1x1024x256_S1x128x256_0_0_0)) := by
  unfold sl.v102 sl.HS2_1
  rw [View.readCov_cons_toLoadRect]
  rw [upper0, lower0, lam_eq]
  rfl

theorem lhs1 : sl.v64 c arg6 harg6 arg11 x5 = lhs (View.ld x5 (Rect.unit (s := S256x1024) ![0, 128] S256x128.size inb_S256x1024_S256x128_0_128)) := by
  unfold sl.v64 sl.HS0_4
  simp only [load_block]
  exact lhs_read _ _ _ _ _ _ _

theorem upper1 : sl.v160 c arg6 harg6 arg7 harg7 arg11 arg12 x5 x6 = upper (scores (View.ld x5 (Rect.unit (s := S256x1024) ![0, 128] S256x128.size inb_S256x1024_S256x128_0_128)) (View.ld x6 (Rect.unit (s := S1x1024x256) ![0, 128, 0] S1x128x256.size inb_S1x1024x256_S1x128x256_0_128_0))) := by
  unfold sl.v160 sl.HS1_3
  rw [View.readCov_skip _ _ _ _ _ (by decide)]
  unfold sl.HS1_2
  rw [upper_read]
  unfold sl.r_2 sl.r_3
  rw [lhs1]
  simp only [load_block]
  rfl

theorem lower1 : sl.v169 c arg6 harg6 arg7 harg7 arg11 arg12 x5 x6 = lower (scores (View.ld x5 (Rect.unit (s := S256x1024) ![0, 128] S256x128.size inb_S256x1024_S256x128_0_128)) (View.ld x6 (Rect.unit (s := S1x1024x256) ![0, 128, 0] S1x128x256.size inb_S1x1024x256_S1x128x256_0_128_0))) := by
  unfold sl.v169 sl.HS1_3
  rw [View.readCov_skip _ _ _ _ _ (by decide)]
  unfold sl.HS1_2
  rw [lower_read]
  unfold sl.r_2 sl.r_3
  rw [lhs1]
  simp only [load_block]
  rfl

theorem weights1 : sl.v192 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 128] S256x128.size inb_S256x1024_S256x128_0_128)) (View.ld x6 (Rect.unit (s := S1x1024x256) ![0, 128, 0] S1x128x256.size inb_S1x1024x256_S1x128x256_0_128_0)) := by
  unfold sl.v192 sl.HS2_2
  rw [View.readCov_cons_toLoadRect]
  unfold sl.r_8 sl.r_9 sl.r_10 sl.r_11
  simp only [upper1, lower1, lam_eq]
  rfl

theorem lhs2 : sl.v154 c arg6 harg6 arg11 x5 = lhs (View.ld x5 (Rect.unit (s := S256x1024) ![0, 256] S256x128.size inb_S256x1024_S256x128_0_256)) := by
  unfold sl.v154 sl.HS0_6 sl.r_6 sl.r_7
  simp only [load_block]
  exact lhs_read _ _ _ _ _ _ _

theorem upper2 : sl.v250 c arg6 harg6 arg7 harg7 arg11 arg12 x5 x6 = upper (scores (View.ld x5 (Rect.unit (s := S256x1024) ![0, 256] S256x128.size inb_S256x1024_S256x128_0_256)) (View.ld x6 (Rect.unit (s := S1x1024x256) ![0, 256, 0] S1x128x256.size inb_S1x1024x256_S1x128x256_0_256_0))) := by
  unfold sl.v250 sl.HS1_4
  rw [View.readCov_skip _ _ _ _ _ (by decide)]
  unfold sl.HS1_3
  rw [upper_read]
  rw [lhs2]
  simp only [load_block]
  rfl

theorem lower2 : sl.v259 c arg6 harg6 arg7 harg7 arg11 arg12 x5 x6 = lower (scores (View.ld x5 (Rect.unit (s := S256x1024) ![0, 256] S256x128.size inb_S256x1024_S256x128_0_256)) (View.ld x6 (Rect.unit (s := S1x1024x256) ![0, 256, 0] S1x128x256.size inb_S1x1024x256_S1x128x256_0_256_0))) := by
  unfold sl.v259 sl.HS1_4
  rw [View.readCov_skip _ _ _ _ _ (by decide)]
  unfold sl.HS1_3
  rw [lower_read]
  rw [lhs2]
  simp only [load_block]
  rfl

theorem weights2 : sl.v282 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 256] S256x128.size inb_S256x1024_S256x128_0_256)) (View.ld x6 (Rect.unit (s := S1x1024x256) ![0, 256, 0] S1x128x256.size inb_S1x1024x256_S1x128x256_0_256_0)) := by
  unfold sl.v282 sl.HS2_3
  rw [View.readCov_cons_toLoadRect]
  rw [upper2, lower2, lam_eq]
  rfl

theorem lhs3 : sl.v244 c arg6 harg6 arg11 x5 = lhs (View.ld x5 (Rect.unit (s := S256x1024) ![0, 384] S256x128.size inb_S256x1024_S256x128_0_384)) := by
  unfold sl.v244 sl.HS0_8
  simp only [load_block]
  exact lhs_read _ _ _ _ _ _ _

theorem upper3 : sl.v340 c arg6 harg6 arg7 harg7 arg11 arg12 x5 x6 = upper (scores (View.ld x5 (Rect.unit (s := S256x1024) ![0, 384] S256x128.size inb_S256x1024_S256x128_0_384)) (View.ld x6 (Rect.unit (s := S1x1024x256) ![0, 384, 0] S1x128x256.size inb_S1x1024x256_S1x128x256_0_384_0))) := by
  unfold sl.v340 sl.HS1_5
  rw [View.readCov_skip _ _ _ _ _ (by decide)]
  unfold sl.HS1_4
  rw [upper_read]
  unfold sl.r_14
  rw [lhs3]
  simp only [load_block]
  rfl

theorem lower3 : sl.v349 c arg6 harg6 arg7 harg7 arg11 arg12 x5 x6 = lower (scores (View.ld x5 (Rect.unit (s := S256x1024) ![0, 384] S256x128.size inb_S256x1024_S256x128_0_384)) (View.ld x6 (Rect.unit (s := S1x1024x256) ![0, 384, 0] S1x128x256.size inb_S1x1024x256_S1x128x256_0_384_0))) := by
  unfold sl.v349 sl.HS1_5
  rw [View.readCov_skip _ _ _ _ _ (by decide)]
  unfold sl.HS1_4
  rw [lower_read]
  unfold sl.r_14
  rw [lhs3]
  simp only [load_block]
  rfl

theorem weights3 : sl.v372 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 384] S256x128.size inb_S256x1024_S256x128_0_384)) (View.ld x6 (Rect.unit (s := S1x1024x256) ![0, 384, 0] S1x128x256.size inb_S1x1024x256_S1x128x256_0_384_0)) := by
  unfold sl.v372 sl.HS2_4
  rw [View.readCov_cons_toLoadRect]
  unfold sl.r_20 sl.r_21 sl.r_22 sl.r_23
  simp only [upper3, lower3, lam_eq]
  rfl

theorem lhs4 : sl.v334 c arg6 harg6 arg11 x5 = lhs (View.ld x5 (Rect.unit (s := S256x1024) ![0, 512] S256x128.size inb_S256x1024_S256x128_0_512)) := by
  unfold sl.v334 sl.HS0_10 sl.r_18 sl.r_19
  simp only [load_block]
  exact lhs_read _ _ _ _ _ _ _

theorem upper4 : sl.v430 c arg6 harg6 arg7 harg7 arg11 arg12 x5 x6 = upper (scores (View.ld x5 (Rect.unit (s := S256x1024) ![0, 512] S256x128.size inb_S256x1024_S256x128_0_512)) (View.ld x6 (Rect.unit (s := S1x1024x256) ![0, 512, 0] S1x128x256.size inb_S1x1024x256_S1x128x256_0_512_0))) := by
  unfold sl.v430 sl.HS1_6
  rw [View.readCov_skip _ _ _ _ _ (by decide)]
  unfold sl.HS1_5
  rw [upper_read]
  rw [lhs4]
  simp only [load_block]
  rfl

theorem lower4 : sl.v439 c arg6 harg6 arg7 harg7 arg11 arg12 x5 x6 = lower (scores (View.ld x5 (Rect.unit (s := S256x1024) ![0, 512] S256x128.size inb_S256x1024_S256x128_0_512)) (View.ld x6 (Rect.unit (s := S1x1024x256) ![0, 512, 0] S1x128x256.size inb_S1x1024x256_S1x128x256_0_512_0))) := by
  unfold sl.v439 sl.HS1_6
  rw [View.readCov_skip _ _ _ _ _ (by decide)]
  unfold sl.HS1_5
  rw [lower_read]
  rw [lhs4]
  simp only [load_block]
  rfl

theorem weights4 : sl.v462 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 512] S256x128.size inb_S256x1024_S256x128_0_512)) (View.ld x6 (Rect.unit (s := S1x1024x256) ![0, 512, 0] S1x128x256.size inb_S1x1024x256_S1x128x256_0_512_0)) := by
  unfold sl.v462 sl.HS2_5
  rw [View.readCov_cons_toLoadRect]
  rw [upper4, lower4, lam_eq]
  rfl

theorem lhs5 : sl.v424 c arg6 harg6 arg11 x5 = lhs (View.ld x5 (Rect.unit (s := S256x1024) ![0, 640] S256x128.size inb_S256x1024_S256x128_0_640)) := by
  unfold sl.v424 sl.HS0_12
  simp only [load_block]
  exact lhs_read _ _ _ _ _ _ _

theorem upper5 : sl.v520 c arg6 harg6 arg7 harg7 arg11 arg12 x5 x6 = upper (scores (View.ld x5 (Rect.unit (s := S256x1024) ![0, 640] S256x128.size inb_S256x1024_S256x128_0_640)) (View.ld x6 (Rect.unit (s := S1x1024x256) ![0, 640, 0] S1x128x256.size inb_S1x1024x256_S1x128x256_0_640_0))) := by
  unfold sl.v520 sl.HS1_7
  rw [View.readCov_skip _ _ _ _ _ (by decide)]
  unfold sl.HS1_6
  rw [upper_read]
  unfold sl.r_27
  rw [lhs5]
  simp only [load_block]
  rfl

theorem lower5 : sl.v529 c arg6 harg6 arg7 harg7 arg11 arg12 x5 x6 = lower (scores (View.ld x5 (Rect.unit (s := S256x1024) ![0, 640] S256x128.size inb_S256x1024_S256x128_0_640)) (View.ld x6 (Rect.unit (s := S1x1024x256) ![0, 640, 0] S1x128x256.size inb_S1x1024x256_S1x128x256_0_640_0))) := by
  unfold sl.v529 sl.HS1_7
  rw [View.readCov_skip _ _ _ _ _ (by decide)]
  unfold sl.HS1_6
  rw [lower_read]
  unfold sl.r_27
  rw [lhs5]
  simp only [load_block]
  rfl

theorem weights5 : sl.v552 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 640] S256x128.size inb_S256x1024_S256x128_0_640)) (View.ld x6 (Rect.unit (s := S1x1024x256) ![0, 640, 0] S1x128x256.size inb_S1x1024x256_S1x128x256_0_640_0)) := by
  unfold sl.v552 sl.HS2_6
  rw [View.readCov_cons_toLoadRect]
  unfold sl.r_30 sl.r_32 sl.r_33
  simp only [upper5, lower5, lam_eq]
  rfl

theorem lhs6 : sl.v514 c arg6 harg6 arg11 x5 = lhs (View.ld x5 (Rect.unit (s := S256x1024) ![0, 768] S256x128.size inb_S256x1024_S256x128_0_768)) := by
  unfold sl.v514 sl.HS0_14 sl.r_29
  simp only [load_block]
  exact lhs_read _ _ _ _ _ _ _

theorem upper6 : sl.v610 c arg6 harg6 arg7 harg7 arg11 arg12 x5 x6 = upper (scores (View.ld x5 (Rect.unit (s := S256x1024) ![0, 768] S256x128.size inb_S256x1024_S256x128_0_768)) (View.ld x6 (Rect.unit (s := S1x1024x256) ![0, 768, 0] S1x128x256.size inb_S1x1024x256_S1x128x256_0_768_0))) := by
  unfold sl.v610 sl.HS1_8
  rw [View.readCov_skip _ _ _ _ _ (by decide)]
  unfold sl.HS1_7
  rw [upper_read]
  rw [lhs6]
  simp only [load_block]
  rfl

theorem lower6 : sl.v619 c arg6 harg6 arg7 harg7 arg11 arg12 x5 x6 = lower (scores (View.ld x5 (Rect.unit (s := S256x1024) ![0, 768] S256x128.size inb_S256x1024_S256x128_0_768)) (View.ld x6 (Rect.unit (s := S1x1024x256) ![0, 768, 0] S1x128x256.size inb_S1x1024x256_S1x128x256_0_768_0))) := by
  unfold sl.v619 sl.HS1_8
  rw [View.readCov_skip _ _ _ _ _ (by decide)]
  unfold sl.HS1_7
  rw [lower_read]
  rw [lhs6]
  simp only [load_block]
  rfl

theorem weights6 : sl.v642 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 768] S256x128.size inb_S256x1024_S256x128_0_768)) (View.ld x6 (Rect.unit (s := S1x1024x256) ![0, 768, 0] S1x128x256.size inb_S1x1024x256_S1x128x256_0_768_0)) := by
  unfold sl.v642 sl.HS2_7
  rw [View.readCov_cons_toLoadRect]
  rw [upper6, lower6, lam_eq]
  rfl

theorem lhs7 : sl.v604 c arg6 harg6 arg11 x5 = lhs (View.ld x5 (Rect.unit (s := S256x1024) ![0, 896] S256x128.size inb_S256x1024_S256x128_0_896)) := by
  unfold sl.v604 sl.HS0_16
  simp only [load_block]
  exact lhs_read _ _ _ _ _ _ _

theorem upper7 : sl.v676 c arg6 harg6 arg7 harg7 arg11 arg12 x5 x6 = upper (scores (View.ld x5 (Rect.unit (s := S256x1024) ![0, 896] S256x128.size inb_S256x1024_S256x128_0_896)) (View.ld x6 (Rect.unit (s := S1x1024x256) ![0, 896, 0] S1x128x256.size inb_S1x1024x256_S1x128x256_0_896_0))) := by
  unfold sl.v676 sl.HS1_8
  rw [upper_read]
  rw [lhs7]
  simp only [load_block]
  rfl

theorem lower7 : sl.v685 c arg6 harg6 arg7 harg7 arg11 arg12 x5 x6 = lower (scores (View.ld x5 (Rect.unit (s := S256x1024) ![0, 896] S256x128.size inb_S256x1024_S256x128_0_896)) (View.ld x6 (Rect.unit (s := S1x1024x256) ![0, 896, 0] S1x128x256.size inb_S1x1024x256_S1x128x256_0_896_0))) := by
  unfold sl.v685 sl.HS1_8
  rw [lower_read]
  rw [lhs7]
  simp only [load_block]
  rfl

theorem weights7 : sl.v708 c arg1 harg1 arg2 harg2 arg3 harg3 arg4 harg4 arg6 harg6 arg7 harg7 arg11 arg12 arg13 x0 x1 x2 x3 x5 x6 = weights (lam x0 x1 x2 x3) (View.ld x5 (Rect.unit (s := S256x1024) ![0, 896] S256x128.size inb_S256x1024_S256x128_0_896)) (View.ld x6 (Rect.unit (s := S1x1024x256) ![0, 896, 0] S1x128x256.size inb_S1x1024x256_S1x128x256_0_896_0)) := by
  unfold sl.v708 sl.HS2_8
  rw [View.readCov_cons_toLoadRect]
  unfold sl.r_40 sl.r_41 sl.r_42 sl.r_43
  simp only [upper7, lower7, lam_eq]
  rfl

theorem head0 : k0_pay18 (sl.r_4 c arg6 harg6 arg7 harg7 arg11 arg12 x5 x6) (sl.r_5 c arg8 harg8 x7) (sl.v102 c arg1 harg1 arg2 harg2 arg3 harg3 arg4 harg4 arg6 harg6 arg7 harg7 arg11 arg12 arg13 x0 x1 x2 x3 x5 x6) (View.readAt (Elt Ideal) arg5.view (Rect.unit (s := S1x128) ![0, 0] S1x128.size inb_S1x128_S1x128_0_0).toLoadRect (harg5.unread x4)) (View.readAt (Elt Ideal) arg9.view (Rect.unit (s := S256x1024) ![0, 0] S256x128.size inb_S256x1024_S256x128_0_0).toLoadRect (harg9.unread x8))
    = head (lam x0 x1 x2 x3) (View.ld x4 (Rect.unit (s := S1x128) ![0, 0] S1x128.size inb_S1x128_S1x128_0_0)) (View.ld x5 (Rect.unit (s := S256x1024) ![0, 0] S256x128.size inb_S256x1024_S256x128_0_0)) (View.ld x6 (Rect.unit (s := S1x1024x256) ![0, 0, 0] S1x128x256.size inb_S1x1024x256_S1x128x256_0_0_0)) (View.ld x7 (Rect.unit (s := S256x1024) ![0, 0] S256x128.size inb_S256x1024_S256x128_0_0)) (View.ld x8 (Rect.unit (s := S256x1024) ![0, 0] S256x128.size inb_S256x1024_S256x128_0_0)) := by
  unfold sl.r_4 sl.r_5
  simp only [upper0, weights0, load_block]
  rfl

theorem head1 : k0_pay29 (sl.r_12 c arg1 harg1 arg2 harg2 arg3 harg3 arg4 harg4 arg5 harg5 arg6 harg6 arg7 harg7 arg8 harg8 arg11 arg12 arg13 x0 x1 x2 x3 x4 x5 x6 x7) (sl.r_13 c arg9 harg9 x8)
    = head (lam x0 x1 x2 x3) (View.ld x4 (Rect.unit (s := S1x128) ![0, 0] S1x128.size inb_S1x128_S1x128_0_0)) (View.ld x5 (Rect.unit (s := S256x1024) ![0, 128] S256x128.size inb_S256x1024_S256x128_0_128)) (View.ld x6 (Rect.unit (s := S1x1024x256) ![0, 128, 0] S1x128x256.size inb_S1x1024x256_S1x128x256_0_128_0)) (View.ld x7 (Rect.unit (s := S256x1024) ![0, 128] S256x128.size inb_S256x1024_S256x128_0_128)) (View.ld x8 (Rect.unit (s := S256x1024) ![0, 128] S256x128.size inb_S256x1024_S256x128_0_128)) := by
  unfold sl.r_12 sl.r_13 sl.r_9
  simp only [upper1, weights1, load_block]
  rfl

theorem head2 : k0_pay40 (sl.r_15 c arg6 harg6 arg7 harg7 arg11 arg12 x5 x6) (sl.r_16 c arg8 harg8 x7) (sl.r_17 c arg1 harg1 arg2 harg2 arg3 harg3 arg4 harg4 arg6 harg6 arg7 harg7 arg11 arg12 arg13 x0 x1 x2 x3 x5 x6) (sl.cst_170 ) (View.readAt (Elt Ideal) arg5.view (Rect.unit (s := S1x128) ![0, 0] S1x128.size inb_S1x128_S1x128_0_0).toLoadRect (harg5.unread x4)) (View.readAt (Elt Ideal) arg9.view (Rect.unit (s := S256x1024) ![0, 256] S256x128.size inb_S256x1024_S256x128_0_256).toLoadRect (harg9.unread x8))
    = head (lam x0 x1 x2 x3) (View.ld x4 (Rect.unit (s := S1x128) ![0, 0] S1x128.size inb_S1x128_S1x128_0_0)) (View.ld x5 (Rect.unit (s := S256x1024) ![0, 256] S256x128.size inb_S256x1024_S256x128_0_256)) (View.ld x6 (Rect.unit (s := S1x1024x256) ![0, 256, 0] S1x128x256.size inb_S1x1024x256_S1x128x256_0_256_0)) (View.ld x7 (Rect.unit (s := S256x1024) ![0, 256] S256x128.size inb_S256x1024_S256x128_0_256)) (View.ld x8 (Rect.unit (s := S256x1024) ![0, 256] S256x128.size inb_S256x1024_S256x128_0_256)) := by
  unfold sl.r_15 sl.r_16 sl.r_17 sl.cst_170
  simp only [upper2, weights2, load_block]
  rfl

theorem head3 : k0_pay52 (sl.r_24 c arg1 harg1 arg2 harg2 arg3 harg3 arg4 harg4 arg5 harg5 arg6 harg6 arg7 harg7 arg8 harg8 arg11 arg12 arg13 x0 x1 x2 x3 x4 x5 x6 x7) (sl.r_25 c arg9 harg9 x8) (sl.r_26 c arg9 harg9 x8)
    = head (lam x0 x1 x2 x3) (View.ld x4 (Rect.unit (s := S1x128) ![0, 0] S1x128.size inb_S1x128_S1x128_0_0)) (View.ld x5 (Rect.unit (s := S256x1024) ![0, 384] S256x128.size inb_S256x1024_S256x128_0_384)) (View.ld x6 (Rect.unit (s := S1x1024x256) ![0, 384, 0] S1x128x256.size inb_S1x1024x256_S1x128x256_0_384_0)) (View.ld x7 (Rect.unit (s := S256x1024) ![0, 384] S256x128.size inb_S256x1024_S256x128_0_384)) (View.ld x8 (Rect.unit (s := S256x1024) ![0, 384] S256x128.size inb_S256x1024_S256x128_0_384)) := by
  unfold sl.r_24 sl.r_25 sl.r_26 sl.r_21
  simp only [upper3, weights3, load_block]
  rfl

theorem head4 : k0_pay60 (sl.r_28 c arg1 harg1 arg2 harg2 arg3 harg3 arg4 harg4 arg6 harg6 arg7 harg7 arg8 harg8 arg11 arg12 arg13 x0 x1 x2 x3 x5 x6 x7) (View.readAt (Elt Ideal) arg5.view (Rect.unit (s := S1x128) ![0, 0] S1x128.size inb_S1x128_S1x128_0_0).toLoadRect (harg5.unread x4)) (View.readAt (Elt Ideal) arg9.view (Rect.unit (s := S256x1024) ![0, 512] S256x128.size inb_S256x1024_S256x128_0_512).toLoadRect (harg9.unread x8))
    = head (lam x0 x1 x2 x3) (View.ld x4 (Rect.unit (s := S1x128) ![0, 0] S1x128.size inb_S1x128_S1x128_0_0)) (View.ld x5 (Rect.unit (s := S256x1024) ![0, 512] S256x128.size inb_S256x1024_S256x128_0_512)) (View.ld x6 (Rect.unit (s := S1x1024x256) ![0, 512, 0] S1x128x256.size inb_S1x1024x256_S1x128x256_0_512_0)) (View.ld x7 (Rect.unit (s := S256x1024) ![0, 512] S256x128.size inb_S256x1024_S256x128_0_512)) (View.ld x8 (Rect.unit (s := S256x1024) ![0, 512] S256x128.size inb_S256x1024_S256x128_0_512)) := by
  unfold sl.r_28
  simp only [upper4, weights4, load_block]
  rfl

theorem head5 : k0_pay74 (sl.r_34 c arg1 harg1 arg2 harg2 arg3 harg3 arg4 harg4 arg5 harg5 arg6 harg6 arg7 harg7 arg8 harg8 arg11 arg12 arg13 x0 x1 x2 x3 x4 x5 x6 x7) (sl.r_35 c arg9 harg9 x8) (sl.r_36 c arg9 harg9 x8)
    = head (lam x0 x1 x2 x3) (View.ld x4 (Rect.unit (s := S1x128) ![0, 0] S1x128.size inb_S1x128_S1x128_0_0)) (View.ld x5 (Rect.unit (s := S256x1024) ![0, 640] S256x128.size inb_S256x1024_S256x128_0_640)) (View.ld x6 (Rect.unit (s := S1x1024x256) ![0, 640, 0] S1x128x256.size inb_S1x1024x256_S1x128x256_0_640_0)) (View.ld x7 (Rect.unit (s := S256x1024) ![0, 640] S256x128.size inb_S256x1024_S256x128_0_640)) (View.ld x8 (Rect.unit (s := S256x1024) ![0, 640] S256x128.size inb_S256x1024_S256x128_0_640)) := by
  unfold sl.r_34 sl.r_35 sl.r_36 sl.r_31
  simp only [upper5, weights5, load_block]
  rfl

theorem head6 : k0_pay84 (sl.r_37 c arg1 harg1 arg2 harg2 arg3 harg3 arg4 harg4 arg6 harg6 arg7 harg7 arg8 harg8 arg11 arg12 arg13 x0 x1 x2 x3 x5 x6 x7) (sl.r_38 c arg5 harg5 x4) (sl.r_39 c arg1 harg1 arg2 harg2 arg3 harg3 arg4 harg4 arg6 harg6 arg7 harg7 arg8 harg8 arg11 arg12 arg13 x0 x1 x2 x3 x5 x6 x7) (View.readAt (Elt Ideal) arg9.view (Rect.unit (s := S256x1024) ![0, 768] S256x128.size inb_S256x1024_S256x128_0_768).toLoadRect (harg9.unread x8))
    = head (lam x0 x1 x2 x3) (View.ld x4 (Rect.unit (s := S1x128) ![0, 0] S1x128.size inb_S1x128_S1x128_0_0)) (View.ld x5 (Rect.unit (s := S256x1024) ![0, 768] S256x128.size inb_S256x1024_S256x128_0_768)) (View.ld x6 (Rect.unit (s := S1x1024x256) ![0, 768, 0] S1x128x256.size inb_S1x1024x256_S1x128x256_0_768_0)) (View.ld x7 (Rect.unit (s := S256x1024) ![0, 768] S256x128.size inb_S256x1024_S256x128_0_768)) (View.ld x8 (Rect.unit (s := S256x1024) ![0, 768] S256x128.size inb_S256x1024_S256x128_0_768)) := by
  unfold sl.r_37 sl.r_38 sl.r_39
  simp only [upper6, weights6, load_block]
  rfl

theorem head7 : k0_pay1 (sl.r_44 c arg1 harg1 arg2 harg2 arg3 harg3 arg4 harg4 arg5 harg5 arg6 harg6 arg7 harg7 arg8 harg8 arg11 arg12 arg13 x0 x1 x2 x3 x4 x5 x6 x7) (View.readAt (Elt Ideal) arg9.view (Rect.unit (s := S256x1024) ![0, 896] S256x128.size inb_S256x1024_S256x128_0_896).toLoadRect (harg9.unread x8))
    = head (lam x0 x1 x2 x3) (View.ld x4 (Rect.unit (s := S1x128) ![0, 0] S1x128.size inb_S1x128_S1x128_0_0)) (View.ld x5 (Rect.unit (s := S256x1024) ![0, 896] S256x128.size inb_S256x1024_S256x128_0_896)) (View.ld x6 (Rect.unit (s := S1x1024x256) ![0, 896, 0] S1x128x256.size inb_S1x1024x256_S1x128x256_0_896_0)) (View.ld x7 (Rect.unit (s := S256x1024) ![0, 896] S256x128.size inb_S256x1024_S256x128_0_896)) (View.ld x8 (Rect.unit (s := S256x1024) ![0, 896] S256x128.size inb_S256x1024_S256x128_0_896)) := by
  unfold sl.r_44 sl.r_41
  simp only [upper7, weights7, load_block]
  rfl

/-- The result block: eight heads side by side. -/
theorem block :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = View.canon [⟨Rect.unit (s := S256x1024) ![0, 896] S256x128.size inb_S256x1024_S256x128_0_896, head (lam x0 x1 x2 x3) (View.ld x4 (Rect.unit (s := S1x128) ![0, 0] S1x128.size inb_S1x128_S1x128_0_0)) (View.ld x5 (Rect.unit (s := S256x1024) ![0, 896] S256x128.size inb_S256x1024_S256x128_0_896)) (View.ld x6 (Rect.unit (s := S1x1024x256) ![0, 896, 0] S1x128x256.size inb_S1x1024x256_S1x128x256_0_896_0)) (View.ld x7 (Rect.unit (s := S256x1024) ![0, 896] S256x128.size inb_S256x1024_S256x128_0_896)) (View.ld x8 (Rect.unit (s := S256x1024) ![0, 896] S256x128.size inb_S256x1024_S256x128_0_896))⟩,
      ⟨Rect.unit (s := S256x1024) ![0, 768] S256x128.size inb_S256x1024_S256x128_0_768, head (lam x0 x1 x2 x3) (View.ld x4 (Rect.unit (s := S1x128) ![0, 0] S1x128.size inb_S1x128_S1x128_0_0)) (View.ld x5 (Rect.unit (s := S256x1024) ![0, 768] S256x128.size inb_S256x1024_S256x128_0_768)) (View.ld x6 (Rect.unit (s := S1x1024x256) ![0, 768, 0] S1x128x256.size inb_S1x1024x256_S1x128x256_0_768_0)) (View.ld x7 (Rect.unit (s := S256x1024) ![0, 768] S256x128.size inb_S256x1024_S256x128_0_768)) (View.ld x8 (Rect.unit (s := S256x1024) ![0, 768] S256x128.size inb_S256x1024_S256x128_0_768))⟩,
      ⟨Rect.unit (s := S256x1024) ![0, 640] S256x128.size inb_S256x1024_S256x128_0_640, head (lam x0 x1 x2 x3) (View.ld x4 (Rect.unit (s := S1x128) ![0, 0] S1x128.size inb_S1x128_S1x128_0_0)) (View.ld x5 (Rect.unit (s := S256x1024) ![0, 640] S256x128.size inb_S256x1024_S256x128_0_640)) (View.ld x6 (Rect.unit (s := S1x1024x256) ![0, 640, 0] S1x128x256.size inb_S1x1024x256_S1x128x256_0_640_0)) (View.ld x7 (Rect.unit (s := S256x1024) ![0, 640] S256x128.size inb_S256x1024_S256x128_0_640)) (View.ld x8 (Rect.unit (s := S256x1024) ![0, 640] S256x128.size inb_S256x1024_S256x128_0_640))⟩,
      ⟨Rect.unit (s := S256x1024) ![0, 512] S256x128.size inb_S256x1024_S256x128_0_512, head (lam x0 x1 x2 x3) (View.ld x4 (Rect.unit (s := S1x128) ![0, 0] S1x128.size inb_S1x128_S1x128_0_0)) (View.ld x5 (Rect.unit (s := S256x1024) ![0, 512] S256x128.size inb_S256x1024_S256x128_0_512)) (View.ld x6 (Rect.unit (s := S1x1024x256) ![0, 512, 0] S1x128x256.size inb_S1x1024x256_S1x128x256_0_512_0)) (View.ld x7 (Rect.unit (s := S256x1024) ![0, 512] S256x128.size inb_S256x1024_S256x128_0_512)) (View.ld x8 (Rect.unit (s := S256x1024) ![0, 512] S256x128.size inb_S256x1024_S256x128_0_512))⟩,
      ⟨Rect.unit (s := S256x1024) ![0, 384] S256x128.size inb_S256x1024_S256x128_0_384, head (lam x0 x1 x2 x3) (View.ld x4 (Rect.unit (s := S1x128) ![0, 0] S1x128.size inb_S1x128_S1x128_0_0)) (View.ld x5 (Rect.unit (s := S256x1024) ![0, 384] S256x128.size inb_S256x1024_S256x128_0_384)) (View.ld x6 (Rect.unit (s := S1x1024x256) ![0, 384, 0] S1x128x256.size inb_S1x1024x256_S1x128x256_0_384_0)) (View.ld x7 (Rect.unit (s := S256x1024) ![0, 384] S256x128.size inb_S256x1024_S256x128_0_384)) (View.ld x8 (Rect.unit (s := S256x1024) ![0, 384] S256x128.size inb_S256x1024_S256x128_0_384))⟩,
      ⟨Rect.unit (s := S256x1024) ![0, 256] S256x128.size inb_S256x1024_S256x128_0_256, head (lam x0 x1 x2 x3) (View.ld x4 (Rect.unit (s := S1x128) ![0, 0] S1x128.size inb_S1x128_S1x128_0_0)) (View.ld x5 (Rect.unit (s := S256x1024) ![0, 256] S256x128.size inb_S256x1024_S256x128_0_256)) (View.ld x6 (Rect.unit (s := S1x1024x256) ![0, 256, 0] S1x128x256.size inb_S1x1024x256_S1x128x256_0_256_0)) (View.ld x7 (Rect.unit (s := S256x1024) ![0, 256] S256x128.size inb_S256x1024_S256x128_0_256)) (View.ld x8 (Rect.unit (s := S256x1024) ![0, 256] S256x128.size inb_S256x1024_S256x128_0_256))⟩,
      ⟨Rect.unit (s := S256x1024) ![0, 128] S256x128.size inb_S256x1024_S256x128_0_128, head (lam x0 x1 x2 x3) (View.ld x4 (Rect.unit (s := S1x128) ![0, 0] S1x128.size inb_S1x128_S1x128_0_0)) (View.ld x5 (Rect.unit (s := S256x1024) ![0, 128] S256x128.size inb_S256x1024_S256x128_0_128)) (View.ld x6 (Rect.unit (s := S1x1024x256) ![0, 128, 0] S1x128x256.size inb_S1x1024x256_S1x128x256_0_128_0)) (View.ld x7 (Rect.unit (s := S256x1024) ![0, 128] S256x128.size inb_S256x1024_S256x128_0_128)) (View.ld x8 (Rect.unit (s := S256x1024) ![0, 128] S256x128.size inb_S256x1024_S256x128_0_128))⟩,
      ⟨Rect.unit (s := S256x1024) ![0, 0] S256x128.size inb_S256x1024_S256x128_0_0, head (lam x0 x1 x2 x3) (View.ld x4 (Rect.unit (s := S1x128) ![0, 0] S1x128.size inb_S1x128_S1x128_0_0)) (View.ld x5 (Rect.unit (s := S256x1024) ![0, 0] S256x128.size inb_S256x1024_S256x128_0_0)) (View.ld x6 (Rect.unit (s := S1x1024x256) ![0, 0, 0] S1x128x256.size inb_S1x1024x256_S1x128x256_0_0_0)) (View.ld x7 (Rect.unit (s := S256x1024) ![0, 0] S256x128.size inb_S256x1024_S256x128_0_0)) (View.ld x8 (Rect.unit (s := S256x1024) ![0, 0] S256x128.size inb_S256x1024_S256x128_0_0))⟩] := by
  unfold out0_A_9
  rw [View.read_writes_junk_eq_canon]
  unfold kernelRun0_A
  dsimp only
  rw [head7, head6, head5, head4, head3, head2, head1, head0]

end Cert.KernelIdeal.Value
-- ==== Proof.Softmax.lean ====
module
public import Idealize.ShloMosaic.Lib.Pipeline.ValueKit
public import Idealize.ShloMosaic.PureOps.Ideal.Laws

@[expose] public section

noncomputable section

open Idealize.ShloMosaic

/-! The softmax of a row of real scores over the extended reals. A kernel shifts the row by a maximum and raises 2 to it;
the reference multiplies the row by the logarithm of 2, shifts and exponentiates. Both are the row's weights over
their sum, whatever the shift. -/

namespace Cert.Softmax

/-- The logarithm of 2 as the reference computes it. -/
def ln2 : EReal := Ideal.log (Ideal.ofBits .f32 1073741824#32)

theorem ln2_eq : ln2 = (Real.log 2 : ℝ) := by
  have h : Ideal.ofBits .f32 1073741824#32 = ((2 : ℝ) : EReal) := by
    simp [Ideal.ofBits, Ideal.ieee, -EReal.coe_mul]; norm_num
  rw [ln2, h, Ideal.log_coe, if_neg (by norm_num)]

/-- A row's maximum, from minus infinity on. -/
def top {n : ℕ} (s : Fin n → EReal) : EReal := Finset.fold max (Ideal.ofBits .f32 4286578688#32) s Finset.univ

/-- The maximum of a nonempty row of reals is real. -/
theorem top_real {n : ℕ} (x : Fin (n + 1) → ℝ) : ∃ m : ℝ, top (fun k => (x k : EReal)) = m := by
  have h0 : Ideal.ofBits .f32 4286578688#32 = (⊥ : EReal) := by simp [Ideal.ofBits, Ideal.ieee]
  have key : ∀ t : Finset (Fin (n + 1)), t = ∅ ∨ ∃ m : ℝ, Finset.fold max (⊥ : EReal) (fun k => (x k : EReal)) t = m := by
    intro t
    induction t using Finset.induction_on with
    | empty => exact Or.inl rfl
    | insert a t ha ih =>
      refine Or.inr ?_
      rw [Finset.fold_insert ha]
      rcases ih with rfl | ⟨m, hm⟩
      · exact ⟨x a, by simp⟩
      · exact ⟨max (x a) m, by rw [hm]; exact (EReal.coe_strictMono.monotone.map_max).symm⟩
  rcases key Finset.univ with h | ⟨m, hm⟩
  · exact absurd h (Finset.univ_nonempty.ne_empty)
  · exact ⟨m, by rw [top, h0, hm]⟩

theorem coe_sum {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- The weight of a real score. -/
def wt (x : ℝ) : ℝ := Real.exp (x * Real.log 2)

theorem wt_pos (x : ℝ) : 0 < wt x := Real.exp_pos _

theorem exp2_shift (x m : ℝ) : Ideal.exp2 ((x : EReal) - m) = ((wt x * Real.exp (-(m * Real.log 2)) : ℝ) : EReal) := by
  rw [← EReal.coe_sub, Ideal.exp2_coe, wt, ← Real.exp_add]
  congr 1
  show (2 : ℝ) ^ (x - m) = _
  rw [Real.rpow_def_of_pos (by norm_num)]
  congr 1; ring

theorem exp_shift (x m : ℝ) : Ideal.exp ((x : EReal) * ln2 - m) = ((wt x * Real.exp (-m) : ℝ) : EReal) := by
  rw [ln2_eq, ← EReal.coe_mul, ← EReal.coe_sub, Ideal.exp_coe, wt, ← Real.exp_add]
  rfl

/-- The product with a positive real distributes over a sum. -/
theorem sum_mul_real {ι : Type} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

theorem sub_mul_real (a b : EReal) (c : ℝ) (hc : 0 ≤ c) : (a - b) * (c : EReal) = a * c - b * c := by
  rw [sub_eq_add_neg, sub_eq_add_neg, EReal.right_distrib_of_nonneg_of_ne_top (by exact_mod_cast hc) (EReal.coe_ne_top c),
    EReal.neg_mul]

/-- The reference's softmax of a row. -/
def soft {n : ℕ} (s : Fin n → EReal) (k : Fin n) : EReal :=
  Ideal.div (Ideal.exp (s k * ln2 - top fun j => s j * ln2)) (∑ j, Ideal.exp (s j * ln2 - top fun j => s j * ln2))

theorem soft_real {n : ℕ} (x : Fin (n + 1) → ℝ) (k : Fin (n + 1)) :
    soft (fun j => (x j : EReal)) k = ((wt (x k) * (1 / ∑ j, wt (x j)) : ℝ) : EReal) := by
  obtain ⟨m, hm⟩ : ∃ m : ℝ, top (fun j => (x j : EReal) * ln2) = m := by
    simp only [ln2_eq, ← EReal.coe_mul]
    exact top_real fun j => x j * Real.log 2
  have hw : 0 < ∑ j, wt (x j) := Finset.sum_pos (fun j _ => wt_pos _) Finset.univ_nonempty
  have he := Real.exp_pos (-m)
  rw [soft, hm]
  simp only [exp_shift, coe_sum, ← Finset.sum_mul]
  rw [Ideal.div_coe (by positivity), ← EReal.coe_mul]
  congr 1
  field_simp

/-- The differential attention's row: the difference of unnormalised weights, brought to the first component's scale, summed
    and divided at the end, is the sum against the difference of the two softmaxes. -/
theorem diff {n : ℕ} (x y : Fin (n + 1) → ℝ) (lam : EReal) (v : Fin (n + 1) → EReal) {s t : Fin (n + 1) → EReal}
    (hs : ∀ j, s j = x j) (ht : ∀ j, t j = y j) :
    (∑ k, (Ideal.exp2 (s k - top s)
        - Ideal.div (lam * ∑ j, Ideal.exp2 (s j - top s)) (∑ j, Ideal.exp2 (t j - top t)) * Ideal.exp2 (t k - top t)) * v k)
      * Ideal.div 1 (∑ j, Ideal.exp2 (s j - top s))
    = ∑ k, v k * (soft s k - lam * soft t k) := by
  obtain rfl : s = fun j => (x j : EReal) := funext hs
  obtain rfl : t = fun j => (y j : EReal) := funext ht
  obtain ⟨m, hm⟩ := top_real x
  obtain ⟨m', hm'⟩ := top_real y
  have hw : 0 < ∑ j, wt (x j) := Finset.sum_pos (fun j _ => wt_pos _) Finset.univ_nonempty
  have hw' : 0 < ∑ j, wt (y j) := Finset.sum_pos (fun j _ => wt_pos _) Finset.univ_nonempty
  have he := Real.exp_pos (-(m * Real.log 2))
  have he' := Real.exp_pos (-(m' * Real.log 2))
  simp only [soft_real]
  rw [hm, hm']
  simp only [exp2_shift, coe_sum, ← Finset.sum_mul]
  rw [Ideal.div_coe (by positivity), Ideal.div_coe (by positivity), one_mul, sum_mul_real _ _ _ (by positivity)]
  refine Finset.sum_congr rfl fun k _ => ?_
  rw [mul_right_comm, sub_mul_real _ _ _ (by positivity), mul_comm (v k)]
  congr 2
  · rw [← EReal.coe_mul]
    congr 1
    field_simp
  · rw [mul_assoc lam, mul_assoc lam, mul_assoc lam, ← EReal.coe_mul, ← EReal.coe_mul, ← EReal.coe_mul]
    congr 2
    field_simp

/-- A contraction of reals is real. -/
theorem dot_real {n : ℕ} {a b : Fin n → EReal} (ha : ∀ k, ∃ r : ℝ, a k = r) (hb : ∀ k, ∃ r : ℝ, b k = r) :
    ∃ r : ℝ, ∑ k, a k * b k = r := by
  choose f hf using ha
  choose g hg using hb
  exact ⟨∑ k, f k * g k, by simp only [hf, hg, ← EReal.coe_mul, coe_sum]⟩

/-- Below infinity in absolute value is real. -/
theorem real_of_abs {x : EReal} (h : max x (-x) < ⊤) : ∃ r : ℝ, x = r := by
  induction x using EReal.rec with
  | bot => simp at h
  | coe r => exact ⟨r, rfl⟩
  | top => simp at h

end Cert.Softmax
-- ==== Proof.KernelValue.lean ====
module
public import proofs.«01_k».proof.Proof.KernelHeads
public import proofs.«01_k».proof.Proof.Softmax
public import proofs.«01_k».proof.Proof.Gen.ReferenceIdeal.Read
public import proofs.«01_k».proof.Proof.Rows

@[expose] public section

set_option maxRecDepth 16384

noncomputable section

open Idealize.ShloMosaic Idealize.ShloMosaic.TcCoe Idealize.SL.Sem
open Idealize.ShloMosaic.Pipeline (Dat)

/-! The differential attention of the context tokens, point by point. -/

namespace Cert.KernelIdeal.Value
open Cert.KernelIdeal Cert.KernelIdeal.Gen Cert.ReferenceIdeal.Read

/-! ## A head of the kernel -/

section head
variable (q : Vec Ideal S256x128 .bf16) (k : Vec Ideal S1x128x256 .f32)

/-- The scores of a component, over its 64 of the head's 128 lanes. -/
def score (b : ℕ) (hb : b ≤ 64) (r n : Fin 256) : EReal :=
  ∑ d : Fin 64, q (ix2 r ⟨b + d, by have := d.isLt; omega⟩) * k (ix3 0 ⟨b + d, by have := d.isLt; omega⟩ n)

/-- Half of the lanes are masked: the sum over all of them is the sum over the others. -/
theorem half_sum {f : Fin 128 → EReal} (b : ℕ) (hb : b ≤ 64) (hf : ∀ d : Fin 128, ((d : ℕ) < b ∨ b + 64 ≤ d) → f d = 0) :
    ∑ d, f d = ∑ d : Fin 64, f ⟨b + d, by have := d.isLt; omega⟩ := by
  classical
  let e : Fin 64 ↪ Fin 128 := ⟨fun d => ⟨b + d, by have := d.isLt; omega⟩, fun x y h => by
    have := congrArg Fin.val h; simp at this; exact Fin.ext this⟩
  have h : ∑ d ∈ Finset.univ.map e, f d = ∑ d, f d := by
    refine Finset.sum_subset (Finset.subset_univ _) fun d _ hd => hf d ?_
    by_contra hc
    push Not at hc
    exact hd (Finset.mem_map.mpr ⟨⟨d - b, by omega⟩, Finset.mem_univ _, Fin.ext (by show b + (d - b : ℕ) = d; omega)⟩)
  rw [← h, Finset.sum_map]
  rfl

theorem upper_scores (r n : Fin 256) : upper (scores q k) (ix3 0 r n) = score q k 0 (by omega) r n := by
  pointwise [upper, scores, k0_pay7, lhs, k0_pay4, k0_pay6, k0_pay5, k0_pay3]
  rw [half_sum 0 (by omega)]
  · refine Finset.sum_congr rfl fun d _ => ?_
    rw [Rows.select_lane _ _ (by have := d.isLt; simp only; omega) (by decide), if_pos (by have := d.isLt; simp)]
  · intro d hd
    rw [Rows.select_lane _ _ (by have := d.isLt; omega) (by decide), if_neg (by simp; omega)]

theorem lower_scores (r n : Fin 256) : lower (scores q k) (ix3 0 r n) = score q k 64 (by omega) r n := by
  pointwise [lower, scores, k0_pay7, lhs, k0_pay4, k0_pay6, k0_pay5, k0_pay3]
  rw [half_sum 64 (by omega)]
  · refine Finset.sum_congr rfl fun d _ => ?_
    rw [Rows.select_lane _ _ (by have := d.isLt; simp only; omega) (by decide), if_neg (by simp)]
  · intro d hd
    rw [Rows.select_lane _ _ (by have := d.isLt; omega) (by decide), if_pos (by simp; omega)]

variable (lam : FVec Ideal S1x1 .f32) (g : Vec Ideal S1x128 .f32) (v : Vec Ideal S256x128 .f32) (z : Vec Ideal S256x128 .bf16)

/-- A head's rows before the normalisation. -/
def mix (r : Fin 256) (l : Fin 128) : EReal :=
  ∑ n, v (ix2 n l) * (Softmax.soft (score q k 0 (by omega) r) n - lam (ix2 0 0) * Softmax.soft (score q k 64 (by omega) r) n)

/-- What a head stores: the rows, normalised, weighted, and gated. -/
theorem head_apply (hq : ∀ i, ∃ x : ℝ, q i = x) (hk : ∀ i, ∃ x : ℝ, k i = x) (r : Fin 256) (l : Fin 128) :
    head lam g q k v z (ix2 r l)
    = mix q k lam v r l * Ideal.rsqrt (Ideal.div (∑ x, mix q k lam v r x * mix q k lam v r x) (Ideal.ofBits .f32 1124073472#32)
          + Ideal.ofBits .f32 897988541#32)
        * g (ix2 0 l) * Ideal.ofBits .f32 1059388764#32
      * (z (ix2 r l) * Ideal.div 1 (1 + Ideal.exp (-z (ix2 r l)))) := by
  have hs : ∀ b hb n, ∃ x : ℝ, score q k b hb r n = x := fun b hb n =>
    Softmax.dot_real (fun d => hq _) (fun d => hk _)
  choose s hs using fun b hb => Classical.axiomOfChoice (hs b hb)
  have hmix : ∀ l, (∑ n, weights lam q k (ix3 0 r n) * v (ix2 n l)) * Ideal.div 1 (∑ x, Ideal.exp2 (upper (scores q k) (ix3 0 r x)
      - Softmax.top fun x => upper (scores q k) (ix3 0 r x))) = mix q k lam v r l := by
    intro l
    refine Eq.trans ?_ (Softmax.diff (s 0 (by omega)) (s 64 (by omega)) (lam (ix2 0 0)) (fun n => v (ix2 n l))
      (hs 0 (by omega)) (hs 64 (by omega)))
    have hw : ∀ n, weights lam q k (ix3 0 r n) = Ideal.exp2 (score q k 0 (by omega) r n - Softmax.top (score q k 0 (by omega) r))
        - Ideal.div (lam (ix2 0 0) * ∑ j, Ideal.exp2 (score q k 0 (by omega) r j - Softmax.top (score q k 0 (by omega) r)))
            (∑ j, Ideal.exp2 (score q k 64 (by omega) r j - Softmax.top (score q k 64 (by omega) r)))
          * Ideal.exp2 (score q k 64 (by omega) r n - Softmax.top (score q k 64 (by omega) r)) := by
      intro n
      pointwise [weights, k0_pay15, k0_pay14, k0_pay13]
      simp only [upper_scores, lower_scores]
      rfl
    simp only [hw, upper_scores]
  rw [← zero_sub (z (ix2 r l))]
  simp only [← hmix]
  pointwise [head, k0_pay18, k0_pay16, k0_pay17, k0_pay14, k0_pay13]
  rfl

end head

/-! ## The reference -/

section reference
variable (X0 X1 X2 X3 : (⟨Cert.ReferenceIdeal.S64, .f32⟩ : BufTy).Contents (Elt Ideal)) (X4 : (⟨Cert.ReferenceIdeal.S128, .f32⟩ : BufTy).Contents (Elt Ideal)) (X5 : (⟨Cert.ReferenceIdeal.S4096x1024, .bf16⟩ : BufTy).Contents (Elt Ideal)) (X6 : (⟨Cert.ReferenceIdeal.S16x1024x256, .f32⟩ : BufTy).Contents (Elt Ideal)) (X7 : (⟨Cert.ReferenceIdeal.S4096x1024, .f32⟩ : BufTy).Contents (Elt Ideal)) (X8 : (⟨Cert.ReferenceIdeal.S4096x1024, .bf16⟩ : BufTy).Contents (Elt Ideal))
  (b : Fin 16) (h : Fin 8)

/-- The scores of one component of a head. -/
def refScore (cc : Fin 2) (r n : Fin 256) : EReal :=
  ∑ d : Fin 64, X5 (ix2 ⟨b * 256 + r, by have := b.isLt; have := r.isLt; omega⟩ ⟨h * 128 + cc * 64 + d, by have := h.isLt; have := cc.isLt; have := d.isLt; omega⟩)
    * X6 (ix3 b ⟨h * 128 + cc * 64 + d, by have := h.isLt; have := cc.isLt; have := d.isLt; omega⟩ n)

theorem scores_apply (cc : Fin 2) (r n : Fin 256) :
    val_main_v16 (F := Ideal) X5 X6 (ix5 b h cc r n) = refScore X5 X6 b h cc r n * Softmax.ln2 := by
  pointwise [val_main_v16, val_main_v15, val_main_v14, val_main_cst_2, val_main_v13, val_main_v0, val_main_v1, val_main_v2,
    val_main_v3]
  rfl

theorem soft_apply (cc : Fin 2) (r n : Fin 256) :
    val_main_v25 (F := Ideal) X5 X6 (ix5 b h cc r n) = Softmax.soft (refScore X5 X6 b h cc r) n := by
  pointwise [val_main_v17, val_main_cst_3, val_main_v18, val_main_v19, val_main_v20, val_main_v21, val_main_cst_4,
    val_main_v22, val_main_v23, val_main_v24, val_main_v25]
  simp only [scores_apply]
  rfl

theorem mix_apply (r : Fin 256) (l : Fin 128) :
    val_main_v34 (F := Ideal) X0 X1 X2 X3 X5 X6 X7 (ix4 b r h l)
    = ∑ n : Fin 256, X7 (ix2 ⟨b * 256 + n, by have := b.isLt; have := n.isLt; omega⟩ ⟨h * 128 + l, by have := h.isLt; have := l.isLt; omega⟩)
      * (Softmax.soft (refScore X5 X6 b h 0 r) n - val_main_v12 (F := Ideal) X0 X1 X2 X3 ix0 * Softmax.soft (refScore X5 X6 b h 1 r) n) := by
  pointwise [val_main_v26, val_main_v27, val_main_v28, val_main_v29, val_main_v30, val_main_v31, val_main_v32, val_main_v33,
    val_main_v34, val_main_v4]
  simp only [soft_apply]

theorem out_apply (r : Fin 256) (l : Fin 128) (j : Cert.ReferenceIdeal.S4096x1024.Idx) (h0 : (j 0 : ℕ) = b * 256 + r) (h1 : (j 1 : ℕ) = h * 128 + l) :
    val_main_v54 (F := Ideal) X0 X1 X2 X3 X4 X5 X6 X7 X8 j
    = val_main_v34 (F := Ideal) X0 X1 X2 X3 X5 X6 X7 (ix4 b r h l)
        * Ideal.rsqrt (Ideal.div (∑ x, val_main_v34 (F := Ideal) X0 X1 X2 X3 X5 X6 X7 (ix4 b r h x)
            * val_main_v34 (F := Ideal) X0 X1 X2 X3 X5 X6 X7 (ix4 b r h x)) (Ideal.ofBits .f32 1124073472#32)
          + Ideal.ofBits .f32 897988541#32)
        * X4 (ix1 l) * Ideal.ofBits .f32 1059388764#32
      * (X8 j * Ideal.div 1 (1 + Ideal.exp (-X8 j))) := by
  have hr := r.isLt
  have hl := l.isLt
  have e0 : ∀ p, (⟨(j 0 : ℕ) / 256, p⟩ : Fin 16) = b := fun p => Fin.ext (by simp only; omega)
  have e1 : ∀ p, (⟨(j 0 : ℕ) % 256, p⟩ : Fin 256) = r := fun p => Fin.ext (by simp only; omega)
  have e2 : ∀ p, (⟨(j 1 : ℕ) / 128, p⟩ : Fin 8) = h := fun p => Fin.ext (by simp only; omega)
  have e3 : ∀ p, (⟨(j 1 : ℕ) % 128, p⟩ : Fin 128) = l := fun p => Fin.ext (by simp only; omega)
  pointwise [val_main_v35, val_main_cst_5, val_main_v36, val_main_v37, val_main_cst_6, val_main_v38, val_main_v39,
      val_main_cst_7, val_main_v40, val_main_v41, val_main_v42, val_main_v43, val_main_v44, val_main_v45,
      val_main_v46, val_main_v47, val_main_cst_8, val_main_v48, val_main_v49, val_main_v50, val_main_v51,
      val_main_call0_v0, val_main_call0_v1, val_main_call0_cst, val_main_call0_v2, val_main_call0_v3,
      val_main_call0_cst_0, val_main_call0_v4, val_main_call0_v5, val_main_v52, val_main_v53, val_main_v54]
  simp only [e0, e1, e2, e3]

end reference

end Cert.KernelIdeal.Value
-- ==== Proof.KernelPoint.lean ====
module
public import proofs.«01_k».proof.Proof.KernelValue

@[expose] public section

set_option maxRecDepth 16384

noncomputable section

open Idealize.ShloMosaic Idealize.ShloMosaic.TcCoe Idealize.SL.Sem
open Idealize.ShloMosaic.Pipeline (Dat)

/-! The differential attention of the context tokens: the array that the call leaves is the reference's. -/

namespace Cert.KernelIdeal.Value
open Cert.KernelIdeal Cert.KernelIdeal.Gen Cert.ReferenceIdeal.Read

section reference
variable (X0 X1 X2 X3 : (⟨Cert.ReferenceIdeal.S64, .f32⟩ : BufTy).Contents (Elt Ideal)) (X4 : (⟨Cert.ReferenceIdeal.S128, .f32⟩ : BufTy).Contents (Elt Ideal)) (X5 : (⟨Cert.ReferenceIdeal.S4096x1024, .bf16⟩ : BufTy).Contents (Elt Ideal)) (X6 : (⟨Cert.ReferenceIdeal.S16x1024x256, .f32⟩ : BufTy).Contents (Elt Ideal)) (X7 : (⟨Cert.ReferenceIdeal.S4096x1024, .f32⟩ : BufTy).Contents (Elt Ideal)) (X8 : (⟨Cert.ReferenceIdeal.S4096x1024, .bf16⟩ : BufTy).Contents (Elt Ideal))
  (b : Fin 16) (h : Fin 8)

/-- A head's row of the kernel is the reference's, for blocks that hold the reference's entries. -/
theorem head_eq (lam : FVec Ideal S1x1 .f32) (g : Vec Ideal S1x128 .f32) (q : Vec Ideal S256x128 .bf16) (k : Vec Ideal S1x128x256 .f32)
    (v : Vec Ideal S256x128 .f32) (z : Vec Ideal S256x128 .bf16)
    (h5 : ∀ i, ∃ x : ℝ, X5 i = x) (h6 : ∀ i, ∃ x : ℝ, X6 i = x)
    (hlam : lam (ix2 0 0) = val_main_v12 (F := Ideal) X0 X1 X2 X3 ix0)
    (hg : ∀ l, g (ix2 0 l) = X4 (ix1 l))
    (hq : ∀ r l, q (ix2 r l) = X5 (ix2 ⟨b * 256 + r, by have := b.isLt; have := r.isLt; omega⟩ ⟨h * 128 + l, by have := h.isLt; have := l.isLt; omega⟩))
    (hk : ∀ l n, k (ix3 0 l n) = X6 (ix3 b ⟨h * 128 + l, by have := h.isLt; have := l.isLt; omega⟩ n))
    (hv : ∀ r l, v (ix2 r l) = X7 (ix2 ⟨b * 256 + r, by have := b.isLt; have := r.isLt; omega⟩ ⟨h * 128 + l, by have := h.isLt; have := l.isLt; omega⟩))
    (hz : ∀ r l, z (ix2 r l) = X8 (ix2 ⟨b * 256 + r, by have := b.isLt; have := r.isLt; omega⟩ ⟨h * 128 + l, by have := h.isLt; have := l.isLt; omega⟩))
    (r : Fin 256) (l : Fin 128) (j : Cert.ReferenceIdeal.S4096x1024.Idx) (h0 : (j 0 : ℕ) = b * 256 + r) (h1 : (j 1 : ℕ) = h * 128 + l) :
    head lam g q k v z (ix2 r l) = val_main_v54 (F := Ideal) X0 X1 X2 X3 X4 X5 X6 X7 X8 j := by
  have hj : X8 j = z (ix2 r l) := by
    rw [hz]
    refine congrArg X8 ?_
    funext a; apply Fin.ext; fin_cases a
    · exact h0
    · exact h1
  have hq' : ∀ i, ∃ x : ℝ, q i = x := fun i => by
    obtain ⟨r, l, rfl⟩ : ∃ (r : Fin 256) (l : Fin 128), i = ix2 r l := ⟨i 0, i 1, by funext a; fin_cases a <;> rfl⟩
    rw [hq]; exact h5 _
  have hk' : ∀ i, ∃ x : ℝ, k i = x := fun i => by
    obtain ⟨u, l, n, rfl⟩ : ∃ (u : Fin 1) (l : Fin 128) (n : Fin 256), i = ix3 u l n := ⟨i 0, i 1, i 2, by funext a; fin_cases a <;> rfl⟩
    obtain rfl : u = 0 := Subsingleton.elim _ _
    rw [hk]; exact h6 _
  have hs0 : ∀ r, score q k 0 (by omega) r = refScore X5 X6 b h 0 r := fun r => by
    funext n
    simp only [score, refScore, hq, hk]
    refine Finset.sum_congr rfl fun d _ => ?_
    congr 3 <;> simp
  have hs1 : ∀ r, score q k 64 (by omega) r = refScore X5 X6 b h 1 r := fun r => by
    funext n
    simp only [score, refScore, hq, hk]
    refine Finset.sum_congr rfl fun d _ => ?_
    congr 3 <;> simp <;> omega
  have hm : ∀ l, mix q k lam v r l = val_main_v34 (F := Ideal) X0 X1 X2 X3 X5 X6 X7 (ix4 b r h l) := fun l => by
    rw [mix_apply, mix, hs0, hs1, hlam]
    simp only [hv]
  rw [out_apply X0 X1 X2 X3 X4 X5 X6 X7 X8 b h r l j h0 h1, hj]
  simp only [← hm, ← hg]
  exact head_apply q k lam g v z hq' hk' r l

end reference

variable (m : (ℓ : Loc nD τ sig) → Buf (Elt Ideal) ℓ)

/-- The block that each window reads or writes at a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![t.val, 0]
    ∧ win0_6.index t = ![t.val, 0, 0] ∧ win0_7.index t = ![t.val, 0] ∧ win0_8.index t = ![t.val, 0]
    ∧ win0_9.index t = ![t.val, 0] :=
  (by decide +kernel : ∀ t : Fin grid0.N, _)

/-- The weight of the second map is the reference's. -/
theorem lam_apply (c : Dev nD) (t : Fin cfg0.N) :
    lam (iblk m c 0 t) (iblk m c 1 t) (iblk m c 2 t) (iblk m c 3 t) (ix2 0 0)
    = val_main_v12 (F := Ideal) (m ((c : Thread nD τ).loc main_arg0)) (m ((c : Thread nD τ).loc main_arg1)) (m ((c : Thread nD τ).loc main_arg2)) (m ((c : Thread nD τ).loc main_arg3)) ix0 := by
  pointwise [lam, k0_pay2, val_main_v5, val_main_cst, val_main_v6, val_main_v7, val_main_v8, val_main_cst_0, val_main_v9,
    val_main_v10, val_main_v11, val_main_cst_1, val_main_v12]
  blk_point [iblk, V, idx t]

/-- The gain of the norm within a head, laid out as a row. -/
theorem subln_apply (c : Dev nD) (t : Fin cfg0.N) (l : Fin 128) :
    View.ld (iblk m c 4 t) (Rect.unit (s := S1x128) ![0, 0] S1x128.size inb_S1x128_S1x128_0_0) (ix2 0 l)
    = m ((c : Thread nD τ).loc main_arg4) (ix1 l) := by
  blk_simp [iblk, V]
  entry_read
  pointwise
  show shapeCast S1x128 (m ((c : Thread nD τ).loc main_arg4)) shapeCasts_S128_S1x128 ((win0_4.blk t).view.emb (ix2 0 l)) = _
  have e : ((win0_4.blk t).view.emb (ix2 0 l) : S1x128.Idx) = ix2 0 l := by
    funext a
    fin_cases a <;> apply Fin.ext
    · blk_simp [idx t]
    · blk_simp [idx t]
  rw [e]
  pointwise

/-- The array that the call leaves. -/
theorem final (c : Dev nD) (h5 : ∀ i, ∃ x : ℝ, (show FVec Ideal S4096x1024 .bf16 from (m ((c : Thread nD τ).loc main_arg5))) i = x)
    (h6 : ∀ i, ∃ x : ℝ, (show FVec Ideal S16x1024x256 .f32 from (m ((c : Thread nD τ).loc main_arg6))) i = x) :
    (dats m 0 c).arrAt 9 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  unfold outsAt0
  rw [block]
  have hN : (t : ℕ) < 16 := t.isLt
  canon_tiles x h
  all_goals obtain ⟨r, l, rfl⟩ : ∃ (r : Fin 256) (l : Fin 128), x = ix2 r l :=
    ⟨x 0, x 1, by funext a; fin_cases a <;> rfl⟩
  · refine head_eq _ _ _ _ _ _ _ _ _ ⟨t, hN⟩ 7 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 6 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 5 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 4 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 3 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 2 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 1 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)
  · refine head_eq _ _ _ _ _ _ _ _ _ ⟨t, hN⟩ 0 _ _ _ _ _ _ h5 h6 (lam_apply m c t) (subln_apply m c t) (fun r l => ?_)
      (fun l n => ?_) (fun n l => ?_) (fun r l => ?_) r l _ ?_ ?_
    · blk_point [iblk, V, idx t]
    · blk_point [iblk, V, idx t]
    · blk_point [iblk, V, idx t]
    · blk_point [iblk, V, idx t]
    · blk_simp [idx t]
      exact congrArg (t.val * 256 + ·) h0
    · blk_simp [idx t]
      exact h1.trans (by simp)

end Cert.KernelIdeal.Value
-- ==== Proof.KernelFinite.lean ====
module
public import proofs.«01_k».proof.Pre_finite_scores
public import proofs.«01_k».proof.Proof.Softmax
public import Idealize.ShloMosaic.Lib.Pipeline.ValueKit
public import Idealize.ShloMosaic.PureOps.Ideal.Laws

@[expose] public section

noncomputable section

open Idealize.ShloMosaic

/-! What the precondition of the attention of the context tokens says of the queries and the keys. -/

namespace Cert.Pre_finite_scores

/-- The side conditions of the precondition's operations. -/
theorem facts : Facts where
  bitsLt_bf16_f32 := by decide
  bcast_S_S4096x1024 := by decide
  shapeCasts_S16x1024x256_S4096x1024 := by decide

/-- The word of infinity. -/
theorem inf_eq : Ideal.ofBits FTy.f32 0x7F800000#32 = ⊤ := by
  simp [Ideal.ofBits, Ideal.ieee]

/-- The conjunction of two strict comparisons is true of two values below the bound. -/
theorem lt_of_andi (x y z : EReal) (h : IntOp.andi (BitVec.ofBool (decide (x < z))) (BitVec.ofBool (decide (y < z))) = 1#1) :
    x < z ∧ y < z := by
  by_cases hx : x < z
  · by_cases hy : y < z
    · exact ⟨hx, hy⟩
    · simp [hx, hy, IntOp.andi] at h
  · by_cases hy : y < z
    · simp [hx, hy, IntOp.andi] at h
    · simp [hx, hy, IntOp.andi] at h

/-- A true conjunction at one index: the two entries it compares with infinity are reals. -/
theorem real_of_andi (x y : EReal)
    (h : IntOp.andi (BitVec.ofBool (decide (FloatOps.absf (F := Ideal) (φ := .f32) x < Ideal.ofBits FTy.f32 0x7F800000#32)))
      (BitVec.ofBool (decide (FloatOps.absf (F := Ideal) (φ := .f32) y < Ideal.ofBits FTy.f32 0x7F800000#32))) = 1#1) :
    (∃ r : ℝ, x = r) ∧ ∃ r : ℝ, y = r := by
  obtain ⟨h1, h2⟩ := lt_of_andi _ _ _ h
  rw [inf_eq] at h1 h2
  exact ⟨Cert.Softmax.real_of_abs h1, Cert.Softmax.real_of_abs h2⟩

/-- Of finite queries and keys every entry is a real. -/
theorem real [Facts] (x0 x1 x2 x3 : FVec Ideal S64 .f32) (x4 : FVec Ideal S128 .f32) (x5 : FVec Ideal S4096x1024 .bf16)
    (x6 : FVec Ideal S16x1024x256 .f32) (x7 : FVec Ideal S4096x1024 .f32) (x8 : FVec Ideal S4096x1024 .bf16)
    (h : fn x0 x1 x2 x3 x4 x5 x6 x7 x8 = fun _ => 1#1) :
    (∀ i, ∃ r : ℝ, x5 i = r) ∧ ∀ i, ∃ r : ℝ, x6 i = r := by
  constructor
  · intro i
    have hi := congrFun h i
    pointwise [fn] at hi
    exact (real_of_andi _ _ hi).1
  · intro i
    obtain ⟨a, b, n, rfl⟩ : ∃ (a : Fin 16) (b : Fin 1024) (n : Fin 256), i = ix3 a b n :=
      ⟨i 0, i 1, i 2, by funext a; fin_cases a <;> rfl⟩
    have hi := congrFun h (ix2 ⟨a * 256 + b / 4, by omega⟩ ⟨b % 4 * 256 + n, by omega⟩)
    pointwise [fn] at hi
    obtain ⟨r, hr⟩ := (real_of_andi _ _ hi).2
    refine ⟨r, hr ▸ congrArg x6 ?_⟩
    funext c
    fin_cases c <;> apply Fin.ext <;> simp <;> omega

end Cert.Pre_finite_scores

end
-- ==== Proof.KernelClaims.lean ====
module
public import proofs.«01_k».proof.Defs
public import proofs.«01_k».proof.Proof.KernelPoint
public import proofs.«01_k».proof.Proof.KernelFinite
public import proofs.«01_k».proof.Proof.Gen.KernelIdeal.Value
public import proofs.«01_k».proof.Proof.Gen.ReferenceIdeal.Run
public import Idealize.ShloMosaic.Adequacy

@[expose] public section

noncomputable section

open Idealize.ShloMosaic Idealize.SL.Sem

/-! The claim about the differential attention of the context tokens. -/

namespace Cert.Kernel.Claims

set_option maxHeartbeats 2000000 in
/-- On finite queries and keys the result array of the call is the reference's. -/
theorem algebraic :
    Cert.algebraic_KernelIdeal_ReferenceIdeal_pre_finite_scores (hPre_finite_scores := Cert.Pre_finite_scores.facts) := by
  have := Cert.Pre_finite_scores.facts
  pair_intro
  · run_from Cert.KernelIdeal.Value.run_blocks m g
  · run_from Cert.ReferenceIdeal.Value.run m' g'
    obtain ⟨h0, h1, h2, h3, h4, h5, h6, h7, h8⟩ := hagree c
    have hr := Cert.Pre_finite_scores.real _ _ _ _ _ _ _ _ _ (hpre c)
    refine (Cert.ReferenceIdeal.Read.val_main_v54_eq ..).trans (Eq.trans ?_ (Cert.KernelIdeal.Value.final m c hr.1 hr.2).symm)
    first | rfl | rw [h0, h1, h2, h3, h4, h5, h6, h7, h8]

end Cert.Kernel.Claims

end
-- ==== Proof.SinkHeads.lean ====
module
public import proofs.«01_k».proof.Proof.Gen.SinkIdeal.Value
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The body of the attention with a sink, half by half. A half is four tiles of queries against one tile of keys: eight
heads, whose blocks lie one under the other in the scratch buffers. What a half reads back is what that half stored. -/

namespace Cert.SinkIdeal.Value
open Cert.SinkIdeal Cert.SinkIdeal.Gen Cert.SinkIdeal.Gen.kernelRun0_A

/-- Eight blocks of 256 rows, one under the other. -/
def stack (W : ℕ) (p : Fin 8 → Vec Ideal ⟨3, ![1, 256, W]⟩ .bf16) : Vec Ideal ⟨3, ![1, 2048, W]⟩ .bf16 := fun j =>
  p ⟨(j 1 : ℕ) / 256, by have : (j 1 : ℕ) < 2048 := (j 1).isLt; omega⟩ (ix3 0 ⟨(j 1 : ℕ) % 256, by omega⟩ (j 2))

/-- A stored block read at a point of the buffer. -/
theorem canon_step (W b o : ℕ) (i) (P : Vec Ideal ⟨3, ![1, 256, W]⟩ .bf16) (L : List (View.Piece (Elt Ideal) ⟨3, ![2, 2048, W]⟩ .bf16))
    (x : Shape.Idx ⟨3, ![2, 2048, W]⟩) (hb : (x 0 : ℕ) = b) :
    View.canon (⟨Rect.unit (s := ⟨3, ![2, 2048, W]⟩) ![b, o, 0] ![1, 256, W] i, P⟩ :: L) x
    = if h : o ≤ (x 1 : ℕ) ∧ (x 1 : ℕ) < o + 256 then P (ix3 0 ⟨(x 1 : ℕ) - o, by omega⟩ (x 2)) else View.canon L x := by
  by_cases h : o ≤ (x 1 : ℕ) ∧ (x 1 : ℕ) < o + 256
  · have e : x = (Rect.unit (s := ⟨3, ![2, 2048, W]⟩) ![b, o, 0] ![1, 256, W] i).emb (ix3 0 ⟨(x 1 : ℕ) - o, by omega⟩ (x 2)) := by
      funext a; apply Fin.ext; fin_cases a
      · simp [hb]
      · simp; omega
      · simp
    rw [dif_pos h]
    conv_lhs => rw [e]
    rw [View.canon_cons_emb]
  · rw [dif_neg h, View.canon_cons_of_not_mem]
    intro hm
    rw [Rect.mem_set_unit] at hm
    have := hm 1
    simp at this
    omega

variable {κ : Kind} {sp : Space}

/-- The eight stores of a half, read back together. -/
theorem stack_read (W : ℕ) (v : View sig κ sp ⟨3, ![2, 2048, W]⟩ .bf16) (b : ℕ) (i7 i6 i5 i4 i3 i2 i1 i0 i)
    (p : Fin 8 → Vec Ideal ⟨3, ![1, 256, W]⟩ .bf16) (L : List (View.Piece (Elt Ideal) ⟨3, ![2, 2048, W]⟩ .bf16)) :
    v.readCov (⟨Rect.unit (s := ⟨3, ![2, 2048, W]⟩) ![b, 1792, 0] ![1, 256, W] i7, p 7⟩
      :: ⟨Rect.unit (s := ⟨3, ![2, 2048, W]⟩) ![b, 1536, 0] ![1, 256, W] i6, p 6⟩
      :: ⟨Rect.unit (s := ⟨3, ![2, 2048, W]⟩) ![b, 1280, 0] ![1, 256, W] i5, p 5⟩
      :: ⟨Rect.unit (s := ⟨3, ![2, 2048, W]⟩) ![b, 1024, 0] ![1, 256, W] i4, p 4⟩
      :: ⟨Rect.unit (s := ⟨3, ![2, 2048, W]⟩) ![b, 768, 0] ![1, 256, W] i3, p 3⟩
      :: ⟨Rect.unit (s := ⟨3, ![2, 2048, W]⟩) ![b, 512, 0] ![1, 256, W] i2, p 2⟩
      :: ⟨Rect.unit (s := ⟨3, ![2, 2048, W]⟩) ![b, 256, 0] ![1, 256, W] i1, p 1⟩
      :: ⟨Rect.unit (s := ⟨3, ![2, 2048, W]⟩) ![b, 0, 0] ![1, 256, W] i0, p 0⟩ :: L)
      (Rect.unit (s := ⟨3, ![2, 2048, W]⟩) ![b, 0, 0] ![1, 2048, W] i).toLoadRect = stack W p := by
  rw [View.readCov_eq_canon']
  funext j
  have hj : (j 1 : ℕ) < 2048 := (j 1).isLt
  have hj0 : (j 0 : ℕ) < 1 := (j 0).isLt
  have e1 : ((Rect.unit (s := ⟨3, ![2, 2048, W]⟩) ![b, 0, 0] ![1, 2048, W] i).toLoadRect.idx j 1 : ℕ) = j 1 := by simp
  have e2 : (Rect.unit (s := ⟨3, ![2, 2048, W]⟩) ![b, 0, 0] ![1, 2048, W] i).toLoadRect.idx j 2 = j 2 := Fin.ext (by simp)
  have e0 : ((Rect.unit (s := ⟨3, ![2, 2048, W]⟩) ![b, 0, 0] ![1, 2048, W] i).toLoadRect.idx j 0 : ℕ) = b := by simp
  have hp : ∀ (n : Fin 8) (m : ℕ) (hm : m < 256), (j 1 : ℕ) = 256 * n + m → p n (ix3 0 ⟨m, hm⟩ (j 2)) = stack W p j := by
    intro n m hm h
    have a1 : (⟨(j 1 : ℕ) / 256, by omega⟩ : Fin 8) = n := Fin.ext (by simp only; omega)
    have a2 : (⟨(j 1 : ℕ) % 256, by omega⟩ : Fin 256) = ⟨m, hm⟩ := Fin.ext (by simp only; omega)
    simp only [stack, a1, a2]
  rw [canon_step _ _ _ _ _ _ _ e0, canon_step _ _ _ _ _ _ _ e0, canon_step _ _ _ _ _ _ _ e0, canon_step _ _ _ _ _ _ _ e0,
    canon_step _ _ _ _ _ _ _ e0, canon_step _ _ _ _ _ _ _ e0, canon_step _ _ _ _ _ _ _ e0, canon_step _ _ _ _ _ _ _ e0]
  simp only [e1, e2]
  split_ifs
  · exact hp 7 _ _ (by simp only [Fin.val_ofNat]; omega)
  · exact hp 6 _ _ (by simp only [Fin.val_ofNat]; omega)
  · exact hp 5 _ _ (by simp only [Fin.val_ofNat]; omega)
  · exact hp 4 _ _ (by simp only [Fin.val_ofNat]; omega)
  · exact hp 3 _ _ (by simp only [Fin.val_ofNat]; omega)
  · exact hp 2 _ _ (by simp only [Fin.val_ofNat]; omega)
  · exact hp 1 _ _ (by simp only [Fin.val_ofNat]; omega)
  · exact hp 0 _ _ (by simp only [Fin.val_ofNat]; omega)
  · omega

/-- Block `n` of a half's scores. -/
def rows (n : Fin 8) (s : Vec Ideal S1x2048x256 .f32) : Vec Ideal S1x256x256 .f32 := fun i =>
  s (ix3 0 ⟨256 * n + i 1, by have : (i 1 : ℕ) < 256 := (i 1).isLt; have := n.isLt; omega⟩ (i 2))

/-- A half's scores, of which one block is read back. -/
theorem rows_read (v : View sig κ sp S2x2048x256 .f32) (b o : ℕ) (i0 i1) (s : Vec Ideal S1x2048x256 .f32)
    (L : List (View.Piece (Elt Ideal) S2x2048x256 .f32)) (n : Fin 8) (hn : o = 256 * n) :
    v.readCov (⟨Rect.unit (s := S2x2048x256) ![b, 0, 0] S1x2048x256.size i0, s⟩ :: L)
      (Rect.unit (s := S2x2048x256) ![b, o, 0] S1x256x256.size i1).toLoadRect = rows n s := by
  rw [View.readCov_eq_canon']
  funext j
  have hj0 : (j 0 : ℕ) < 1 := (j 0).isLt
  have hj1 : (j 1 : ℕ) < 256 := (j 1).isLt
  have := n.isLt
  have e : (Rect.unit (s := S2x2048x256) ![b, o, 0] S1x256x256.size i1).toLoadRect.idx j
      = (Rect.unit (s := S2x2048x256) ![b, 0, 0] S1x2048x256.size i0).emb (ix3 0 ⟨256 * n + j 1, by omega⟩ (j 2)) := by
    funext a; apply Fin.ext; fin_cases a
    · simp
    · simp [hn]
    · simp
  rw [e, View.canon_cons_emb]
  rfl

/-- A load of an input buffer reads the block it holds. -/
theorem load_block {sp : Space} {s : Shape} {e : EltTy} (m : Memref sig .tc sp s e) (h : m.IsWhole) (X : Vec Ideal s e) (r : Rect s) :
    View.readAt (Elt Ideal) m.view r.toLoadRect (h.unread X) = View.ld X r := by
  rw [View.readAt_eq_ld, Memref.IsWhole.read_unread h X]

/-- The left operand of a half: each tile of queries twice, masked to its lower and to its upper lanes. -/
def masked (q : Fin 4 → Vec Ideal S256x128 .bf16) : Fin 8 → Vec Ideal S1x256x128 .bf16 :=
  ![k0_pay11 k0_pay2 (q 0), k0_pay13 (k0_pay12 k0_pay3 (q 0)), k0_pay11 k0_pay2 (q 1), k0_pay13 (k0_pay12 k0_pay3 (q 1)),
    k0_pay11 k0_pay2 (q 2), k0_pay13 (k0_pay12 k0_pay3 (q 2)), k0_pay11 k0_pay2 (q 3), k0_pay13 (k0_pay12 k0_pay3 (q 3))]

/-- A half's scores: its eight heads against its tile of keys. -/
def scores (q : Fin 4 → Vec Ideal S256x128 .bf16) (k : Vec Ideal S1x128x256 .f32) : Vec Ideal S1x2048x256 .f32 :=
  k0_pay14 k (stack 128 (masked q))

/-- A head's exponentials. -/
def expos (sk : Fin 8 → EReal) (q : Fin 4 → Vec Ideal S256x128 .bf16) (k : Vec Ideal S1x128x256 .f32) (n : Fin 8) : Vec Ideal S1x256x256 .bf16 :=
  k0_pay70 (F := Ideal) (sk n) (rows n (scores q k))

/-- The inverse of a head's denominators. -/
def inv (sk : Fin 8 → EReal) (q : Fin 4 → Vec Ideal S256x128 .bf16) (k : Vec Ideal S1x128x256 .f32) (n : Fin 8) : FVec Ideal S256x1 .f32 :=
  k0_pay71 (F := Ideal) (sk n) (rows n (scores q k))

/-- A half's exponentials against its tile of values. -/
def sums (sk : Fin 8 → EReal) (q : Fin 4 → Vec Ideal S256x128 .bf16) (k v : Vec Ideal S1x128x256 .f32) : FVec Ideal S2048x128 .f32 :=
  k0_pay78 v (stack 256 (expos sk q k))

/-- The four tiles of a half's result. -/
def tile (sk : Fin 8 → EReal) (q : Fin 4 → Vec Ideal S256x128 .bf16) (k v : Vec Ideal S1x128x256 .f32) (z : Vec Ideal S256x128 .bf16) :
    Fin 4 → Vec Ideal S256x128 .bf16 :=
  ![k0_pay142 k0_pay2 (inv sk q k 0) (inv sk q k 1) v (stack 256 (expos sk q k)) z,
    k0_pay83 k0_pay2 (inv sk q k 2) (inv sk q k 3) (sums sk q k v) z,
    k0_pay144 k0_pay2 (inv sk q k 4) (inv sk q k 5) (sums sk q k v) z,
    k0_pay1 k0_pay2 (inv sk q k 6) (inv sk q k 7) (sums sk q k v) z]

variable (c : Dev nD) (i : grid0.Coords) (arg1 : Memref sig .tc .smem S16 .f32) (harg1 : arg1.IsWhole) (arg2 : Memref sig .tc .vmem S256x1024 .bf16) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S2x2048x128 .bf16) (harg7 : arg7.IsWhole) (arg8 : Memref sig .tc .vmem S2x2048x256 .f32) (harg8 : arg8.IsWhole) (arg9 : Memref sig .tc .vmem S2x2048x256 .bf16) (harg9 : arg9.IsWhole)
    (x0 : Vec Ideal S16 .f32) (x1 : Vec Ideal S256x1024 .bf16) (x2 : Vec Ideal S1x256x256 .f32) (x3 : Vec Ideal S1x256x256 .f32) (x4 : Vec Ideal S256x1024 .bf16)

/-- The tiles of queries of half 0. -/
def queries0 : Fin 4 → Vec Ideal S256x128 .bf16 :=
  ![View.ld x1 (Rect.unit (s := S256x1024) ![0, 0] S256x128.size inb_S256x1024_S256x128_0_0),
    View.ld x1 (Rect.unit (s := S256x1024) ![0, 128] S256x128.size inb_S256x1024_S256x128_0_128),
    View.ld x1 (Rect.unit (s := S256x1024) ![0, 256] S256x128.size inb_S256x1024_S256x128_0_256),
    View.ld x1 (Rect.unit (s := S256x1024) ![0, 384] S256x128.size inb_S256x1024_S256x128_0_384)]

/-- The sink logits of half 0. -/
def sinks0 : Fin 8 → EReal := ![x0 (ix1 0), x0 (ix1 1), x0 (ix1 2), x0 (ix1 3), x0 (ix1 4), x0 (ix1 5), x0 (ix1 6), x0 (ix1 7)]

/-- The tiles of queries of half 1. -/
def queries1 : Fin 4 → Vec Ideal S256x128 .bf16 :=
  ![View.ld x1 (Rect.unit (s := S256x1024) ![0, 512] S256x128.size inb_S256x1024_S256x128_0_512),
    View.ld x1 (Rect.unit (s := S256x1024) ![0, 640] S256x128.size inb_S256x1024_S256x128_0_640),
    View.ld x1 (Rect.unit (s := S256x1024) ![0, 768] S256x128.size inb_S256x1024_S256x128_0_768),
    View.ld x1 (Rect.unit (s := S256x1024) ![0, 896] S256x128.size inb_S256x1024_S256x128_0_896)]

/-- The sink logits of half 1. -/
def sinks1 : Fin 8 → EReal := ![x0 (ix1 8), x0 (ix1 9), x0 (ix1 10), x0 (ix1 11), x0 (ix1 12), x0 (ix1 13), x0 (ix1 14), x0 (ix1 15)]

theorem sink0 : sl.r_4 c arg1 harg1 x0 = x0 (ix1 0) := by
  unfold sl.r_4
  rw [load_block]
  exact congrArg x0 (funext fun a => by fin_cases a; rfl)

theorem sink1 : sl.r_9 c arg1 harg1 x0 = x0 (ix1 1) := by
  unfold sl.r_9
  rw [load_block]
  exact congrArg x0 (funext fun a => by fin_cases a; rfl)

theorem sink2 : sl.r_10 c arg1 harg1 x0 = x0 (ix1 2) := by
  unfold sl.r_10
  rw [load_block]
  exact congrArg x0 (funext fun a => by fin_cases a; rfl)

theorem sink3 : sl.r_13 c arg1 harg1 x0 = x0 (ix1 3) := by
  unfold sl.r_13
  rw [load_block]
  exact congrArg x0 (funext fun a => by fin_cases a; rfl)

theorem sink4 : sl.r_17 c arg1 harg1 x0 = x0 (ix1 4) := by
  unfold sl.r_17
  rw [load_block]
  exact congrArg x0 (funext fun a => by fin_cases a; rfl)

theorem sink5 : sl.r_18 c arg1 harg1 x0 = x0 (ix1 5) := by
  unfold sl.r_18
  rw [load_block]
  exact congrArg x0 (funext fun a => by fin_cases a; rfl)

theorem sink6 : sl.r_24 c arg1 harg1 x0 = x0 (ix1 6) := by
  unfold sl.r_24
  rw [load_block]
  exact congrArg x0 (funext fun a => by fin_cases a; rfl)

theorem sink7 : sl.r_25 c arg1 harg1 x0 = x0 (ix1 7) := by
  unfold sl.r_25
  rw [load_block]
  exact congrArg x0 (funext fun a => by fin_cases a; rfl)

theorem sink8 : sl.r_37 c arg1 harg1 x0 = x0 (ix1 8) := by
  unfold sl.r_37
  rw [load_block]
  exact congrArg x0 (funext fun a => by fin_cases a; rfl)

theorem sink9 : sl.r_40 c arg1 harg1 x0 = x0 (ix1 9) := by
  unfold sl.r_40
  rw [load_block]
  exact congrArg x0 (funext fun a => by fin_cases a; rfl)

theorem sink10 : sl.r_41 c arg1 harg1 x0 = x0 (ix1 10) := by
  unfold sl.r_41
  rw [load_block]
  exact congrArg x0 (funext fun a => by fin_cases a; rfl)

theorem sink11 : sl.r_46 c arg1 harg1 x0 = x0 (ix1 11) := by
  unfold sl.r_46
  rw [load_block]
  exact congrArg x0 (funext fun a => by fin_cases a; rfl)

theorem sink12 : sl.r_49 c arg1 harg1 x0 = x0 (ix1 12) := by
  unfold sl.r_49
  rw [load_block]
  exact congrArg x0 (funext fun a => by fin_cases a; rfl)

theorem sink13 : sl.r_50 c arg1 harg1 x0 = x0 (ix1 13) := by
  unfold sl.r_50
  rw [load_block]
  exact congrArg x0 (funext fun a => by fin_cases a; rfl)

theorem sink14 : sl.r_54 c arg1 harg1 x0 = x0 (ix1 14) := by
  unfold sl.r_54
  rw [load_block]
  exact congrArg x0 (funext fun a => by fin_cases a; rfl)

theorem sink15 : sl.r_55 c arg1 harg1 x0 = x0 (ix1 15) := by
  unfold sl.r_55
  rw [load_block]
  exact congrArg x0 (funext fun a => by fin_cases a; rfl)

theorem lhs0 : sl.v71 c arg2 harg2 arg7 x1 = stack 128 (masked (queries0 x1)) := by
  unfold sl.v71 sl.HS0_8 sl.r sl.r_1
  simp only [load_block]
  exact stack_read 128 _ 0 _ _ _ _ _ _ _ _ _ (masked (queries0 x1)) _

theorem rows0 : sl.v152 c arg2 harg2 arg3 harg3 arg7 arg8 x1 x2 = rows 0 (scores (queries0 x1) (View.ld x2 (Rect.unit (s := S1x256x256) ![0, 0, 0] S1x128x256.size inb_S1x256x256_S1x128x256_0_0_0))) := by
  unfold sl.v152 sl.HS1_2
  rw [View.readCov_skip _ _ _ _ _ (by decide)]
  rw [rows_read _ _ 0 _ _ _ _ 0 rfl, lhs0, load_block]
  rfl

theorem rows1 : sl.v175 c arg2 harg2 arg3 harg3 arg7 arg8 x1 x2 = rows 1 (scores (queries0 x1) (View.ld x2 (Rect.unit (s := S1x256x256) ![0, 0, 0] S1x128x256.size inb_S1x256x256_S1x128x256_0_0_0))) := by
  unfold sl.v175 sl.HS1_2
  rw [View.readCov_skip _ _ _ _ _ (by decide)]
  rw [rows_read _ _ 256 _ _ _ _ 1 rfl, lhs0, load_block]
  rfl

theorem rows2 : sl.v198 c arg2 harg2 arg3 harg3 arg7 arg8 x1 x2 = rows 2 (scores (queries0 x1) (View.ld x2 (Rect.unit (s := S1x256x256) ![0, 0, 0] S1x128x256.size inb_S1x256x256_S1x128x256_0_0_0))) := by
  unfold sl.v198 sl.HS1_2
  rw [View.readCov_skip _ _ _ _ _ (by decide)]
  rw [rows_read _ _ 512 _ _ _ _ 2 rfl, lhs0, load_block]
  rfl

theorem rows3 : sl.v221 c arg2 harg2 arg3 harg3 arg7 arg8 x1 x2 = rows 3 (scores (queries0 x1) (View.ld x2 (Rect.unit (s := S1x256x256) ![0, 0, 0] S1x128x256.size inb_S1x256x256_S1x128x256_0_0_0))) := by
  unfold sl.v221 sl.HS1_2
  rw [View.readCov_skip _ _ _ _ _ (by decide)]
  rw [rows_read _ _ 768 _ _ _ _ 3 rfl, lhs0, load_block]
  rfl

theorem rows4 : sl.v244 c arg2 harg2 arg3 harg3 arg7 arg8 x1 x2 = rows 4 (scores (queries0 x1) (View.ld x2 (Rect.unit (s := S1x256x256) ![0, 0, 0] S1x128x256.size inb_S1x256x256_S1x128x256_0_0_0))) := by
  unfold sl.v244 sl.HS1_2
  rw [View.readCov_skip _ _ _ _ _ (by decide)]
  rw [rows_read _ _ 1024 _ _ _ _ 4 rfl, lhs0, load_block]
  rfl

theorem rows5 : sl.v267 c arg2 harg2 arg3 harg3 arg7 arg8 x1 x2 = rows 5 (scores (queries0 x1) (View.ld x2 (Rect.unit (s := S1x256x256) ![0, 0, 0] S1x128x256.size inb_S1x256x256_S1x128x256_0_0_0))) := by
  unfold sl.v267 sl.HS1_2
  rw [View.readCov_skip _ _ _ _ _ (by decide)]
  rw [rows_read _ _ 1280 _ _ _ _ 5 rfl, lhs0, load_block]
  rfl

theorem rows6 : sl.v290 c arg2 harg2 arg3 harg3 arg7 arg8 x1 x2 = rows 6 (scores (queries0 x1) (View.ld x2 (Rect.unit (s := S1x256x256) ![0, 0, 0] S1x128x256.size inb_S1x256x256_S1x128x256_0_0_0))) := by
  unfold sl.v290 sl.HS1_2
  rw [View.readCov_skip _ _ _ _ _ (by decide)]
  rw [rows_read _ _ 1536 _ _ _ _ 6 rfl, lhs0, load_block]
  rfl

theorem rows7 : sl.v313 c arg2 harg2 arg3 harg3 arg7 arg8 x1 x2 = rows 7 (scores (queries0 x1) (View.ld x2 (Rect.unit (s := S1x256x256) ![0, 0, 0] S1x128x256.size inb_S1x256x256_S1x128x256_0_0_0))) := by
  unfold sl.v313 sl.HS1_2
  rw [View.readCov_skip _ _ _ _ _ (by decide)]
  rw [rows_read _ _ 1792 _ _ _ _ 7 rfl, lhs0, load_block]
  rfl

theorem expos0 : sl.v337 c arg1 harg1 arg2 harg2 arg3 harg3 arg7 arg8 arg9 x0 x1 x2 = stack 256 (expos (sinks0 x0) (queries0 x1) (View.ld x2 (Rect.unit (s := S1x256x256) ![0, 0, 0] S1x128x256.size inb_S1x256x256_S1x128x256_0_0_0))) := by
  unfold sl.v337 sl.HS2_8 sl.r_28 sl.r_21 sl.r_23 sl.r_16 sl.cst_125 sl.r_6 sl.r_7 sl.r_8
  simp only [rows0, rows1, rows2, rows3, rows4, rows5, rows6, rows7, sink0, sink1, sink2, sink3, sink4, sink5, sink6, sink7]
  exact stack_read 256 _ 0 _ _ _ _ _ _ _ _ _ (expos (sinks0 x0) (queries0 x1) (View.ld x2 (Rect.unit (s := S1x256x256) ![0, 0, 0] S1x128x256.size inb_S1x256x256_S1x128x256_0_0_0))) _

theorem inv0 : sl.r_11 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 0 := by
  unfold sl.r_11 sl.r_5 sl.r_6 sl.r_7 sl.r_8
  simp only [rows0, sink0]
  rfl

theorem inv1 : sl.r_12 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 1 := by
  unfold sl.r_12
  simp only [rows1, sink1]
  rfl

theorem inv2 : sl.r_14 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 2 := by
  unfold sl.r_14 sl.cst_125
  simp only [rows2, sink2]
  rfl

theorem inv3 : sl.r_19 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 3 := by
  unfold sl.r_19 sl.r_15
  simp only [rows3, sink3]
  rfl

theorem inv4 : sl.r_20 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 4 := by
  unfold sl.r_20
  simp only [rows4, sink4]
  rfl

theorem inv5 : sl.r_26 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 5 := by
  unfold sl.r_26 sl.r_21 sl.r_22 sl.r_23
  simp only [rows5, sink5]
  rfl

theorem inv6 : sl.r_27 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 6 := by
  unfold sl.r_27
  simp only [rows6, sink6]
  rfl

theorem inv7 : sl.r_29 c arg1 harg1 arg2 harg2 arg3 harg3 arg7 arg8 x0 x1 x2 = inv (sinks0 x0) (queries0 x1) (View.ld x2 (Rect.unit (s := S1x256x256) ![0, 0, 0] S1x128x256.size inb_S1x256x256_S1x128x256_0_0_0)) 7 := by
  unfold sl.r_29 sl.r_28
  simp only [rows7, sink7]
  rfl

theorem lhs1 : sl.v144 c arg2 harg2 arg7 x1 = stack 128 (masked (queries1 x1)) := by
  unfold sl.v144 sl.HS0_16 sl.r_2 sl.r_3
  simp only [load_block]
  exact stack_read 128 _ 1 _ _ _ _ _ _ _ _ _ (masked (queries1 x1)) _

theorem rows8 : sl.v430 c arg2 harg2 arg3 harg3 arg7 arg8 x1 x2 = rows 0 (scores (queries1 x1) (View.ld x2 (Rect.unit (s := S1x256x256) ![0, 128, 0] S1x128x256.size inb_S1x256x256_S1x128x256_0_128_0))) := by
  unfold sl.v430 sl.HS1_2
  rw [rows_read _ _ 0 _ _ _ _ 0 rfl, lhs1, load_block]
  rfl

theorem rows9 : sl.v453 c arg2 harg2 arg3 harg3 arg7 arg8 x1 x2 = rows 1 (scores (queries1 x1) (View.ld x2 (Rect.unit (s := S1x256x256) ![0, 128, 0] S1x128x256.size inb_S1x256x256_S1x128x256_0_128_0))) := by
  unfold sl.v453 sl.HS1_2
  rw [rows_read _ _ 256 _ _ _ _ 1 rfl, lhs1, load_block]
  rfl

theorem rows10 : sl.v476 c arg2 harg2 arg3 harg3 arg7 arg8 x1 x2 = rows 2 (scores (queries1 x1) (View.ld x2 (Rect.unit (s := S1x256x256) ![0, 128, 0] S1x128x256.size inb_S1x256x256_S1x128x256_0_128_0))) := by
  unfold sl.v476 sl.HS1_2
  rw [rows_read _ _ 512 _ _ _ _ 2 rfl, lhs1, load_block]
  rfl

theorem rows11 : sl.v499 c arg2 harg2 arg3 harg3 arg7 arg8 x1 x2 = rows 3 (scores (queries1 x1) (View.ld x2 (Rect.unit (s := S1x256x256) ![0, 128, 0] S1x128x256.size inb_S1x256x256_S1x128x256_0_128_0))) := by
  unfold sl.v499 sl.HS1_2
  rw [rows_read _ _ 768 _ _ _ _ 3 rfl, lhs1, load_block]
  rfl

theorem rows12 : sl.v522 c arg2 harg2 arg3 harg3 arg7 arg8 x1 x2 = rows 4 (scores (queries1 x1) (View.ld x2 (Rect.unit (s := S1x256x256) ![0, 128, 0] S1x128x256.size inb_S1x256x256_S1x128x256_0_128_0))) := by
  unfold sl.v522 sl.HS1_2
  rw [rows_read _ _ 1024 _ _ _ _ 4 rfl, lhs1, load_block]
  rfl

theorem rows13 : sl.v545 c arg2 harg2 arg3 harg3 arg7 arg8 x1 x2 = rows 5 (scores (queries1 x1) (View.ld x2 (Rect.unit (s := S1x256x256) ![0, 128, 0] S1x128x256.size inb_S1x256x256_S1x128x256_0_128_0))) := by
  unfold sl.v545 sl.HS1_2
  rw [rows_read _ _ 1280 _ _ _ _ 5 rfl, lhs1, load_block]
  rfl

theorem rows14 : sl.v568 c arg2 harg2 arg3 harg3 arg7 arg8 x1 x2 = rows 6 (scores (queries1 x1) (View.ld x2 (Rect.unit (s := S1x256x256) ![0, 128, 0] S1x128x256.size inb_S1x256x256_S1x128x256_0_128_0))) := by
  unfold sl.v568 sl.HS1_2
  rw [rows_read _ _ 1536 _ _ _ _ 6 rfl, lhs1, load_block]
  rfl

theorem rows15 : sl.v591 c arg2 harg2 arg3 harg3 arg7 arg8 x1 x2 = rows 7 (scores (queries1 x1) (View.ld x2 (Rect.unit (s := S1x256x256) ![0, 128, 0] S1x128x256.size inb_S1x256x256_S1x128x256_0_128_0))) := by
  unfold sl.v591 sl.HS1_2
  rw [rows_read _ _ 1792 _ _ _ _ 7 rfl, lhs1, load_block]
  rfl

theorem expos1 : sl.v615 c arg1 harg1 arg2 harg2 arg3 harg3 arg7 arg8 arg9 x0 x1 x2 = stack 256 (expos (sinks1 x0) (queries1 x1) (View.ld x2 (Rect.unit (s := S1x256x256) ![0, 128, 0] S1x128x256.size inb_S1x256x256_S1x128x256_0_128_0))) := by
  unfold sl.v615 sl.HS2_16 sl.r_58 sl.r_59 sl.r_53 sl.r_44 sl.r_45 sl.r_39
  simp only [rows8, rows9, rows10, rows11, rows12, rows13, rows14, rows15, sink8, sink9, sink10, sink11, sink12, sink13, sink14, sink15]
  exact stack_read 256 _ 1 _ _ _ _ _ _ _ _ _ (expos (sinks1 x0) (queries1 x1) (View.ld x2 (Rect.unit (s := S1x256x256) ![0, 128, 0] S1x128x256.size inb_S1x256x256_S1x128x256_0_128_0))) _

theorem inv8 : sl.r_42 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 0 := by
  unfold sl.r_42 sl.r_38 sl.r_39
  simp only [rows8, sink8]
  rfl

theorem inv9 : sl.r_43 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 1 := by
  unfold sl.r_43
  simp only [rows9, sink9]
  rfl

theorem inv10 : sl.r_47 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 2 := by
  unfold sl.r_47 sl.r_44 sl.r_45
  simp only [rows10, sink10]
  rfl

theorem inv11 : sl.r_48 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 3 := by
  unfold sl.r_48
  simp only [rows11, sink11]
  rfl

theorem inv12 : sl.r_51 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 4 := by
  unfold sl.r_51
  simp only [rows12, sink12]
  rfl

theorem inv13 : sl.r_56 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 5 := by
  unfold sl.r_56 sl.r_52
  simp only [rows13, sink13]
  rfl

theorem inv14 : sl.r_57 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 6 := by
  unfold sl.r_57
  simp only [rows14, sink14]
  rfl

theorem inv15 : sl.r_61 c arg1 harg1 arg2 harg2 arg3 harg3 arg7 arg8 x0 x1 x2 = inv (sinks1 x0) (queries1 x1) (View.ld x2 (Rect.unit (s := S1x256x256) ![0, 128, 0] S1x128x256.size inb_S1x256x256_S1x128x256_0_128_0)) 7 := by
  unfold sl.r_61 sl.r_58 sl.r_59 sl.r_60
  simp only [rows15, sink15]
  rfl

theorem tile0 : k0_pay82 (sl.r_31 c arg1 harg1 arg2 harg2 arg3 harg3 arg4 harg4 arg7 arg8 arg9 x0 x1 x2 x3) (sl.r_32 c arg5 harg5 x4) (sl.r_33 c arg5 harg5 x4)
    = tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 0] S256x128.size inb_S256x1024_S256x128_0_0)) 0 := by
  unfold sl.r_31 sl.r_32 sl.r_33
  simp only [inv0, inv1, expos0, load_block]
  rfl

theorem tile1 : k0_pay83 k0_pay2 (sl.r_14 c arg1 harg1 arg2 harg2 arg3 harg3 arg7 arg8 x0 x1 x2) (sl.r_19 c arg1 harg1 arg2 harg2 arg3 harg3 arg7 arg8 x0 x1 x2) (sl.r_30 c arg1 harg1 arg2 harg2 arg3 harg3 arg4 harg4 arg7 arg8 arg9 x0 x1 x2 x3) (View.readAt (Elt Ideal) arg5.view (Rect.unit (s := S256x1024) ![0, 128] S256x128.size inb_S256x1024_S256x128_0_128).toLoadRect (harg5.unread x4))
    = tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 128] S256x128.size inb_S256x1024_S256x128_0_128)) 1 := by
  unfold sl.r_30
  simp only [inv2, inv3, expos0, load_block]
  rfl

theorem tile2 : k0_pay87 (sl.r_34 c arg1 harg1 arg2 harg2 arg3 harg3 arg4 harg4 arg7 arg8 arg9 x0 x1 x2 x3) (sl.r_35 c arg5 harg5 x4) (sl.r_36 c arg5 harg5 x4)
    = tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 256] S256x128.size inb_S256x1024_S256x128_0_256)) 2 := by
  unfold sl.r_34 sl.r_30 sl.r_35 sl.r_36
  simp only [inv4, inv5, expos0, load_block]
  rfl

theorem tile3 : k0_pay88 k0_pay2 (sl.r_27 c arg1 harg1 arg2 harg2 arg3 harg3 arg7 arg8 x0 x1 x2) (sl.r_29 c arg1 harg1 arg2 harg2 arg3 harg3 arg7 arg8 x0 x1 x2) (sl.r_30 c arg1 harg1 arg2 harg2 arg3 harg3 arg4 harg4 arg7 arg8 arg9 x0 x1 x2 x3) (View.readAt (Elt Ideal) arg5.view (Rect.unit (s := S256x1024) ![0, 384] S256x128.size inb_S256x1024_S256x128_0_384).toLoadRect (harg5.unread x4))
    = tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 384] S256x128.size inb_S256x1024_S256x128_0_384)) 3 := by
  unfold sl.r_30
  simp only [inv6, inv7, expos0, load_block]
  rfl

theorem tile4 : sl.r_63 c arg1 harg1 arg2 harg2 arg3 harg3 arg4 harg4 arg5 harg5 arg7 arg8 arg9 x0 x1 x2 x3 x4
    = tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 512] S256x128.size inb_S256x1024_S256x128_0_512)) 0 := by
  unfold sl.r_63
  simp only [inv8, inv9, expos1, load_block]
  rfl

theorem tile5 : k0_pay143 k0_pay2 (sl.r_47 c arg1 harg1 arg2 harg2 arg3 harg3 arg7 arg8 x0 x1 x2) (sl.r_48 c arg1 harg1 arg2 harg2 arg3 harg3 arg7 arg8 x0 x1 x2) (sl.r_62 c arg1 harg1 arg2 harg2 arg3 harg3 arg4 harg4 arg7 arg8 arg9 x0 x1 x2 x3) (View.readAt (Elt Ideal) arg5.view (Rect.unit (s := S256x1024) ![0, 640] S256x128.size inb_S256x1024_S256x128_0_640).toLoadRect (harg5.unread x4))
    = tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 640] S256x128.size inb_S256x1024_S256x128_0_640)) 1 := by
  unfold sl.r_62
  simp only [inv10, inv11, expos1, load_block]
  rfl

theorem tile6 : sl.r_64 c arg1 harg1 arg2 harg2 arg3 harg3 arg4 harg4 arg5 harg5 arg7 arg8 arg9 x0 x1 x2 x3 x4
    = tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 768] S256x128.size inb_S256x1024_S256x128_0_768)) 2 := by
  unfold sl.r_64 sl.r_62
  simp only [inv12, inv13, expos1, load_block]
  rfl

theorem tile7 : k0_pay1 k0_pay2 (sl.r_57 c arg1 harg1 arg2 harg2 arg3 harg3 arg7 arg8 x0 x1 x2) (sl.r_61 c arg1 harg1 arg2 harg2 arg3 harg3 arg7 arg8 x0 x1 x2) (sl.r_62 c arg1 harg1 arg2 harg2 arg3 harg3 arg4 harg4 arg7 arg8 arg9 x0 x1 x2 x3) (View.readAt (Elt Ideal) arg5.view (Rect.unit (s := S256x1024) ![0, 896] S256x128.size inb_S256x1024_S256x128_0_896).toLoadRect (harg5.unread x4))
    = tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 896] S256x128.size inb_S256x1024_S256x128_0_896)) 3 := by
  unfold sl.r_62
  simp only [inv14, inv15, expos1, load_block]
  rfl

/-- The result block: eight tiles side by side. -/
theorem block :
    out0_A_5 c i arg1 harg1 arg2 harg2 arg3 harg3 arg4 harg4 arg5 harg5 arg6 harg6 arg7 harg7 arg8 harg8 arg9 harg9 x0 x1 x2 x3 x4
    = View.canon [⟨Rect.unit (s := S256x1024) ![0, 896] S256x128.size inb_S256x1024_S256x128_0_896, tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 896] S256x128.size inb_S256x1024_S256x128_0_896)) 3⟩,
      ⟨Rect.unit (s := S256x1024) ![0, 768] S256x128.size inb_S256x1024_S256x128_0_768, tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 768] S256x128.size inb_S256x1024_S256x128_0_768)) 2⟩,
      ⟨Rect.unit (s := S256x1024) ![0, 640] S256x128.size inb_S256x1024_S256x128_0_640, tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 640] S256x128.size inb_S256x1024_S256x128_0_640)) 1⟩,
      ⟨Rect.unit (s := S256x1024) ![0, 512] S256x128.size inb_S256x1024_S256x128_0_512, tile (sinks1 x0) (queries1 x1) (View.ld x2 (Rect.unit (s := S1x256x256) ![0, 128, 0] S1x128x256.size inb_S1x256x256_S1x128x256_0_128_0)) (View.ld x3 (Rect.unit (s := S1x256x256) ![0, 128, 0] S1x128x256.size inb_S1x256x256_S1x128x256_0_128_0)) (View.ld x4 (Rect.unit (s := S256x1024) ![0, 512] S256x128.size inb_S256x1024_S256x128_0_512)) 0⟩,
      ⟨Rect.unit (s := S256x1024) ![0, 384] S256x128.size inb_S256x1024_S256x128_0_384, tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 384] S256x128.size inb_S256x1024_S256x128_0_384)) 3⟩,
      ⟨Rect.unit (s := S256x1024) ![0, 256] S256x128.size inb_S256x1024_S256x128_0_256, tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 256] S256x128.size inb_S256x1024_S256x128_0_256)) 2⟩,
      ⟨Rect.unit (s := S256x1024) ![0, 128] S256x128.size inb_S256x1024_S256x128_0_128, tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 128] S256x128.size inb_S256x1024_S256x128_0_128)) 1⟩,
      ⟨Rect.unit (s := S256x1024) ![0, 0] S256x128.size inb_S256x1024_S256x128_0_0, tile (sinks0 x0) (queries0 x1) (View.ld x2 (Rect.unit (s := S1x256x256) ![0, 0, 0] S1x128x256.size inb_S1x256x256_S1x128x256_0_0_0)) (View.ld x3 (Rect.unit (s := S1x256x256) ![0, 0, 0] S1x128x256.size inb_S1x256x256_S1x128x256_0_0_0)) (View.ld x4 (Rect.unit (s := S256x1024) ![0, 0] S256x128.size inb_S256x1024_S256x128_0_0)) 0⟩] := by
  unfold out0_A_5
  rw [View.read_writes_junk_eq_canon]
  unfold kernelRun0_A
  dsimp only
  rw [tile7, tile6, tile5, tile4, tile3, tile2, tile1, tile0]

end Cert.SinkIdeal.Value
-- ==== Proof.SinkTile.lean ====
module
public import proofs.«01_k».proof.Proof.SinkHeads
public import proofs.«01_k».proof.Proof.KernelValue

@[expose] public section

set_option maxRecDepth 16384

noncomputable section

open Idealize.ShloMosaic Idealize.ShloMosaic.TcCoe Idealize.SL.Sem
open Cert.KernelIdeal.Value (score half_sum)

/-! The attention with a sink, as its body computes it, point by point. -/

namespace Cert.SinkIdeal.Value
open Cert.SinkIdeal Cert.SinkIdeal.Gen

theorem stack_apply (W : ℕ) (p : Fin 8 → Vec Ideal ⟨3, ![1, 256, W]⟩ .bf16) (n : Fin 8) (r : Fin 256) (d : Fin W) (R : Fin 2048)
    (h : (R : ℕ) = 256 * n + r) : stack W p (ix3 0 R d) = p n (ix3 0 r d) := by
  have hr := r.isLt
  have key : ∀ (n' : Fin 8) (r' : Fin 256), n' = n → r' = r → p n' (ix3 0 r' d) = p n (ix3 0 r d) := by
    rintro _ _ rfl rfl; rfl
  exact key ⟨(R : ℕ) / 256, by omega⟩ ⟨(R : ℕ) % 256, by omega⟩ (Fin.ext (by simp only; omega)) (Fin.ext (by simp only; omega))

theorem lower_lanes (x : Vec Ideal S256x128 .bf16) (r : Fin 256) (d : Fin 128) :
    k0_pay11 (F := Ideal) k0_pay2 x (ix3 0 r d) = if (d : ℕ) < 64 then x (ix2 r d) else 0 := by
  pointwise [k0_pay11, k0_pay2]
  exact Rows.select_lane _ _ (by have := d.isLt; omega) (by decide) _ _

/-- The complement of a mask. -/
theorem select_not {α : Type} (p : BitVec 1) (x y : α) : Scalar.select (IntOp.xori p 1#1) x y = Scalar.select p y x := by
  rcases BitVec.eq_zero_or_eq_one p with rfl | rfl <;> rfl

theorem upper_lanes (x : Vec Ideal S256x128 .bf16) (r : Fin 256) (d : Fin 128) :
    k0_pay13 (F := Ideal) (k0_pay12 k0_pay3 x) (ix3 0 r d) = if (d : ℕ) < 64 then 0 else x (ix2 r d) := by
  pointwise [k0_pay13, k0_pay12, k0_pay3, k0_pay2]
  rw [select_not]
  exact Rows.select_lane _ _ (by have := d.isLt; omega) (by decide) _ _

section half
variable (sk : Fin 8 → EReal) (q : Fin 4 → Vec Ideal S256x128 .bf16) (k v : Vec Ideal S1x128x256 .f32)

theorem masked_even (p : Fin 4) (n : Fin 8) (hn : (n : ℕ) = 2 * p + (0 : Fin 2)) : masked q n = k0_pay11 k0_pay2 (q p) := by
  have key : ∀ h, masked q ⟨2 * p, h⟩ = k0_pay11 k0_pay2 (q p) := by intro h; fin_cases p <;> rfl
  rw [show n = ⟨2 * p, by have := p.isLt; omega⟩ from Fin.ext hn, key]

theorem masked_odd (p : Fin 4) (n : Fin 8) (hn : (n : ℕ) = 2 * p + (1 : Fin 2)) :
    masked q n = k0_pay13 (k0_pay12 k0_pay3 (q p)) := by
  have key : ∀ h, masked q ⟨2 * p + 1, h⟩ = k0_pay13 (k0_pay12 k0_pay3 (q p)) := by intro h; fin_cases p <;> rfl
  rw [show n = ⟨2 * p + 1, by have := p.isLt; omega⟩ from Fin.ext hn, key]

theorem scores_apply (R : Fin 2048) (m : Fin 256) :
    scores q k (ix3 0 R m) = ∑ d : Fin 128, stack 128 (masked q) (ix3 0 R d) * k (ix3 0 d m) := by
  pointwise [scores, k0_pay14]

/-- A head's scores: the head's 64 lanes against the keys. -/
theorem rows_apply (p : Fin 4) (a : Fin 2) (n : Fin 8) (hn : (n : ℕ) = 2 * p + a) (r m : Fin 256) :
    rows n (scores q k) (ix3 0 r m) = score (q p) k (64 * a) (by omega) r m := by
  have h1 : rows n (scores q k) (ix3 0 r m) = scores q k (ix3 0 ⟨256 * n + r, by omega⟩ m) := rfl
  rw [h1, scores_apply]
  simp only [stack_apply 128 (masked q) n r _ ⟨256 * n + r, _⟩ rfl]
  fin_cases a
  · simp only [masked_even q p n hn, lower_lanes]
    rw [half_sum 0 (by omega)]
    · refine Finset.sum_congr rfl fun d _ => ?_
      rw [if_pos (by have := d.isLt; simp)]
    · intro d hd
      rw [if_neg (by omega), zero_mul]
  · simp only [masked_odd q p n hn, upper_lanes]
    rw [half_sum 64 (by omega)]
    · refine Finset.sum_congr rfl fun d _ => ?_
      rw [if_neg (by simp)]
    · intro d hd
      rw [if_pos (by omega), zero_mul]

/-- The factor that takes a sink to powers of 2. -/
def unit : EReal := Named.named (F := Ideal) (φ := .f32) κ "log2e" 1069066811#32

theorem unit_eq : unit = ((Real.log 2)⁻¹ : ℝ) := IdealRules.named_const.ideal_named_scalar (φ := .f32) κ "log2e" _ _ rfl

/-- A head's rows before the gate. -/
def mix (p : Fin 4) (a : Fin 2) (s : EReal) (r : Fin 256) (l : Fin 128) : EReal :=
  (∑ m, Ideal.exp2 (score (q p) k (64 * a) (by omega) r m - max (s * unit) (Softmax.top (score (q p) k (64 * a) (by omega) r))) * v (ix3 0 l m))
    * Ideal.div 1 (Ideal.exp2 (s * unit - max (s * unit) (Softmax.top (score (q p) k (64 * a) (by omega) r)))
      + ∑ m, Ideal.exp2 (score (q p) k (64 * a) (by omega) r m - max (s * unit) (Softmax.top (score (q p) k (64 * a) (by omega) r))))

theorem expos_apply (p : Fin 4) (a : Fin 2) (n : Fin 8) (hn : (n : ℕ) = 2 * p + a) (r m : Fin 256) :
    expos sk q k n (ix3 0 r m)
    = Ideal.exp2 (score (q p) k (64 * a) (by omega) r m - max (sk n * unit) (Softmax.top (score (q p) k (64 * a) (by omega) r))) := by
  pointwise [expos, k0_pay70, k0_pay69, k0_pay68, k0_pay67, k0_pay66]
  simp only [rows_apply q k p a n hn]
  rfl

theorem inv_apply (p : Fin 4) (a : Fin 2) (n : Fin 8) (hn : (n : ℕ) = 2 * p + a) (r : Fin 256) :
    inv sk q k n (ix2 r 0)
    = Ideal.div 1 (Ideal.exp2 (sk n * unit - max (sk n * unit) (Softmax.top (score (q p) k (64 * a) (by omega) r)))
      + ∑ m, Ideal.exp2 (score (q p) k (64 * a) (by omega) r m - max (sk n * unit) (Softmax.top (score (q p) k (64 * a) (by omega) r)))) := by
  pointwise [inv, k0_pay71, k0_pay69, k0_pay68, k0_pay67, k0_pay66]
  simp only [rows_apply q k p a n hn]
  rfl

theorem stacked (p : Fin 4) (a : Fin 2) (n : Fin 8) (hn : (n : ℕ) = 2 * p + a) (R : Fin 2048) (r : Fin 256) (hR : (R : ℕ) = 256 * n + r)
    (l : Fin 128) :
    (∑ m, stack 256 (expos sk q k) (ix3 0 R m) * v (ix3 0 l m)) * inv sk q k n (ix2 r 0) = mix q k v p a (sk n) r l := by
  simp only [stack_apply 256 (expos sk q k) n r _ R hR, expos_apply sk q k p a n hn, inv_apply sk q k p a n hn]
  rfl

theorem sums_apply (R : Fin 2048) (l : Fin 128) :
    sums sk q k v (ix2 R l) = ∑ m, stack 256 (expos sk q k) (ix3 0 R m) * v (ix3 0 l m) := by
  pointwise [sums, k0_pay78]

variable (z : Vec Ideal S256x128 .bf16)

/-- What the tile of two heads holds: each head's rows on its half of the lanes, gated. -/
theorem tile_apply (p : Fin 4) (r : Fin 256) (l : Fin 128) :
    tile sk q k v z p (ix2 r l)
    = (if (l : ℕ) < 64 then mix q k v p 0 (sk ⟨2 * p, by omega⟩) r l else mix q k v p 1 (sk ⟨2 * p + 1, by omega⟩) r l)
      * (z (ix2 r l) * Ideal.div 1 (1 + Ideal.exp (-z (ix2 r l)))) := by
  have hl : (l : ℕ) < 2 ^ 31 := by have := l.isLt; omega
  rw [← zero_sub (z (ix2 r l))]
  fin_cases p
  · show k0_pay142 (F := Ideal) k0_pay2 (inv sk q k 0) (inv sk q k 1) v (stack 256 (expos sk q k)) z (ix2 r l) = _
    pointwise [k0_pay142, k0_pay141, k0_pay2]
    rw [Rows.select_lane _ _ hl (by decide), stacked sk q k v 0 0 0 rfl _ r (by simp), stacked sk q k v 0 1 1 rfl _ r (by simp)]
    rfl
  · show k0_pay83 (F := Ideal) k0_pay2 (inv sk q k 2) (inv sk q k 3) (sums sk q k v) z (ix2 r l) = _
    pointwise [k0_pay83, k0_pay2]
    rw [Rows.select_lane _ _ hl (by decide), sums_apply, sums_apply, stacked sk q k v 1 0 2 rfl _ r (by simp), stacked sk q k v 1 1 3 rfl _ r (by simp)]
    rfl
  · show k0_pay144 (F := Ideal) k0_pay2 (inv sk q k 4) (inv sk q k 5) (sums sk q k v) z (ix2 r l) = _
    pointwise [k0_pay144, k0_pay2]
    rw [Rows.select_lane _ _ hl (by decide), sums_apply, sums_apply, stacked sk q k v 2 0 4 rfl _ r (by simp), stacked sk q k v 2 1 5 rfl _ r (by simp)]
    rfl
  · show k0_pay1 (F := Ideal) k0_pay2 (inv sk q k 6) (inv sk q k 7) (sums sk q k v) z (ix2 r l) = _
    pointwise [k0_pay1, k0_pay2]
    rw [Rows.select_lane _ _ hl (by decide), sums_apply, sums_apply, stacked sk q k v 3 0 6 rfl _ r (by simp), stacked sk q k v 3 1 7 rfl _ r (by simp)]
    rfl
end half
end Cert.SinkIdeal.Value
-- ==== Proof.SinkRef.lean ====
module
public import proofs.«01_k».proof.Proof.Gen.SinkReferenceIdeal.Read
public import proofs.«01_k».proof.Proof.Softmax

@[expose] public section

set_option maxRecDepth 16384

noncomputable section

open Idealize.ShloMosaic Idealize.ShloMosaic.TcCoe Idealize.SL.Sem

/-! The attention with a sink, as the reference computes it, point by point. -/

namespace Cert.SinkIdeal.Ref
open Cert.SinkReferenceIdeal.Read

variable (X0 : (⟨Cert.SinkReferenceIdeal.S16, .f32⟩ : BufTy).Contents (Elt Ideal)) (X1 : (⟨Cert.SinkReferenceIdeal.S4096x1024, .bf16⟩ : BufTy).Contents (Elt Ideal)) (X2 X3 : (⟨Cert.SinkReferenceIdeal.S16x256x256, .f32⟩ : BufTy).Contents (Elt Ideal)) (X4 : (⟨Cert.SinkReferenceIdeal.S4096x1024, .bf16⟩ : BufTy).Contents (Elt Ideal))
  (b : Fin 16) (j : Fin 2) (t : Fin 4) (a : Fin 2)

/-- A maximum over the last of six axes. -/
theorem fold_row (h' : Cert.SinkReferenceIdeal.S16x2x4x2x256x256.ReducesTo [5] Cert.SinkReferenceIdeal.S16x2x4x2x256) (c : EReal)
    (v : Cert.SinkReferenceIdeal.S16x2x4x2x256x256.Idx → EReal) (r : Fin 256) :
    Finset.fold max c v (Finset.univ.filter fun i => h'.drop i = ix5 b j t a r)
    = Finset.fold max c (fun n => v (ix6 b j t a r n)) Finset.univ := by
  have h : Cert.SinkReferenceIdeal.S16x2x4x2x256x256.Reduces [5] Cert.SinkReferenceIdeal.S16x2x4x2x256 := by decide
  rw [Shape.ReducesTo.drop_eq_drop h' h, h.fold_filter_drop_single]
  refine congrArg (fun f => Finset.fold max c f Finset.univ) (funext fun n => ?_)
  refine congrArg v (funext fun x => Fin.ext ?_)
  fin_cases x <;> rfl

/-- The scores of a head, before the logarithm of 2. -/
def score (r n : Fin 256) : EReal :=
  ∑ d : Fin 64, X1 (ix2 ⟨b * 256 + r, by omega⟩ ⟨j * 512 + t * 128 + a * 64 + d, by omega⟩)
    * X2 (ix3 b ⟨j * 128 + a * 64 + d, by omega⟩ n)

/-- The sink of a head. -/
def sink : EReal := X0 (ix1 ⟨j * 8 + t * 2 + a, by omega⟩)

/-- The maximum of a head's row and its sink. -/
def peak (r : Fin 256) : EReal := max (Softmax.top fun n => score X1 X2 b j t a r n * Softmax.ln2) (sink X0 j t a)

theorem scores_apply (r n : Fin 256) :
    val_main_v11 (F := Ideal) X1 X2 (ix6 b j t a r n) = score X1 X2 b j t a r n * Softmax.ln2 := by
  pointwise [val_main_v11, val_main_v10, val_main_v9, val_main_cst, val_main_v8, val_main_v7, val_main_v0, val_main_v1, val_main_v2,
    val_main_v3]
  exact congrArg (· * Softmax.ln2) (Finset.sum_congr rfl fun d _ => mul_comm _ _)

theorem top_apply (r : Fin 256) :
    val_main_v12 (F := Ideal) X1 X2 (ix5 b j t a r) = Softmax.top fun n => score X1 X2 b j t a r n * Softmax.ln2 := by
  pointwise [val_main_v12, val_main_cst_0]
  rw [fold_row]
  simp only [scores_apply]
  rfl

theorem peak_apply (r : Fin 256) (u : Fin 1) :
    val_main_v15 (F := Ideal) X0 X1 X2 (ix6 b j t a r u) = peak X0 X1 X2 b j t a r := by
  have h1 : val_main_v13 (F := Ideal) X1 X2 (ix6 b j t a r u) = Softmax.top fun n => score X1 X2 b j t a r n * Softmax.ln2 := by
    rw [val_main_v13_apply, ← top_apply]
    refine congrArg (val_main_v12 (F := Ideal) X1 X2) (funext fun x => ?_)
    fin_cases x <;> rfl
  have h2 : val_main_v14 (F := Ideal) X0 (ix6 b j t a r u) = sink X0 j t a := by
    pointwise [val_main_v14, val_main_v6]
    rfl
  rw [val_main_v15_apply, h1, h2]
  rfl

theorem exp_apply (r n : Fin 256) :
    val_main_v18 (F := Ideal) X0 X1 X2 (ix6 b j t a r n)
    = Ideal.exp (score X1 X2 b j t a r n * Softmax.ln2 - peak X0 X1 X2 b j t a r) := by
  pointwise [val_main_v16, val_main_v17, val_main_v18]
  rw [peak_apply, scores_apply]

theorem sum_apply (r : Fin 256) :
    val_main_v19 (F := Ideal) X0 X1 X2 (ix5 b j t a r)
    = ∑ n, Ideal.exp (score X1 X2 b j t a r n * Softmax.ln2 - peak X0 X1 X2 b j t a r) := by
  rw [val_main_v19_apply]
  have h0 : val_main_cst_1 (F := Ideal) (Shape.Idx.first Cert.SinkReferenceIdeal.Gen.h_S_) = 0 := by
    show Ideal.ofBits .f32 0#32 = 0
    simp [Ideal.ofBits, Ideal.ieee]
  rw [h0, zero_add]
  refine Finset.sum_congr rfl fun n _ => ?_
  have e : idx_main_v19 (ix5 b j t a r) n = ix6 b j t a r n := by
    funext x; fin_cases x <;> rfl
  rw [e, exp_apply]

theorem rest_apply (r : Fin 256) (u : Fin 1) :
    val_main_v23 (F := Ideal) X0 X1 X2 (ix6 b j t a r u) = Ideal.exp (sink X0 j t a - peak X0 X1 X2 b j t a r) := by
  pointwise [val_main_v21, val_main_v22, val_main_v23, val_main_v6]
  rw [peak_apply]
  rfl

/-- A weight of the reference: the sink takes part in the maximum and in the sum. -/
def weight (r n : Fin 256) : EReal :=
  Ideal.div (Ideal.exp (score X1 X2 b j t a r n * Softmax.ln2 - peak X0 X1 X2 b j t a r))
    (∑ n, Ideal.exp (score X1 X2 b j t a r n * Softmax.ln2 - peak X0 X1 X2 b j t a r)
      + Ideal.exp (sink X0 j t a - peak X0 X1 X2 b j t a r))

theorem weight_apply (r n : Fin 256) :
    val_main_v26 (F := Ideal) X0 X1 X2 (ix6 b j t a r n) = weight X0 X1 X2 b j t a r n := by
  pointwise [val_main_v20, val_main_v24, val_main_v25, val_main_v26]
  rw [sum_apply, rest_apply, exp_apply]
  rfl

theorem mix_apply (r : Fin 256) (d : Fin 64) :
    val_main_v28 (F := Ideal) X0 X1 X2 X3 (ix6 b r j t a d)
    = ∑ n, X3 (ix3 b ⟨j * 128 + a * 64 + d, by omega⟩ n) * weight X0 X1 X2 b j t a r n := by
  pointwise [val_main_v27, val_main_v28, val_main_v4, val_main_v5]
  simp only [weight_apply]

/-- The result at a lane of a head. -/
theorem out_apply (r : Fin 256) (d : Fin 64) (i : Cert.SinkReferenceIdeal.S4096x1024.Idx) (h0 : (i 0 : ℕ) = b * 256 + r)
    (h1 : (i 1 : ℕ) = j * 512 + t * 128 + a * 64 + d) :
    val_main_v33 (F := Ideal) X0 X1 X2 X3 X4 i
    = (∑ n, X3 (ix3 b ⟨j * 128 + a * 64 + d, by omega⟩ n) * weight X0 X1 X2 b j t a r n)
      * (X4 i * Ideal.div 1 (1 + Ideal.exp (-X4 i))) := by
  have hr := r.isLt
  have hd := d.isLt
  have hj := j.isLt
  have ht := t.isLt
  have ha := a.isLt
  have e0 : ∀ p, (⟨(i 0 : ℕ) / 256, p⟩ : Fin 16) = b := fun p => Fin.ext (by simp only; omega)
  have e1 : ∀ p, (⟨(i 0 : ℕ) % 256, p⟩ : Fin 256) = r := fun p => Fin.ext (by simp only; omega)
  have e2 : ∀ p, (⟨(i 1 : ℕ) / 512, p⟩ : Fin 2) = j := fun p => Fin.ext (by simp only; omega)
  have e3 : ∀ p, (⟨(i 1 : ℕ) / 128 % 4, p⟩ : Fin 4) = t := fun p => Fin.ext (by simp only; omega)
  have e4 : ∀ p, (⟨(i 1 : ℕ) / 64 % 2, p⟩ : Fin 2) = a := fun p => Fin.ext (by simp only; omega)
  have e5 : ∀ p, (⟨(i 1 : ℕ) % 64, p⟩ : Fin 64) = d := fun p => Fin.ext (by simp only; omega)
  pointwise [val_main_v29, val_main_v30, val_main_call0_v0, val_main_call0_v1, val_main_call0_cst, val_main_call0_v2, val_main_call0_v3,
      val_main_call0_cst_0, val_main_call0_v4, val_main_call0_v5, val_main_v31, val_main_v32, val_main_v33]
  simp only [e0, e1, e2, e3, e4, e5, mix_apply]

end Cert.SinkIdeal.Ref
-- ==== Proof.SoftmaxSink.lean ====
module
public import proofs.«01_k».proof.Proof.Softmax

@[expose] public section

noncomputable section

open Idealize.ShloMosaic

/-! The softmax of a row of real scores with a sink. -/

namespace Cert.Softmax

/-- With a sink, a further score that takes part in the maximum and in the sum but has no value: the kernel scales it to
    powers of 2 by `c`, the reciprocal of the logarithm of 2, sums the unnormalised weights and divides at the end. -/
theorem sink {n : ℕ} (x : Fin (n + 1) → ℝ) (y : ℝ) (v : Fin (n + 1) → EReal) {s : Fin (n + 1) → EReal} {a c : EReal}
    (hs : ∀ j, s j = x j) (ha : a = y) (hc : c = ((Real.log 2)⁻¹ : ℝ)) :
    (∑ k, Ideal.exp2 (s k - max (a * c) (top s)) * v k)
      * Ideal.div 1 (Ideal.exp2 (a * c - max (a * c) (top s)) + ∑ j, Ideal.exp2 (s j - max (a * c) (top s)))
    = ∑ k, v k * Ideal.div (Ideal.exp (s k * ln2 - max (top fun j => s j * ln2) a))
        (∑ j, Ideal.exp (s j * ln2 - max (top fun j => s j * ln2) a) + Ideal.exp (a - max (top fun j => s j * ln2) a)) := by
  obtain rfl : s = fun j => (x j : EReal) := funext hs
  obtain ⟨m, hm⟩ := top_real x
  obtain ⟨m', hm'⟩ : ∃ m : ℝ, top (fun j => (x j : EReal) * ln2) = m := by
    simp only [ln2_eq, ← EReal.coe_mul]
    exact top_real fun j => x j * Real.log 2
  have hl : Real.log 2 ≠ 0 := (Real.log_pos (by norm_num)).ne'
  have hac : a * c = ((y * (Real.log 2)⁻¹ : ℝ) : EReal) := by rw [ha, hc, ← EReal.coe_mul]
  have ha' : a = ((y * (Real.log 2)⁻¹ : ℝ) : EReal) * ln2 := by
    rw [ha, ln2_eq, ← EReal.coe_mul, inv_mul_cancel_right₀ hl]
  obtain ⟨M, hM⟩ : ∃ M : ℝ, max (a * c) (top fun j => (x j : EReal)) = M :=
    ⟨max (y * (Real.log 2)⁻¹) m, by rw [hac, hm]; exact (EReal.coe_strictMono.monotone.map_max).symm⟩
  obtain ⟨M', hM'⟩ : ∃ M : ℝ, max (top fun j => (x j : EReal) * ln2) a = M :=
    ⟨max m' y, by rw [ha, hm']; exact (EReal.coe_strictMono.monotone.map_max).symm⟩
  have hw : 0 < ∑ j, wt (x j) := Finset.sum_pos (fun j _ => wt_pos _) Finset.univ_nonempty
  have hy := wt_pos (y * (Real.log 2)⁻¹)
  have he := Real.exp_pos (-(M * Real.log 2))
  have he' := Real.exp_pos (-M')
  rw [hM, hM', hac, ha']
  simp only [exp2_shift, exp_shift, coe_sum, ← Finset.sum_mul, ← EReal.coe_add]
  rw [Ideal.div_coe (by positivity), one_mul, sum_mul_real _ _ _ (by positivity)]
  refine Finset.sum_congr rfl fun k _ => ?_
  rw [Ideal.div_coe (by positivity), mul_right_comm, mul_comm (v k), ← EReal.coe_mul, ← EReal.coe_mul]
  congr 2
  field_simp
  ring

end Cert.Softmax

end
-- ==== Proof.SinkValue.lean ====
module
public import proofs.«01_k».proof.Proof.SinkTile
public import proofs.«01_k».proof.Proof.SinkRef
public import proofs.«01_k».proof.Proof.SoftmaxSink

@[expose] public section

set_option maxRecDepth 16384

noncomputable section

open Idealize.ShloMosaic Idealize.ShloMosaic.TcCoe Idealize.SL.Sem
open Idealize.ShloMosaic.Pipeline (Dat)
open Cert.KernelIdeal.Value (score)

/-! The attention with a sink: the array that the call leaves is the reference's. -/

namespace Cert.SinkIdeal.Value
open Cert.SinkIdeal Cert.SinkIdeal.Gen Cert.SinkReferenceIdeal.Read

section tile
variable (X0 : (⟨Cert.SinkReferenceIdeal.S16, .f32⟩ : BufTy).Contents (Elt Ideal)) (X1 : (⟨Cert.SinkReferenceIdeal.S4096x1024, .bf16⟩ : BufTy).Contents (Elt Ideal)) (X2 X3 : (⟨Cert.SinkReferenceIdeal.S16x256x256, .f32⟩ : BufTy).Contents (Elt Ideal)) (X4 : (⟨Cert.SinkReferenceIdeal.S4096x1024, .bf16⟩ : BufTy).Contents (Elt Ideal))
  (b : Fin 16) (j : Fin 2) (t : Fin 4)
  {sk : Fin 8 → EReal} {q : Fin 4 → Vec Ideal S256x128 .bf16} {k v : Vec Ideal S1x128x256 .f32} {z : Vec Ideal S256x128 .bf16}

/-- A head's rows of the kernel are the reference's, for blocks that hold the reference's entries. -/
theorem half_eq (h0 : ∀ i, ∃ x : ℝ, X0 i = x) (h1 : ∀ i, ∃ x : ℝ, X1 i = x) (h2 : ∀ i, ∃ x : ℝ, X2 i = x)
    (hsk : ∀ n : Fin 8, sk n = X0 (ix1 ⟨j * 8 + n, by omega⟩))
    (hq : ∀ (p : Fin 4) r l, q p (ix2 r l) = X1 (ix2 ⟨b * 256 + r, by omega⟩ ⟨j * 512 + p * 128 + l, by omega⟩))
    (hk : ∀ l n, k (ix3 0 l n) = X2 (ix3 b ⟨j * 128 + l, by omega⟩ n))
    (hv : ∀ l n, v (ix3 0 l n) = X3 (ix3 b ⟨j * 128 + l, by omega⟩ n))
    (a : Fin 2) (d : Fin 64) (n : Fin 8) (hn : (n : ℕ) = 2 * t + a) (r : Fin 256) (l : Fin 128) (hl : (l : ℕ) = 64 * a + d) :
    mix q k v t a (sk n) r l
    = ∑ m, X3 (ix3 b ⟨j * 128 + a * 64 + d, by omega⟩ m) * Ref.weight X0 X1 X2 b j t a r m := by
  have hs : score (q t) k (64 * a) (by omega) r = Ref.score X1 X2 b j t a r := by
    funext m
    simp only [score, Ref.score, hq, hk]
    refine Finset.sum_congr rfl fun d _ => ?_
    congr 3 <;> simp <;> omega
  have hc : sk n = Ref.sink X0 j t a := by
    rw [hsk, Ref.sink]
    congr 2
    apply Fin.ext
    simp only
    omega
  have hr : ∀ m, ∃ x : ℝ, Ref.score X1 X2 b j t a r m = x := fun m =>
    Softmax.dot_real (fun d => h1 _) (fun d => h2 _)
  choose x hx using hr
  obtain ⟨y, hy⟩ : ∃ y : ℝ, Ref.sink X0 j t a = y := h0 _
  rw [mix, hs, hc]
  refine (Softmax.sink x y (fun m => v (ix3 0 l m)) hx hy unit_eq).trans (Finset.sum_congr rfl fun m _ => ?_)
  have e : ∀ p, (⟨j * 128 + l, p⟩ : Fin 256) = ⟨j * 128 + a * 64 + d, by omega⟩ := fun p => Fin.ext (by simp only; omega)
  simp only [hv, e]
  rfl

/-- A tile of the kernel is the reference's. -/
theorem tile_eq (h0 : ∀ i, ∃ x : ℝ, X0 i = x) (h1 : ∀ i, ∃ x : ℝ, X1 i = x) (h2 : ∀ i, ∃ x : ℝ, X2 i = x)
    (hsk : ∀ n : Fin 8, sk n = X0 (ix1 ⟨j * 8 + n, by omega⟩))
    (hq : ∀ (p : Fin 4) r l, q p (ix2 r l) = X1 (ix2 ⟨b * 256 + r, by omega⟩ ⟨j * 512 + p * 128 + l, by omega⟩))
    (hk : ∀ l n, k (ix3 0 l n) = X2 (ix3 b ⟨j * 128 + l, by omega⟩ n))
    (hv : ∀ l n, v (ix3 0 l n) = X3 (ix3 b ⟨j * 128 + l, by omega⟩ n))
    (hz : ∀ r l, z (ix2 r l) = X4 (ix2 ⟨b * 256 + r, by omega⟩ ⟨j * 512 + t * 128 + l, by omega⟩))
    (r : Fin 256) (l : Fin 128) (i : Cert.SinkReferenceIdeal.S4096x1024.Idx) (hi0 : (i 0 : ℕ) = b * 256 + r)
    (hi1 : (i 1 : ℕ) = j * 512 + t * 128 + l) :
    tile sk q k v z t (ix2 r l) = val_main_v33 (F := Ideal) X0 X1 X2 X3 X4 i := by
  have hj : X4 i = z (ix2 r l) := by
    rw [hz]
    refine congrArg X4 ?_
    funext a; apply Fin.ext; fin_cases a
    · exact hi0
    · exact hi1
  have hl := l.isLt
  rw [tile_apply]
  by_cases h : (l : ℕ) < 64
  · rw [if_pos h, Ref.out_apply X0 X1 X2 X3 X4 b j t 0 r ⟨l, h⟩ i hi0 (by simp; omega), hj,
      half_eq X0 X1 X2 X3 b j t h0 h1 h2 hsk hq hk hv 0 ⟨l, h⟩ ⟨2 * t, by omega⟩ (by simp) r l (by simp)]
  · rw [if_neg h, Ref.out_apply X0 X1 X2 X3 X4 b j t 1 r ⟨l - 64, by omega⟩ i hi0 (by simp; omega), hj,
      half_eq X0 X1 X2 X3 b j t h0 h1 h2 hsk hq hk hv 1 ⟨l - 64, by omega⟩ ⟨2 * t + 1, by omega⟩ (by simp) r l (by simp; omega)]

end tile

end Cert.SinkIdeal.Value

end
-- ==== Proof.SinkPoint.lean ====
module
public import proofs.«01_k».proof.Proof.SinkValue

@[expose] public section

set_option maxRecDepth 16384

noncomputable section

open Idealize.ShloMosaic Idealize.ShloMosaic.TcCoe Idealize.SL.Sem
open Idealize.ShloMosaic.Pipeline (Dat)

/-! The attention with a sink: the blocks of the call, and the array that it leaves. -/

namespace Cert.SinkIdeal.Value
open Cert.SinkIdeal Cert.SinkIdeal.Gen Cert.SinkReferenceIdeal.Read

variable (m : (ℓ : Loc nD τ sig) → Buf (Elt Ideal) ℓ)

/-- The block that each window reads or writes at a grid point. -/
theorem idx : ∀ t : Fin cfg0.N, win0_0.index t = ![0] ∧ win0_1.index t = ![t.val, 0] ∧ win0_2.index t = ![t.val, 0, 0]
    ∧ win0_3.index t = ![t.val, 0, 0] ∧ win0_4.index t = ![t.val, 0] ∧ win0_5.index t = ![t.val, 0] :=
  (by decide +kernel : ∀ t : Fin grid0.N, _)

theorem sinks0_apply (c : Dev nD) (t : Fin cfg0.N) (n : Fin 8) :
    sinks0 (iblk m c 0 t) n = m ((c : Thread nD τ).loc main_arg0) (ix1 ⟨(0 : Fin 2) * 8 + n, by have := n.isLt; simp; omega⟩) := by
  fin_cases n
  all_goals
    simp only [sinks0]
    blk_point [iblk, V, idx t]

theorem queries0_apply (c : Dev nD) (t : Fin cfg0.N) (p : Fin 4) (r : Fin 256) (l : Fin 128) :
    queries0 (iblk m c 1 t) p (ix2 r l)
    = m ((c : Thread nD τ).loc main_arg1) (ix2 ⟨t * 256 + r, by have := t.isLt; have hN : cfg0.N = 16 := rfl; have := r.isLt; omega⟩
        ⟨(0 : Fin 2) * 512 + p * 128 + l, by have := p.isLt; have := l.isLt; simp; omega⟩) := by
  fin_cases p
  all_goals
    simp only [queries0]
    blk_point [iblk, V, idx t]

theorem sinks1_apply (c : Dev nD) (t : Fin cfg0.N) (n : Fin 8) :
    sinks1 (iblk m c 0 t) n = m ((c : Thread nD τ).loc main_arg0) (ix1 ⟨(1 : Fin 2) * 8 + n, by have := n.isLt; simp; omega⟩) := by
  fin_cases n
  all_goals
    simp only [sinks1]
    blk_point [iblk, V, idx t]

theorem queries1_apply (c : Dev nD) (t : Fin cfg0.N) (p : Fin 4) (r : Fin 256) (l : Fin 128) :
    queries1 (iblk m c 1 t) p (ix2 r l)
    = m ((c : Thread nD τ).loc main_arg1) (ix2 ⟨t * 256 + r, by have := t.isLt; have hN : cfg0.N = 16 := rfl; have := r.isLt; omega⟩
        ⟨(1 : Fin 2) * 512 + p * 128 + l, by have := p.isLt; have := l.isLt; simp; omega⟩) := by
  fin_cases p
  all_goals
    simp only [queries1]
    blk_point [iblk, V, idx t]

/-- The array that the call leaves. -/
theorem final (c : Dev nD) (h0 : ∀ i, ∃ x : ℝ, (show FVec Ideal S16 .f32 from (m ((c : Thread nD τ).loc main_arg0))) i = x)
    (h1 : ∀ i, ∃ x : ℝ, (show FVec Ideal S4096x1024 .bf16 from (m ((c : Thread nD τ).loc main_arg1))) i = x)
    (h2 : ∀ i, ∃ x : ℝ, (show FVec Ideal S16x256x256 .f32 from (m ((c : Thread nD τ).loc main_arg2))) i = x) :
    (dats m 0 c).arrAt 5 (cfgs 0).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  rw [block]
  have hN : (t : ℕ) < 16 := t.isLt
  canon_tiles x g
  all_goals obtain ⟨r, l, rfl⟩ : ∃ (r : Fin 256) (l : Fin 128), x = ix2 r l :=
    ⟨x 0, x 1, by funext a; fin_cases a <;> rfl⟩
  · refine tile_eq _ _ _ _ _ ⟨t, hN⟩ 1 3 h0 h1 h2 (sinks1_apply m c t) (queries1_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 1 2 h0 h1 h2 (sinks1_apply m c t) (queries1_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 1 1 h0 h1 h2 (sinks1_apply m c t) (queries1_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 1 0 h0 h1 h2 (sinks1_apply m c t) (queries1_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 0 3 h0 h1 h2 (sinks0_apply m c t) (queries0_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 0 2 h0 h1 h2 (sinks0_apply m c t) (queries0_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 0 1 h0 h1 h2 (sinks0_apply m c t) (queries0_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)
  · refine tile_eq _ _ _ _ _ ⟨t, hN⟩ 0 0 h0 h1 h2 (sinks0_apply m c t) (queries0_apply m c t) (fun l n => ?_)
      (fun l n => ?_) (fun r l => ?_) r l _ ?_ ?_
    · blk_point [iblk, V, idx t]
    · blk_point [iblk, V, idx t]
    · blk_point [iblk, V, idx t]
    · blk_simp [idx t]
      exact congrArg (t.val * 256 + ·) g0
    · blk_simp [idx t]
      exact g1.trans (by simp)

end Cert.SinkIdeal.Value

end
-- ==== Proof.SinkFinite.lean ====
module
public import proofs.«01_k».proof.Pre_finite_logits
public import proofs.«01_k».proof.Proof.KernelFinite

@[expose] public section

noncomputable section

open Idealize.ShloMosaic

/-! What the precondition of the attention with a sink says of the sinks, the queries and the keys. -/

namespace Cert.Pre_finite_logits

/-- The side conditions of the precondition's operations. -/
theorem facts : Facts where
  bitsLt_bf16_f32 := by decide
  shapeCasts_S16x256x256_S4096x256 := by decide
  bcast_S16_S4096x16_1 := by decide
  concatenates_S4096x1024_S4096x256_S4096x16_S4096x1296_d1 := by decide
  bcast_S_S4096x1296 := by decide

/-- A true comparison of an absolute value with infinity: the value is a real. -/
theorem real_of_lt (x : EReal)
    (h : BitVec.ofBool (decide (FloatOps.absf (F := Ideal) (φ := .f32) x < Ideal.ofBits FTy.f32 0x7F800000#32)) = 1#1) :
    ∃ r : ℝ, x = r := by
  rw [Cert.Pre_finite_scores.inf_eq] at h
  refine Cert.Softmax.real_of_abs (x := x) ?_
  by_contra hx
  rw [show decide (FloatOps.absf (F := Ideal) (φ := .f32) x < ⊤) = false from decide_eq_false hx] at h
  exact absurd h (by decide)

/-- Of finite sinks, queries and keys every entry is a real. -/
theorem real [Facts] (x0 : FVec Ideal S16 .f32) (x1 : FVec Ideal S4096x1024 .bf16) (x2 x3 : FVec Ideal S16x256x256 .f32)
    (x4 : FVec Ideal S4096x1024 .bf16) (h : fn x0 x1 x2 x3 x4 = fun _ => 1#1) :
    (∀ i, ∃ r : ℝ, x0 i = r) ∧ (∀ i, ∃ r : ℝ, x1 i = r) ∧ ∀ i, ∃ r : ℝ, x2 i = r := by
  refine ⟨?_, ?_, ?_⟩
  · intro i
    obtain ⟨n, rfl⟩ : ∃ n : Fin 16, i = ix1 n := ⟨i 0, by funext a; fin_cases a; rfl⟩
    have hi := congrFun h (ix2 0 ⟨1280 + n, by omega⟩)
    pointwise [fn] at hi
    obtain ⟨r, hr⟩ := real_of_lt _ hi
    rw [dif_neg (by omega), dif_neg (by omega)] at hr
    refine ⟨r, hr ▸ congrArg x0 (congrArg ix1 (Fin.ext ?_))⟩
    simp only
    omega
  · intro i
    obtain ⟨a, b, rfl⟩ : ∃ (a : Fin 4096) (b : Fin 1024), i = ix2 a b := ⟨i 0, i 1, by funext a; fin_cases a <;> rfl⟩
    have hi := congrFun h (ix2 a ⟨b, by omega⟩)
    pointwise [fn] at hi
    obtain ⟨r, hr⟩ := real_of_lt _ hi
    exact ⟨r, hr⟩
  · intro i
    obtain ⟨a, b, n, rfl⟩ : ∃ (a : Fin 16) (b n : Fin 256), i = ix3 a b n :=
      ⟨i 0, i 1, i 2, by funext a; fin_cases a <;> rfl⟩
    have hi := congrFun h (ix2 ⟨a * 256 + b, by omega⟩ ⟨1024 + n, by omega⟩)
    pointwise [fn] at hi
    obtain ⟨r, hr⟩ := real_of_lt _ hi
    exact ⟨r, hr⟩

end Cert.Pre_finite_logits

end
-- ==== Proof.SinkClaims.lean ====
module
public import proofs.«01_k».proof.Defs
public import proofs.«01_k».proof.Proof.SinkPoint
public import proofs.«01_k».proof.Proof.SinkFinite
public import proofs.«01_k».proof.Proof.Gen.SinkIdeal.Value
public import proofs.«01_k».proof.Proof.Gen.SinkReferenceIdeal.Run
public import Idealize.ShloMosaic.Adequacy

@[expose] public section

noncomputable section

open Idealize.ShloMosaic Idealize.SL.Sem

/-! The claim about the attention with a sink. -/

namespace Cert.Sink.Claims

set_option maxHeartbeats 2000000 in
/-- On finite sinks, queries and keys the result array of the call is the reference's. -/
theorem algebraic :
    Cert.algebraic_SinkIdeal_SinkReferenceIdeal_pre_finite_logits (hPre_finite_logits := Cert.Pre_finite_logits.facts) := by
  have := Cert.Pre_finite_logits.facts
  pair_intro
  · run_from Cert.SinkIdeal.Value.run_blocks m g
  · run_from Cert.SinkReferenceIdeal.Value.run m' g'
    obtain ⟨h0, h1, h2, h3, h4⟩ := hagree c
    have hr := Cert.Pre_finite_logits.real _ _ _ _ _ (hpre c)
    refine (Cert.SinkReferenceIdeal.Read.val_main_v33_eq ..).trans
      (Eq.trans ?_ (Cert.SinkIdeal.Value.final m c hr.1 hr.2.1 hr.2.2).symm)
    first | rfl | rw [h0, h1, h2, h3, h4]

end Cert.Sink.Claims

end
-- ==== Proof.lean ====
module
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Sink
public import proofs.«01_k».proof.Proof.Gen.Sink.Skeleton
public import proofs.«01_k».proof.Proof.Gen.Sink.Launch
public import proofs.«01_k».proof.Proof.Gen.Sink.Points
public import proofs.«01_k».proof.Proof.Gen.Sink.Frame
public import proofs.«01_k».proof.Proof.Gen.SinkIdeal
public import proofs.«01_k».proof.Proof.Gen.SinkIdeal.Skeleton
public import proofs.«01_k».proof.Proof.Gen.SinkIdeal.Launch
public import proofs.«01_k».proof.Proof.Gen.SinkIdeal.Points
public import proofs.«01_k».proof.Proof.Gen.SinkIdeal.Frame
public import proofs.«01_k».proof.Proof.Gen.SinkReferenceIdeal
public import proofs.«01_k».proof.Proof.Gen.SinkReference
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBReferenceIdeal
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCReferenceIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAReferenceIdeal
public import proofs.«01_k».proof.Proof.Gen.FirstA
public import proofs.«01_k».proof.Proof.Gen.FirstA.Skeleton
public import proofs.«01_k».proof.Proof.Gen.FirstA.Launch
public import proofs.«01_k».proof.Proof.Gen.FirstA.Points
public import proofs.«01_k».proof.Proof.Gen.FirstA.Frame
public import proofs.«01_k».proof.Proof.Gen.FirstAIdeal
public import proofs.«01_k».proof.Proof.Gen.FirstAIdeal.Skeleton
public import proofs.«01_k».proof.Proof.Gen.FirstAIdeal.Launch
public import proofs.«01_k».proof.Proof.Gen.FirstAIdeal.Points
public import proofs.«01_k».proof.Proof.Gen.FirstAIdeal.Frame
public import proofs.«01_k».proof.Proof.Gen.FirstAReferenceIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModReferenceIdeal
public import proofs.«01_k».proof.Proof.Gen.InBLat
public import proofs.«01_k».proof.Proof.Gen.InBLat.Skeleton
public import proofs.«01_k».proof.Proof.Gen.InBLat.Launch
public import proofs.«01_k».proof.Proof.Gen.InBLat.Points
public import proofs.«01_k».proof.Proof.Gen.InBLat.Frame
public import proofs.«01_k».proof.Proof.Gen.InBLatIdeal
public import proofs.«01_k».proof.Proof.Gen.InBLatIdeal.Skeleton
public import proofs.«01_k».proof.Proof.Gen.InBLatIdeal.Launch
public import proofs.«01_k».proof.Proof.Gen.InBLatIdeal.Points
public import proofs.«01_k».proof.Proof.Gen.InBLatIdeal.Frame
public import proofs.«01_k».proof.Proof.Gen.InBLatReferenceIdeal
public import proofs.«01_k».proof.Proof.Gen.InCLat
public import proofs.«01_k».proof.Proof.Gen.InCLat.Skeleton
public import proofs.«01_k».proof.Proof.Gen.InCLat.Launch
public import proofs.«01_k».proof.Proof.Gen.InCLat.Points
public import proofs.«01_k».proof.Proof.Gen.InCLat.Frame
public import proofs.«01_k».proof.Proof.Gen.InCLatIdeal
public import proofs.«01_k».proof.Proof.Gen.InCLatIdeal.Skeleton
public import proofs.«01_k».proof.Proof.Gen.InCLatIdeal.Launch
public import proofs.«01_k».proof.Proof.Gen.InCLatIdeal.Points
public import proofs.«01_k».proof.Proof.Gen.InCLatIdeal.Frame
public import proofs.«01_k».proof.Proof.Gen.InCLatReferenceIdeal
public import proofs.«01_k».proof.Proof.Gen.InALat
public import proofs.«01_k».proof.Proof.Gen.InALat.Skeleton
public import proofs.«01_k».proof.Proof.Gen.InALat.Launch
public import proofs.«01_k».proof.Proof.Gen.InALat.Points
public import proofs.«01_k».proof.Proof.Gen.InALat.Frame
public import proofs.«01_k».proof.Proof.Gen.InALatIdeal
public import proofs.«01_k».proof.Proof.Gen.InALatIdeal.Skeleton
public import proofs.«01_k».proof.Proof.Gen.InALatIdeal.Launch
public import proofs.«01_k».proof.Proof.Gen.InALatIdeal.Points
public import proofs.«01_k».proof.Proof.Gen.InALatIdeal.Frame
public import proofs.«01_k».proof.Proof.Gen.InALatReferenceIdeal
public import Idealize.ShloMosaic.Adequacy
public import Idealize.ShloMosaic.Init
public import proofs.«01_k».proof.Proof.Gen.FirstALat
public import proofs.«01_k».proof.Proof.Gen.FirstALat.Skeleton
public import proofs.«01_k».proof.Proof.Gen.FirstALat.Launch
public import proofs.«01_k».proof.Proof.Gen.FirstALat.Points
public import proofs.«01_k».proof.Proof.Gen.FirstALat.Frame
public import proofs.«01_k».proof.Proof.Gen.FirstALatIdeal
public import proofs.«01_k».proof.Proof.Gen.FirstALatIdeal.Skeleton
public import proofs.«01_k».proof.Proof.Gen.FirstALatIdeal.Launch
public import proofs.«01_k».proof.Proof.Gen.FirstALatIdeal.Points
public import proofs.«01_k».proof.Proof.Gen.FirstALatIdeal.Frame
public import proofs.«01_k».proof.Proof.Gen.FirstALatReferenceIdeal
public import proofs.«01_k».proof.Proof.Gen.FirstALatIdeal.Value
public import proofs.«01_k».proof.Proof.Gen.FirstALatReferenceIdeal.Run
public import proofs.«01_k».proof.Proof.Gen.FirstALatReferenceIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.SinkIdeal.Value
public import proofs.«01_k».proof.Proof.Gen.SinkReferenceIdeal.Run
public import proofs.«01_k».proof.Proof.Gen.SinkReferenceIdeal.Read
public import proofs.«01_k».proof.Proof.Gen.InBIdeal.Value
public import proofs.«01_k».proof.Proof.Gen.InBReferenceIdeal.Run
public import proofs.«01_k».proof.Proof.Gen.InBReferenceIdeal.Read
public import proofs.«01_k».proof.Proof.Gen.InCIdeal.Value
public import proofs.«01_k».proof.Proof.Gen.InCReferenceIdeal.Run
public import proofs.«01_k».proof.Proof.Gen.InCReferenceIdeal.Read
public import proofs.«01_k».proof.Proof.Gen.InAIdeal.Value
public import proofs.«01_k».proof.Proof.Gen.InAReferenceIdeal.Run
public import proofs.«01_k».proof.Proof.Gen.InAReferenceIdeal.Read
public import proofs.«01_k».proof.Proof.Gen.FirstAIdeal.Value
public import proofs.«01_k».proof.Proof.Gen.FirstAReferenceIdeal.Run
public import proofs.«01_k».proof.Proof.Gen.FirstAReferenceIdeal.Read
public import proofs.«01_k».proof.Proof.Gen.ModIdeal.Value
public import proofs.«01_k».proof.Proof.Gen.ModReferenceIdeal.Run
public import proofs.«01_k».proof.Proof.Gen.ModReferenceIdeal.Read
public import proofs.«01_k».proof.Proof.Gen.InBLatIdeal.Value
public import proofs.«01_k».proof.Proof.Gen.InBLatReferenceIdeal.Run
public import proofs.«01_k».proof.Proof.Gen.InBLatReferenceIdeal.Read
public import proofs.«01_k».proof.Proof.Gen.InCLatIdeal.Value
public import proofs.«01_k».proof.Proof.Gen.InCLatReferenceIdeal.Run
public import proofs.«01_k».proof.Proof.Gen.InCLatReferenceIdeal.Read
public import proofs.«01_k».proof.Proof.Gen.InALatIdeal.Value
public import proofs.«01_k».proof.Proof.Gen.InALatReferenceIdeal.Run
public import proofs.«01_k».proof.Proof.Gen.InALatReferenceIdeal.Read
public import proofs.«01_k».proof.Proof.InBClaims
public import proofs.«01_k».proof.Proof.InCClaims
public import proofs.«01_k».proof.Proof.InAClaims
public import proofs.«01_k».proof.Proof.FirstAClaims
public import proofs.«01_k».proof.Proof.ModClaims
public import proofs.«01_k».proof.Proof.InBLatClaims
public import proofs.«01_k».proof.Proof.InCLatClaims
public import proofs.«01_k».proof.Proof.InALatClaims
public import proofs.«01_k».proof.Proof.FirstALatClaims
public import proofs.«01_k».proof.Proof.FinalClaims
public import proofs.«01_k».proof.Proof.KernelClaims
public import proofs.«01_k».proof.Proof.SinkClaims

@[expose] public section

noncomputable section

namespace Cert.Proof

open Idealize.ShloMosaic Idealize.SL.Sem

/-- A reference runs, writes no argument and owns no semaphore. -/
theorem frame_ReferenceIdeal : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem frame_SinkReferenceIdeal : Cert.quiescent_SinkReferenceIdeal := fun m g _ =>
  (θ_run Cert.SinkReferenceIdeal.defs _ _).mono
    (fun r h => ⟨fun c => (h c).2, sem_eq_zero_of_no_sems (by decide) r.2⟩)
    (Cert.SinkReferenceIdeal.Value.run (F := Ideal) m g)

theorem frame_Reference : Cert.quiescent_Reference := by
  intro m g _
  hlo_run
  · simp
  · exact sem_eq_zero_of_no_sems (sig := Cert.Reference.sig) (by decide) _

theorem frame_SinkReference : Cert.quiescent_SinkReference := by
  intro m g _
  hlo_run
  · simp
  · exact sem_eq_zero_of_no_sems (sig := Cert.SinkReference.sig) (by decide) _

/-- The constant `log2 e` of the kernel is the nearest word to the number that stands for it. -/
theorem preserves_Sink : Cert.preserves_Sink_SinkIdeal :=
  IdealRules.named_const.statement Cert.SinkIdeal.κ "log2e" .f32 0x3FB8AA3B#32 _ rfl

theorem claim : Cert.Claim :=
  ⟨Cert.Kernel.Gen.facts,
    Cert.KernelIdeal.Gen.facts,
    Cert.ReferenceIdeal.Gen.facts,
    Cert.Reference.Gen.facts,
    Cert.Sink.Gen.facts,
    Cert.SinkIdeal.Gen.facts,
    Cert.SinkReferenceIdeal.Gen.facts,
    Cert.SinkReference.Gen.facts,
    Cert.InB.Gen.facts,
    Cert.InBIdeal.Gen.facts,
    Cert.InBReferenceIdeal.Gen.facts,
    Cert.InC.Gen.facts,
    Cert.InCIdeal.Gen.facts,
    Cert.InCReferenceIdeal.Gen.facts,
    Cert.InA.Gen.facts,
    Cert.InAIdeal.Gen.facts,
    Cert.InAReferenceIdeal.Gen.facts,
    Cert.FirstA.Gen.facts,
    Cert.FirstAIdeal.Gen.facts,
    Cert.FirstAReferenceIdeal.Gen.facts,
    Cert.Mod.Gen.facts,
    Cert.ModIdeal.Gen.facts,
    Cert.ModReferenceIdeal.Gen.facts,
    Cert.InBLat.Gen.facts,
    Cert.InBLatIdeal.Gen.facts,
    Cert.InBLatReferenceIdeal.Gen.facts,
    Cert.InCLat.Gen.facts,
    Cert.InCLatIdeal.Gen.facts,
    Cert.InCLatReferenceIdeal.Gen.facts,
    Cert.FirstALat.Gen.facts,
    Cert.FirstALatIdeal.Gen.facts,
    Cert.FirstALatReferenceIdeal.Gen.facts,
    Cert.InALat.Gen.facts,
    Cert.InALatIdeal.Gen.facts,
    Cert.InALatReferenceIdeal.Gen.facts,
    Cert.Final.Gen.facts,
    Cert.FinalIdeal.Gen.facts,
    Cert.FinalReferenceIdeal.Gen.facts,
    Cert.Pre_finite_scores.facts,
    Cert.Pre_finite_logits.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    frame_Reference,
    fun m ρ _ => Cert.Sink.Gen.frame m ρ,
    fun m ρ _ => Cert.SinkIdeal.Gen.frame m ρ,
    fun m ρ _ => Cert.SinkIdeal.Gen.frame m ρ,
    frame_SinkReferenceIdeal,
    fun m ρ _ => frame_SinkReferenceIdeal m ρ trivial,
    frame_SinkReference,
    Cert.InB.Claims.frame,
    Cert.InB.Claims.frame_ideal,
    Cert.InB.Claims.frame_reference,
    Cert.InC.Claims.frame,
    Cert.InC.Claims.frame_ideal,
    Cert.InC.Claims.frame_reference,
    Cert.InA.Claims.frame,
    Cert.InA.Claims.frame_ideal,
    Cert.InA.Claims.frame_reference,
    Cert.FirstA.Claims.frame,
    Cert.FirstA.Claims.frame_ideal,
    Cert.FirstA.Claims.frame_reference,
    Cert.Mod.Claims.frame,
    Cert.Mod.Claims.frame_ideal,
    Cert.Mod.Claims.frame_reference,
    Cert.InBLat.Claims.frame,
    Cert.InBLat.Claims.frame_ideal,
    Cert.InBLat.Claims.frame_reference,
    Cert.InCLat.Claims.frame,
    Cert.InCLat.Claims.frame_ideal,
    Cert.InCLat.Claims.frame_reference,
    Cert.FirstALat.Claims.frame,
    Cert.FirstALat.Claims.frame_ideal,
    Cert.FirstALat.Claims.frame_reference,
    Cert.InALat.Claims.frame,
    Cert.InALat.Claims.frame_ideal,
    Cert.InALat.Claims.frame_reference,
    Cert.Final.Claims.frame,
    Cert.Final.Claims.frame_ideal,
    Cert.Final.Claims.frame_reference,
    trivial,
    trivial,
    Cert.Kernel.Claims.algebraic,
    preserves_Sink,
    trivial,
    Cert.Sink.Claims.algebraic,
    trivial,
    Cert.InB.Claims.algebraic,
    trivial,
    Cert.InC.Claims.algebraic,
    trivial,
    Cert.InA.Claims.algebraic,
    trivial,
    Cert.FirstA.Claims.algebraic,
    trivial,
    Cert.Mod.Claims.algebraic,
    trivial,
    Cert.InBLat.Claims.algebraic,
    trivial,
    Cert.InCLat.Claims.algebraic,
    trivial,
    Cert.FirstALat.Claims.algebraic,
    trivial,
    Cert.InALat.Claims.algebraic,
    trivial,
    Cert.Final.Claims.algebraic⟩

end Cert.Proof

end
